-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale" .f32 0x3C2E1A93#32 ((((Real.sqrt 128)⁻¹ * (1 / 12)) * (Real.log 2)⁻¹ : ℝ) : EReal)
  ∧ IdealRules.bf16_pack.Statement Cert.KernelIdeal.S192x128
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x1536x6x32 : Shape := ⟨4, ![1, 1536, 6, 32]⟩
abbrev S1x1536x6 : Shape := ⟨3, ![1, 1536, 6]⟩
abbrev S1x1536x6x128 : Shape := ⟨4, ![1, 1536, 6, 128]⟩
abbrev S1x1536x2x32 : Shape := ⟨4, ![1, 1536, 2, 32]⟩
abbrev S1x1536x2 : Shape := ⟨3, ![1, 1536, 2]⟩
abbrev S1x1536x2x128 : Shape := ⟨4, ![1, 1536, 2, 128]⟩
abbrev S_ : Shape := ⟨0, ![]⟩

class Facts : Prop where
  bcast_S_S1x1536x6x32 : S_.BroadcastsInDim S1x1536x6x32 (![] : Fin 0 → Fin S1x1536x6x32.rank)
  reducesTo_S1x1536x6x32_S_d0_1_2_3 : S1x1536x6x32.ReducesTo [0, 1, 2, 3] S_
  h_S_ : 0 < S_.numel
  bcast_S_S1x1536x6 : S_.BroadcastsInDim S1x1536x6 (![] : Fin 0 → Fin S1x1536x6.rank)
  reducesTo_S1x1536x6_S_d0_1_2 : S1x1536x6.ReducesTo [0, 1, 2] S_
  bcast_S_S1x1536x6x128 : S_.BroadcastsInDim S1x1536x6x128 (![] : Fin 0 → Fin S1x1536x6x128.rank)
  reducesTo_S1x1536x6x128_S_d0_1_2_3 : S1x1536x6x128.ReducesTo [0, 1, 2, 3] S_
  bcast_S_S1x1536x2x32 : S_.BroadcastsInDim S1x1536x2x32 (![] : Fin 0 → Fin S1x1536x2x32.rank)
  reducesTo_S1x1536x2x32_S_d0_1_2_3 : S1x1536x2x32.ReducesTo [0, 1, 2, 3] S_
  bcast_S_S1x1536x2 : S_.BroadcastsInDim S1x1536x2 (![] : Fin 0 → Fin S1x1536x2.rank)
  reducesTo_S1x1536x2_S_d0_1_2 : S1x1536x2.ReducesTo [0, 1, 2] S_
  bcast_S_S1x1536x2x128 : S_.BroadcastsInDim S1x1536x2x128 (![] : Fin 0 → Fin S1x1536x2x128.rank)
  reducesTo_S1x1536x2x128_S_d0_1_2_3 : S1x1536x2x128.ReducesTo [0, 1, 2, 3] S_

variable [Facts]

def fn_part2 {F : FTy → Type} [FloatOps F] (main_arg7 : FVec F S1x1536x2 .f32) (main_v33 : IVec S_ 1) : IVec S_ 1 :=
  let main_v34 : FVec F S1x1536x2 .f32 := Host.absf main_arg7
  let main_cst_12 : FVec F S_ .f32 := constant S_ .f32 0x7F800000#32
  let main_v35 : FVec F S1x1536x2 .f32 := broadcastInDim S1x1536x2 ![] bcast_S_S1x1536x2 main_cst_12
  let main_v36 : IVec S1x1536x2 1 := cmpf .olt main_v34 main_v35
  let main_c_13 : IVec S_ 1 := constantI S_ 1 1#1
  let main_v37 : IVec S_ 1 := (fun x v => Host.reduce IntOp.andi x v reducesTo_S1x1536x2_S_d0_1_2 h_S_) main_v36 main_c_13
  let main_v38 : IVec S_ 1 := andi main_v33 main_v37
  main_v38

def fn_part1 {F : FTy → Type} [FloatOps F] (main_arg4 : FVec F S1x1536x2x32 .f32) (main_arg5 : FVec F S1x1536x2 .f32) (main_arg6 : FVec F S1x1536x2x128 .f32) (main_arg7 : FVec F S1x1536x2 .f32) (main_v13 : IVec S_ 1) (main_v16 : IVec S1x1536x6 1) : IVec S_ 1 :=
  let main_c_5 : IVec S_ 1 := constantI S_ 1 1#1
  let main_v17 : IVec S_ 1 := (fun x v => Host.reduce IntOp.andi x v reducesTo_S1x1536x6_S_d0_1_2 h_S_) main_v16 main_c_5
  let main_v18 : IVec S_ 1 := andi main_v13 main_v17
  let main_v19 : FVec F S1x1536x2x32 .f32 := Host.absf main_arg4
  let main_cst_6 : FVec F S_ .f32 := constant S_ .f32 0x7F800000#32
  let main_v20 : FVec F S1x1536x2x32 .f32 := broadcastInDim S1x1536x2x32 ![] bcast_S_S1x1536x2x32 main_cst_6
  let main_v21 : IVec S1x1536x2x32 1 := cmpf .olt main_v19 main_v20
  let main_c_7 : IVec S_ 1 := constantI S_ 1 1#1
  let main_v22 : IVec S_ 1 := (fun x v => Host.reduce IntOp.andi x v reducesTo_S1x1536x2x32_S_d0_1_2_3 h_S_) main_v21 main_c_7
  let main_v23 : IVec S_ 1 := andi main_v18 main_v22
  let main_v24 : FVec F S1x1536x2 .f32 := Host.absf main_arg5
  let main_cst_8 : FVec F S_ .f32 := constant S_ .f32 0x7F800000#32
  let main_v25 : FVec F S1x1536x2 .f32 := broadcastInDim S1x1536x2 ![] bcast_S_S1x1536x2 main_cst_8
  let main_v26 : IVec S1x1536x2 1 := cmpf .olt main_v24 main_v25
  let main_c_9 : IVec S_ 1 := constantI S_ 1 1#1
  let main_v27 : IVec S_ 1 := (fun x v => Host.reduce IntOp.andi x v reducesTo_S1x1536x2_S_d0_1_2 h_S_) main_v26 main_c_9
  let main_v28 : IVec S_ 1 := andi main_v23 main_v27
  let main_v29 : FVec F S1x1536x2x128 .f32 := Host.absf main_arg6
  let main_cst_10 : FVec F S_ .f32 := constant S_ .f32 0x7F800000#32
  let main_v30 : FVec F S1x1536x2x128 .f32 := broadcastInDim S1x1536x2x128 ![] bcast_S_S1x1536x2x128 main_cst_10
  let main_v31 : IVec S1x1536x2x128 1 := cmpf .olt main_v29 main_v30
  let main_c_11 : IVec S_ 1 := constantI S_ 1 1#1
  let main_v32 : IVec S_ 1 := (fun x v => Host.reduce IntOp.andi x v reducesTo_S1x1536x2x128_S_d0_1_2_3 h_S_) main_v31 main_c_11
  let main_v33 : IVec S_ 1 := andi main_v28 main_v32
  fn_part2 (F := F) main_arg7 main_v33

def fn {F : FTy → Type} [FloatOps F] (main_arg0 : FVec F S1x1536x6x32 .f32) (main_arg1 : FVec F S1x1536x6 .f32) (main_arg2 : FVec F S1x1536x6x128 .f32) (main_arg3 : FVec F S1x1536x6 .f32) (main_arg4 : FVec F S1x1536x2x32 .f32) (main_arg5 : FVec F S1x1536x2 .f32) (main_arg6 : FVec F S1x1536x2x128 .f32) (main_arg7 : FVec F S1x1536x2 .f32) (main_arg8 : FVec F S1x1536x2x32 .fp8e4m3) (main_arg9 : FVec F S1x1536x2 .f32) (main_arg10 : FVec F S1x1536x2x128 .fp8e4m3) (main_arg11 : FVec F S1x1536x2 .f32) : IVec S_ 1 :=
  let main_v0 : FVec F S1x1536x6x32 .f32 := Host.absf main_arg0
  let main_cst : FVec F S_ .f32 := constant S_ .f32 0x7F800000#32
  let main_v1 : FVec F S1x1536x6x32 .f32 := broadcastInDim S1x1536x6x32 ![] bcast_S_S1x1536x6x32 main_cst
  let main_v2 : IVec S1x1536x6x32 1 := cmpf .olt main_v0 main_v1
  let main_c : IVec S_ 1 := constantI S_ 1 1#1
  let main_v3 : IVec S_ 1 := (fun x v => Host.reduce IntOp.andi x v reducesTo_S1x1536x6x32_S_d0_1_2_3 h_S_) main_v2 main_c
  let main_v4 : FVec F S1x1536x6 .f32 := Host.absf main_arg1
  let main_cst_0 : FVec F S_ .f32 := constant S_ .f32 0x7F800000#32
  let main_v5 : FVec F S1x1536x6 .f32 := broadcastInDim S1x1536x6 ![] bcast_S_S1x1536x6 main_cst_0
  let main_v6 : IVec S1x1536x6 1 := cmpf .olt main_v4 main_v5
  let main_c_1 : IVec S_ 1 := constantI S_ 1 1#1
  let main_v7 : IVec S_ 1 := (fun x v => Host.reduce IntOp.andi x v reducesTo_S1x1536x6_S_d0_1_2 h_S_) main_v6 main_c_1
  let main_v8 : IVec S_ 1 := andi main_v3 main_v7
  let main_v9 : FVec F S1x1536x6x128 .f32 := Host.absf main_arg2
  let main_cst_2 : FVec F S_ .f32 := constant S_ .f32 0x7F800000#32
  let main_v10 : FVec F S1x1536x6x128 .f32 := broadcastInDim S1x1536x6x128 ![] bcast_S_S1x1536x6x128 main_cst_2
  let main_v11 : IVec S1x1536x6x128 1 := cmpf .olt main_v9 main_v10
  let main_c_3 : IVec S_ 1 := constantI S_ 1 1#1
  let main_v12 : IVec S_ 1 := (fun x v => Host.reduce IntOp.andi x v reducesTo_S1x1536x6x128_S_d0_1_2_3 h_S_) main_v11 main_c_3
  let main_v13 : IVec S_ 1 := andi main_v8 main_v12
  let main_v14 : FVec F S1x1536x6 .f32 := Host.absf main_arg3
  let main_cst_4 : FVec F S_ .f32 := constant S_ .f32 0x7F800000#32
  let main_v15 : FVec F S1x1536x6 .f32 := broadcastInDim S1x1536x6 ![] bcast_S_S1x1536x6 main_cst_4
  let main_v16 : IVec S1x1536x6 1 := cmpf .olt main_v14 main_v15
  fn_part1 (F := F) main_arg4 main_arg5 main_arg6 main_arg7 main_v13 main_v16
-- ==== Kernel.lean ====
abbrev S1x1536x6x32 : Shape := ⟨4, ![1, 1536, 6, 32]⟩
abbrev S1x1536x6 : Shape := ⟨3, ![1, 1536, 6]⟩
abbrev S1x1536x6x128 : Shape := ⟨4, ![1, 1536, 6, 128]⟩
abbrev S1x1536x2x32 : Shape := ⟨4, ![1, 1536, 2, 32]⟩
abbrev S1x1536x2 : Shape := ⟨3, ![1, 1536, 2]⟩
abbrev S1x1536x2x128 : Shape := ⟨4, ![1, 1536, 2, 128]⟩
abbrev S9216x32 : Shape := ⟨2, ![9216, 32]⟩
abbrev S9216x128 : Shape := ⟨2, ![9216, 128]⟩
abbrev S48x1x192 : Shape := ⟨3, ![48, 1, 192]⟩
abbrev S1536x2x32 : Shape := ⟨3, ![1536, 2, 32]⟩
abbrev S2x1536x32 : Shape := ⟨3, ![2, 1536, 32]⟩
abbrev S1536x2x128 : Shape := ⟨3, ![1536, 2, 128]⟩
abbrev S2x1536x128 : Shape := ⟨3, ![2, 1536, 128]⟩
abbrev S12x128x2x128 : Shape := ⟨4, ![12, 128, 2, 128]⟩
abbrev S12x2x128x128 : Shape := ⟨4, ![12, 2, 128, 128]⟩
abbrev S12x256x128 : Shape := ⟨3, ![12, 256, 128]⟩
abbrev S1536x2 : Shape := ⟨2, ![1536, 2]⟩
abbrev S2x1536 : Shape := ⟨2, ![2, 1536]⟩
abbrev S2x12x1x128 : Shape := ⟨4, ![2, 12, 1, 128]⟩
abbrev S1536x4096 : Shape := ⟨2, ![1536, 4096]⟩
abbrev S48x4x256 : Shape := ⟨3, ![48, 4, 256]⟩
abbrev S1x1x192 : Shape := ⟨3, ![1, 1, 192]⟩
abbrev S32x4096 : Shape := ⟨2, ![32, 4096]⟩
abbrev S1x4x256 : Shape := ⟨3, ![1, 4, 256]⟩
abbrev S2x1536x256 : Shape := ⟨3, ![2, 1536, 256]⟩
abbrev S12x128x256 : Shape := ⟨3, ![12, 128, 256]⟩
abbrev S288x256 : Shape := ⟨2, ![288, 256]⟩
abbrev S4x3072x128 : Shape := ⟨3, ![4, 3072, 128]⟩
abbrev S3072x128 : Shape := ⟨2, ![3072, 128]⟩
abbrev S4x256x256 : Shape := ⟨3, ![4, 256, 256]⟩
abbrev S4x1536x256 : Shape := ⟨3, ![4, 1536, 256]⟩
abbrev S4x8x256 : Shape := ⟨3, ![4, 8, 256]⟩
abbrev S4x128x256 : Shape := ⟨3, ![4, 128, 256]⟩
abbrev S192x128 : Shape := ⟨2, ![192, 128]⟩
abbrev S32x256 : Shape := ⟨2, ![32, 256]⟩
abbrev S1x1x1x128 : Shape := ⟨4, ![1, 1, 1, 128]⟩
abbrev S1x128 : Shape := ⟨2, ![1, 128]⟩
abbrev S128x128 : Shape := ⟨2, ![128, 128]⟩
abbrev S128x1 : Shape := ⟨2, ![128, 1]⟩
abbrev S1x128x32 : Shape := ⟨3, ![1, 128, 32]⟩
abbrev S128x32 : Shape := ⟨2, ![128, 32]⟩
abbrev S128x256 : Shape := ⟨2, ![128, 256]⟩
abbrev S1x128x256 : Shape := ⟨3, ![1, 128, 256]⟩
abbrev S1x128x128 : Shape := ⟨3, ![1, 128, 128]⟩
abbrev S192x32 : Shape := ⟨2, ![192, 32]⟩
abbrev S192x256 : Shape := ⟨2, ![192, 256]⟩
abbrev S48x256 : Shape := ⟨2, ![48, 256]⟩
abbrev S1x48x256 : Shape := ⟨3, ![1, 48, 256]⟩
abbrev S1x32x256 : Shape := ⟨3, ![1, 32, 256]⟩
abbrev S16x256 : Shape := ⟨2, ![16, 256]⟩
abbrev S1x16x256 : Shape := ⟨3, ![1, 16, 256]⟩
abbrev S1x192 : Shape := ⟨2, ![1, 192]⟩
abbrev S128x192 : Shape := ⟨2, ![128, 192]⟩
abbrev S1x256x128 : Shape := ⟨3, ![1, 256, 128]⟩
abbrev S256x128 : Shape := ⟨2, ![256, 128]⟩
abbrev S48x128 : Shape := ⟨2, ![48, 128]⟩
abbrev S32x128 : Shape := ⟨2, ![32, 128]⟩
abbrev S16x128 : Shape := ⟨2, ![16, 128]⟩
abbrev S64x128 : Shape := ⟨2, ![64, 128]⟩
abbrev S256x256 : Shape := ⟨2, ![256, 256]⟩
abbrev S1x256x256 : Shape := ⟨3, ![1, 256, 256]⟩
abbrev S1x8x256 : Shape := ⟨3, ![1, 8, 256]⟩
abbrev S8x256 : Shape := ⟨2, ![8, 256]⟩
abbrev S16x8x256 : Shape := ⟨3, ![16, 8, 256]⟩
abbrev S256 : Shape := ⟨1, ![256]⟩
abbrev S1x256 : Shape := ⟨2, ![1, 256]⟩
abbrev S1x1x256 : Shape := ⟨3, ![1, 1, 256]⟩
abbrev S8x128 : Shape := ⟨2, ![8, 128]⟩
abbrev S192x32x8 : Shape := ⟨3, ![192, 32, 8]⟩
abbrev S32x192x8 : Shape := ⟨3, ![32, 192, 8]⟩
abbrev S1x1536x4096 : Shape := ⟨3, ![1, 1536, 4096]⟩
abbrev S1x32x1536 : Shape := ⟨3, ![1, 32, 1536]⟩

abbrev nBuf : Space → Nat
  | .hbm => 47
  | .vmem => 30
  | .smem => 0
  | _ => 0

abbrev bufTy : (tb : Table) → Fin (tcTables nBuf tb) → BufTy
  | .hbm, ⟨0, _⟩ => ⟨S1x1536x6x32, .f32⟩
  | .hbm, ⟨1, _⟩ => ⟨S1x1536x6, .f32⟩
  | .hbm, ⟨2, _⟩ => ⟨S1x1536x6x128, .f32⟩
  | .hbm, ⟨3, _⟩ => ⟨S1x1536x6, .f32⟩
  | .hbm, ⟨4, _⟩ => ⟨S1x1536x2x32, .f32⟩
  | .hbm, ⟨5, _⟩ => ⟨S1x1536x2, .f32⟩
  | .hbm, ⟨6, _⟩ => ⟨S1x1536x2x128, .f32⟩
  | .hbm, ⟨7, _⟩ => ⟨S1x1536x2, .f32⟩
  | .hbm, ⟨8, _⟩ => ⟨S1x1536x2x32, .fp8e4m3⟩
  | .hbm, ⟨9, _⟩ => ⟨S1x1536x2, .f32⟩
  | .hbm, ⟨10, _⟩ => ⟨S1x1536x2x128, .fp8e4m3⟩
  | .hbm, ⟨11, _⟩ => ⟨S1x1536x2, .f32⟩
  | .hbm, ⟨12, _⟩ => ⟨S1x1536x6x32, .fp8e4m3⟩
  | .hbm, ⟨13, _⟩ => ⟨S1x1536x6x128, .fp8e4m3⟩
  | .hbm, ⟨14, _⟩ => ⟨S1x1536x2x32, .fp8e4m3⟩
  | .hbm, ⟨15, _⟩ => ⟨S1x1536x2x128, .fp8e4m3⟩
  | .hbm, ⟨16, _⟩ => ⟨S9216x32, .fp8e4m3⟩
  | .hbm, ⟨17, _⟩ => ⟨S9216x128, .fp8e4m3⟩
  | .hbm, ⟨18, _⟩ => ⟨S48x1x192, .f32⟩
  | .hbm, ⟨19, _⟩ => ⟨S48x1x192, .f32⟩
  | .hbm, ⟨20, _⟩ => ⟨S1536x2x32, .fp8e4m3⟩
  | .hbm, ⟨21, _⟩ => ⟨S2x1536x32, .fp8e4m3⟩
  | .hbm, ⟨22, _⟩ => ⟨S1536x2x32, .fp8e4m3⟩
  | .hbm, ⟨23, _⟩ => ⟨S2x1536x32, .fp8e4m3⟩
  | .hbm, ⟨24, _⟩ => ⟨S1536x2x128, .fp8e4m3⟩
  | .hbm, ⟨25, _⟩ => ⟨S2x1536x128, .fp8e4m3⟩
  | .hbm, ⟨26, _⟩ => ⟨S12x128x2x128, .fp8e4m3⟩
  | .hbm, ⟨27, _⟩ => ⟨S12x2x128x128, .fp8e4m3⟩
  | .hbm, ⟨28, _⟩ => ⟨S12x256x128, .fp8e4m3⟩
  | .hbm, ⟨29, _⟩ => ⟨S1536x2, .f32⟩
  | .hbm, ⟨30, _⟩ => ⟨S2x1536, .f32⟩
  | .hbm, ⟨31, _⟩ => ⟨S2x12x1x128, .f32⟩
  | .hbm, ⟨32, _⟩ => ⟨S1536x2, .f32⟩
  | .hbm, ⟨33, _⟩ => ⟨S2x1536, .f32⟩
  | .hbm, ⟨34, _⟩ => ⟨S2x12x1x128, .f32⟩
  | .hbm, ⟨35, _⟩ => ⟨S1536x2, .f32⟩
  | .hbm, ⟨36, _⟩ => ⟨S2x1536, .f32⟩
  | .hbm, ⟨37, _⟩ => ⟨S2x12x1x128, .f32⟩
  | .hbm, ⟨38, _⟩ => ⟨S1536x2, .f32⟩
  | .hbm, ⟨39, _⟩ => ⟨S2x1536, .f32⟩
  | .hbm, ⟨40, _⟩ => ⟨S2x12x1x128, .f32⟩
  | .hbm, ⟨41, _⟩ => ⟨S1536x4096, .bf16⟩
  | .hbm, ⟨42, _⟩ => ⟨S48x4x256, .f32⟩
  | .hbm, ⟨43, _⟩ => ⟨S192x32x8, .f32⟩
  | .hbm, ⟨44, _⟩ => ⟨S32x192x8, .f32⟩
  | .hbm, ⟨45, _⟩ => ⟨S1x1536x4096, .bf16⟩
  | .hbm, ⟨46, _⟩ => ⟨S1x32x1536, .f32⟩
  | .local _ .vmem, ⟨0, _⟩ => ⟨S9216x32, .fp8e4m3⟩
  | .local _ .vmem, ⟨1, _⟩ => ⟨S1x1x192, .f32⟩
  | .local _ .vmem, ⟨2, _⟩ => ⟨S1x1x192, .f32⟩
  | .local _ .vmem, ⟨3, _⟩ => ⟨S9216x128, .fp8e4m3⟩
  | .local _ .vmem, ⟨4, _⟩ => ⟨S1x1x192, .f32⟩
  | .local _ .vmem, ⟨5, _⟩ => ⟨S1x1x192, .f32⟩
  | .local _ .vmem, ⟨6, _⟩ => ⟨S2x1536x32, .fp8e4m3⟩
  | .local _ .vmem, ⟨7, _⟩ => ⟨S2x12x1x128, .f32⟩
  | .local _ .vmem, ⟨8, _⟩ => ⟨S12x256x128, .fp8e4m3⟩
  | .local _ .vmem, ⟨9, _⟩ => ⟨S2x12x1x128, .f32⟩
  | .local _ .vmem, ⟨10, _⟩ => ⟨S2x1536x32, .fp8e4m3⟩
  | .local _ .vmem, ⟨11, _⟩ => ⟨S2x12x1x128, .f32⟩
  | .local _ .vmem, ⟨12, _⟩ => ⟨S2x1536x128, .fp8e4m3⟩
  | .local _ .vmem, ⟨13, _⟩ => ⟨S2x12x1x128, .f32⟩
  | .local _ .vmem, ⟨14, _⟩ => ⟨S32x4096, .bf16⟩
  | .local _ .vmem, ⟨15, _⟩ => ⟨S32x4096, .bf16⟩
  | .local _ .vmem, ⟨16, _⟩ => ⟨S1x4x256, .f32⟩
  | .local _ .vmem, ⟨17, _⟩ => ⟨S1x4x256, .f32⟩
  | .local _ .vmem, ⟨18, _⟩ => ⟨S2x1536x256, .f32⟩
  | .local _ .vmem, ⟨19, _⟩ => ⟨S2x1536x256, .f32⟩
  | .local _ .vmem, ⟨20, _⟩ => ⟨S12x128x256, .bf16⟩
  | .local _ .vmem, ⟨21, _⟩ => ⟨S288x256, .f32⟩
  | .local _ .vmem, ⟨22, _⟩ => ⟨S4x3072x128, .bf16⟩
  | .local _ .vmem, ⟨23, _⟩ => ⟨S3072x128, .bf16⟩
  | .local _ .vmem, ⟨24, _⟩ => ⟨S4x256x256, .bf16⟩
  | .local _ .vmem, ⟨25, _⟩ => ⟨S4x1536x256, .f32⟩
  | .local _ .vmem, ⟨26, _⟩ => ⟨S4x8x256, .f32⟩
  | .local _ .vmem, ⟨27, _⟩ => ⟨S4x8x256, .f32⟩
  | .local _ .vmem, ⟨28, _⟩ => ⟨S4x128x256, .f32⟩
  | .local _ .vmem, ⟨29, _⟩ => ⟨S192x128, .f32⟩
  | _, _ => ⟨S1x1536x6x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [BitOps F]

abbrev grid0 : Pipeline.Grid := ⟨1, ![48], ![false]⟩

def k0_cond1 (i : grid0.Coords) : BitVec 1 :=
  let arg0 : BitVec 32 := BitVec.ofNat 32 (i 0).val
  let c0_i32_4 : BitVec 32 := 0#32
  let v30 : BitVec 1 := Scalar.cmpi .eq arg0 c0_i32_4
  let v31 : BitVec 32 := Scalar.extui v30
  let c0_i32_5 : BitVec 32 := 0#32
  let v32 : BitVec 1 := Scalar.cmpi .ne v31 c0_i32_5
  v32

@[reducible] def k0_t1_loop : Scf.Loop 32 :=
  let c0_i32_462 : BitVec 32 := 0#32
  let c12_i32 : BitVec 32 := 12#32
  let v1020 : BitVec 32 := Scalar.addi c0_i32_462 c12_i32
  let c1_i32_463 : BitVec 32 := 1#32
  ⟨c0_i32_462, v1020, c1_i32_463⟩
def k0_off1 (k0_t1 : Fin k0_t1_loop.trips) : Fin 4 → Nat :=
  let c0_466 : Index := 0#32
  let c0_i32_462 : BitVec 32 := 0#32
  let c1_i32_463 : BitVec 32 := 1#32
  let arg27 : BitVec 32 := Scf.iv c0_i32_462 c1_i32_463 k0_t1
  let v1022 : Index := Scalar.indexCast arg27
  let c0_467 : Index := 0#32
  let c0_468 : Index := 0#32
  ![0, v1022.toNat, 0, 0]
def k0_off2 (k0_t1 : Fin k0_t1_loop.trips) : Fin 3 → Nat :=
  let c0_473 : Index := 0#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1035 : Index := Scalar.indexCast v1021
  let c0_474 : Index := 0#32
  ![0, v1035.toNat, 0]
def k0_off3 (k0_t1 : Fin k0_t1_loop.trips) : Fin 3 → Nat :=
  let c0_476 : Index := 0#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1042 : Index := Scalar.indexCast v1021
  let c0_477 : Index := 0#32
  ![0, v1042.toNat, 0]
def k0_off4 (k0_t1 : Fin k0_t1_loop.trips) : Fin 4 → Nat :=
  let c1_478 : Index := 1#32
  let c0_i32_462 : BitVec 32 := 0#32
  let c1_i32_463 : BitVec 32 := 1#32
  let arg27 : BitVec 32 := Scf.iv c0_i32_462 c1_i32_463 k0_t1
  let v1046 : Index := Scalar.indexCast arg27
  let c0_479 : Index := 0#32
  let c0_480 : Index := 0#32
  ![1, v1046.toNat, 0, 0]
def k0_off5 (k0_t1 : Fin k0_t1_loop.trips) : Fin 3 → Nat :=
  let c1_485 : Index := 1#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1059 : Index := Scalar.indexCast v1021
  let c0_486 : Index := 0#32
  ![1, v1059.toNat, 0]
def k0_off6 (k0_t1 : Fin k0_t1_loop.trips) : Fin 3 → Nat :=
  let c1_488 : Index := 1#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1066 : Index := Scalar.indexCast v1021
  let c0_489 : Index := 0#32
  ![1, v1066.toNat, 0]
def k0_off7 (k0_t1 : Fin k0_t1_loop.trips) : Fin 3 → Nat :=
  let c0_502 : Index := 0#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1094 : Index := Scalar.indexCast v1021
  let c0_503 : Index := 0#32
  ![0, v1094.toNat, 0]
def k0_off8 (k0_t1 : Fin k0_t1_loop.trips) : Fin 3 → Nat :=
  let c0_i32_462 : BitVec 32 := 0#32
  let c1_i32_463 : BitVec 32 := 1#32
  let arg27 : BitVec 32 := Scf.iv c0_i32_462 c1_i32_463 k0_t1
  let v1099 : Index := Scalar.indexCast arg27
  let c0_504 : Index := 0#32
  let c0_505 : Index := 0#32
  ![v1099.toNat, 0, 0]
def k0_off9 (k0_t1 : Fin k0_t1_loop.trips) : Fin 3 → Nat :=
  let c1_518 : Index := 1#32
  let c0_i32_462 : BitVec 32 := 0#32
  let c1_i32_463 : BitVec 32 := 1#32
  let arg27 : BitVec 32 := Scf.iv c0_i32_462 c1_i32_463 k0_t1
  let c128_i32_465 : BitVec 32 := 128#32
  let v1021 : BitVec 32 := Scalar.muli arg27 c128_i32_465
  let v1127 : Index := Scalar.indexCast v1021
  let c0_519 : Index := 0#32
  ![1, v1127.toNat, 0]
def k0_off10 (k0_t1 : Fin k0_t1_loop.trips) : Fin 3 → Nat :=
  let c0_i32_462 : BitVec 32 := 0#32
  let c1_i32_463 : BitVec 32 := 1#32
  let arg27 : BitVec 32 := Scf.iv c0_i32_462 c1_i32_463 k0_t1
  let v1132 : Index := Scalar.indexCast arg27
  let c0_520 : Index := 0#32
  let c128_521 : Index := 128#32
  ![v1132.toNat, 0, 128]
def k0_off11 (i : grid0.Coords) : Fin 2 → Nat :=
  let arg0 : BitVec 32 := BitVec.ofNat 32 (i 0).val
  let c4_i32 : BitVec 32 := 4#32
  let v33 : BitVec 32 := Scalar.muli arg0 c4_i32
  let c48_i32 : BitVec 32 := 48#32
  let v34 : BitVec 32 := Scalar.muli v33 c48_i32
  let v35 : Index := Scalar.indexCast v34
  let c0 : Index := 0#32
  ![v35.toNat, 0]
@[reducible] def k0_t2_loop (i : grid0.Coords) : Scf.Loop 32 :=
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_109 : BitVec 32 := 1#32
  ⟨c0_i32_106, v223, c1_i32_109⟩
def k0_off12 (i : grid0.Coords) : Fin 2 → Nat :=
  let arg0 : BitVec 32 := BitVec.ofNat 32 (i 0).val
  let c4_i32 : BitVec 32 := 4#32
  let v33 : BitVec 32 := Scalar.muli arg0 c4_i32
  let c48_i32 : BitVec 32 := 48#32
  let v34 : BitVec 32 := Scalar.muli v33 c48_i32
  let v993 : Index := Scalar.indexCast v34
  let c0_451 : Index := 0#32
  ![v993.toNat, 0]
def k0_off13 (i : grid0.Coords) (k0_t2 : Fin (k0_t2_loop i).trips) : Fin 3 → Nat :=
  let c0_i32_106 : BitVec 32 := 0#32
  let c1_i32_109 : BitVec 32 := 1#32
  let arg27 : BitVec 32 := Scf.iv c0_i32_106 c1_i32_109 k0_t2
  let v996 : Index := Scalar.indexCast arg27
  let c0_452 : Index := 0#32
  let c0_453 : Index := 0#32
  ![v996.toNat, 0, 0]
def k0_off14 (i : grid0.Coords) (k0_t2 : Fin (k0_t2_loop i).trips) (c0_i32_461 : BitVec 32) : Fin 3 → Nat :=
  let c0_462 : Index := 0#32
  let c0_i32_106 : BitVec 32 := 0#32
  let c1_i32_109 : BitVec 32 := 1#32
  let arg27 : BitVec 32 := Scf.iv c0_i32_106 c1_i32_109 k0_t2
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1024 : Index := Scalar.indexCast v1018
  let c0_463 : Index := 0#32
  ![0, v1024.toNat, 0]
def k0_off15 (i : grid0.Coords) (k0_t2 : Fin (k0_t2_loop i).trips) (c0_i32_461 : BitVec 32) : Fin 3 → Nat :=
  let c1_464 : Index := 1#32
  let c0_i32_106 : BitVec 32 := 0#32
  let c1_i32_109 : BitVec 32 := 1#32
  let arg27 : BitVec 32 := Scf.iv c0_i32_106 c1_i32_109 k0_t2
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1034 : Index := Scalar.indexCast v1018
  let c0_465 : Index := 0#32
  ![1, v1034.toNat, 0]
def k0_off16 (i : grid0.Coords) (k0_t2 : Fin (k0_t2_loop i).trips) (c0_i32_461 : BitVec 32) : Fin 3 → Nat :=
  let c2_466 : Index := 2#32
  let c0_i32_106 : BitVec 32 := 0#32
  let c1_i32_109 : BitVec 32 := 1#32
  let arg27 : BitVec 32 := Scf.iv c0_i32_106 c1_i32_109 k0_t2
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1044 : Index := Scalar.indexCast v1018
  let c0_467 : Index := 0#32
  ![2, v1044.toNat, 0]
def k0_off17 (i : grid0.Coords) (k0_t2 : Fin (k0_t2_loop i).trips) (c0_i32_461 : BitVec 32) : Fin 3 → Nat :=
  let c3_468 : Index := 3#32
  let c0_i32_106 : BitVec 32 := 0#32
  let c1_i32_109 : BitVec 32 := 1#32
  let arg27 : BitVec 32 := Scf.iv c0_i32_106 c1_i32_109 k0_t2
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1054 : Index := Scalar.indexCast v1018
  let c0_469 : Index := 0#32
  ![3, v1054.toNat, 0]
def k0_off18 (i : grid0.Coords) (k0_t2 : Fin (k0_t2_loop i).trips) (c0_i32_461 : BitVec 32) : Fin 2 → Nat :=
  let c0_i32_106 : BitVec 32 := 0#32
  let c1_i32_109 : BitVec 32 := 1#32
  let arg27 : BitVec 32 := Scf.iv c0_i32_106 c1_i32_109 k0_t2
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1062 : Index := Scalar.indexCast v1018
  let c0_471 : Index := 0#32
  ![v1062.toNat, 0]
def k0_off19 (i : grid0.Coords) (k0_t2 : Fin (k0_t2_loop i).trips) : Fin 3 → Nat :=
  let c0_492 : Index := 0#32
  let c0_i32_106 : BitVec 32 := 0#32
  let c1_i32_109 : BitVec 32 := 1#32
  let arg27 : BitVec 32 := Scf.iv c0_i32_106 c1_i32_109 k0_t2
  let c2_i32_489 : BitVec 32 := 2#32
  let v1132 : BitVec 32 := Scalar.muli arg27 c2_i32_489
  let c128_i32_490 : BitVec 32 := 128#32
  let v1133 : BitVec 32 := Scalar.muli v1132 c128_i32_490
  let v1135 : Index := Scalar.indexCast v1133
  let c0_493 : Index := 0#32
  ![0, v1135.toNat, 0]
def k0_off20 (i : grid0.Coords) (k0_t2 : Fin (k0_t2_loop i).trips) : Fin 2 → Nat :=
  let c0_i32_106 : BitVec 32 := 0#32
  let c1_i32_109 : BitVec 32 := 1#32
  let arg27 : BitVec 32 := Scf.iv c0_i32_106 c1_i32_109 k0_t2
  let c2_i32_489 : BitVec 32 := 2#32
  let v1132 : BitVec 32 := Scalar.muli arg27 c2_i32_489
  let c128_i32_490 : BitVec 32 := 128#32
  let v1133 : BitVec 32 := Scalar.muli v1132 c128_i32_490
  let v1138 : Index := Scalar.indexCast v1133
  let c0_494 : Index := 0#32
  ![v1138.toNat, 0]
def k0_off21 (i : grid0.Coords) (k0_t2 : Fin (k0_t2_loop i).trips) : Fin 3 → Nat :=
  let c0_499 : Index := 0#32
  let c0_i32_106 : BitVec 32 := 0#32
  let c1_i32_109 : BitVec 32 := 1#32
  let arg27 : BitVec 32 := Scf.iv c0_i32_106 c1_i32_109 k0_t2
  let c128_i32_491 : BitVec 32 := 128#32
  let v1134 : BitVec 32 := Scalar.muli arg27 c128_i32_491
  let v1145 : Index := Scalar.indexCast v1134
  let c0_500 : Index := 0#32
  ![0, v1145.toNat, 0]
def k0_off22 (i : grid0.Coords) (k0_t2 : Fin (k0_t2_loop i).trips) : Fin 3 → Nat :=
  let c1_501 : Index := 1#32
  let c0_i32_106 : BitVec 32 := 0#32
  let c1_i32_109 : BitVec 32 := 1#32
  let arg27 : BitVec 32 := Scf.iv c0_i32_106 c1_i32_109 k0_t2
  let c128_i32_491 : BitVec 32 := 128#32
  let v1134 : BitVec 32 := Scalar.muli arg27 c128_i32_491
  let v1150 : Index := Scalar.indexCast v1134
  let c0_502 : Index := 0#32
  ![1, v1150.toNat, 0]
def k0_off23 (i : grid0.Coords) (k0_t2 : Fin (k0_t2_loop i).trips) : Fin 3 → Nat :=
  let c0_503 : Index := 0#32
  let c0_i32_106 : BitVec 32 := 0#32
  let c1_i32_109 : BitVec 32 := 1#32
  let arg27 : BitVec 32 := Scf.iv c0_i32_106 c1_i32_109 k0_t2
  let c128_i32_491 : BitVec 32 := 128#32
  let v1134 : BitVec 32 := Scalar.muli arg27 c128_i32_491
  let v1155 : Index := Scalar.indexCast v1134
  let c0_504 : Index := 0#32
  ![0, v1155.toNat, 0]
def k0_off24 (i : grid0.Coords) (k0_t2 : Fin (k0_t2_loop i).trips) : Fin 3 → Nat :=
  let c1_515 : Index := 1#32
  let c0_i32_106 : BitVec 32 := 0#32
  let c1_i32_109 : BitVec 32 := 1#32
  let arg27 : BitVec 32 := Scf.iv c0_i32_106 c1_i32_109 k0_t2
  let c2_i32_512 : BitVec 32 := 2#32
  let v1167 : BitVec 32 := Scalar.muli arg27 c2_i32_512
  let c128_i32_513 : BitVec 32 := 128#32
  let v1168 : BitVec 32 := Scalar.muli v1167 c128_i32_513
  let v1170 : Index := Scalar.indexCast v1168
  let c0_516 : Index := 0#32
  ![1, v1170.toNat, 0]
def k0_off25 (i : grid0.Coords) (k0_t2 : Fin (k0_t2_loop i).trips) : Fin 3 → Nat :=
  let c1_526 : Index := 1#32
  let c0_i32_106 : BitVec 32 := 0#32
  let c1_i32_109 : BitVec 32 := 1#32
  let arg27 : BitVec 32 := Scf.iv c0_i32_106 c1_i32_109 k0_t2
  let c128_i32_514 : BitVec 32 := 128#32
  let v1169 : BitVec 32 := Scalar.muli arg27 c128_i32_514
  let v1190 : Index := Scalar.indexCast v1169
  let c0_527 : Index := 0#32
  ![1, v1190.toNat, 0]
def k0_off26 (i : grid0.Coords) (k0_t2 : Fin (k0_t2_loop i).trips) : Fin 3 → Nat :=
  let c2_538 : Index := 2#32
  let c0_i32_106 : BitVec 32 := 0#32
  let c1_i32_109 : BitVec 32 := 1#32
  let arg27 : BitVec 32 := Scf.iv c0_i32_106 c1_i32_109 k0_t2
  let c2_i32_535 : BitVec 32 := 2#32
  let v1202 : BitVec 32 := Scalar.muli arg27 c2_i32_535
  let c128_i32_536 : BitVec 32 := 128#32
  let v1203 : BitVec 32 := Scalar.muli v1202 c128_i32_536
  let v1205 : Index := Scalar.indexCast v1203
  let c0_539 : Index := 0#32
  ![2, v1205.toNat, 0]
def k0_off27 (i : grid0.Coords) (k0_t2 : Fin (k0_t2_loop i).trips) : Fin 3 → Nat :=
  let c2_549 : Index := 2#32
  let c0_i32_106 : BitVec 32 := 0#32
  let c1_i32_109 : BitVec 32 := 1#32
  let arg27 : BitVec 32 := Scf.iv c0_i32_106 c1_i32_109 k0_t2
  let c128_i32_537 : BitVec 32 := 128#32
  let v1204 : BitVec 32 := Scalar.muli arg27 c128_i32_537
  let v1225 : Index := Scalar.indexCast v1204
  let c0_550 : Index := 0#32
  ![2, v1225.toNat, 0]
def k0_off28 (i : grid0.Coords) (k0_t2 : Fin (k0_t2_loop i).trips) : Fin 3 → Nat :=
  let c3_561 : Index := 3#32
  let c0_i32_106 : BitVec 32 := 0#32
  let c1_i32_109 : BitVec 32 := 1#32
  let arg27 : BitVec 32 := Scf.iv c0_i32_106 c1_i32_109 k0_t2
  let c2_i32_558 : BitVec 32 := 2#32
  let v1237 : BitVec 32 := Scalar.muli arg27 c2_i32_558
  let c128_i32_559 : BitVec 32 := 128#32
  let v1238 : BitVec 32 := Scalar.muli v1237 c128_i32_559
  let v1240 : Index := Scalar.indexCast v1238
  let c0_562 : Index := 0#32
  ![3, v1240.toNat, 0]
def k0_off29 (i : grid0.Coords) (k0_t2 : Fin (k0_t2_loop i).trips) : Fin 3 → Nat :=
  let c3_572 : Index := 3#32
  let c0_i32_106 : BitVec 32 := 0#32
  let c1_i32_109 : BitVec 32 := 1#32
  let arg27 : BitVec 32 := Scf.iv c0_i32_106 c1_i32_109 k0_t2
  let c128_i32_560 : BitVec 32 := 128#32
  let v1239 : BitVec 32 := Scalar.muli arg27 c128_i32_560
  let v1260 : Index := Scalar.indexCast v1239
  let c0_573 : Index := 0#32
  ![3, v1260.toNat, 0]
@[reducible] def k0_t3_loop (i : grid0.Coords) : Scf.Loop 32 :=
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let v220 : BitVec 32 := Scalar.addi c0_i32_106 v219
  let c1_i32_110 : BitVec 32 := 1#32
  ⟨v223, v220, c1_i32_110⟩
def k0_off30 (i : grid0.Coords) : Fin 2 → Nat :=
  let arg0 : BitVec 32 := BitVec.ofNat 32 (i 0).val
  let c4_i32 : BitVec 32 := 4#32
  let v33 : BitVec 32 := Scalar.muli arg0 c4_i32
  let c48_i32 : BitVec 32 := 48#32
  let v34 : BitVec 32 := Scalar.muli v33 c48_i32
  let v993 : Index := Scalar.indexCast v34
  let c0_451 : Index := 0#32
  ![v993.toNat, 0]
def k0_off31 (i : grid0.Coords) (k0_t3 : Fin (k0_t3_loop i).trips) : Fin 3 → Nat :=
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let v996 : Index := Scalar.indexCast arg27
  let c0_452 : Index := 0#32
  let c0_453 : Index := 0#32
  ![v996.toNat, 0, 0]
def k0_off32 (i : grid0.Coords) (k0_t3 : Fin (k0_t3_loop i).trips) (c0_i32_461 : BitVec 32) : Fin 3 → Nat :=
  let c0_462 : Index := 0#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1024 : Index := Scalar.indexCast v1018
  let c0_463 : Index := 0#32
  ![0, v1024.toNat, 0]
def k0_off33 (i : grid0.Coords) (k0_t3 : Fin (k0_t3_loop i).trips) (c0_i32_461 : BitVec 32) : Fin 3 → Nat :=
  let c1_464 : Index := 1#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1034 : Index := Scalar.indexCast v1018
  let c0_465 : Index := 0#32
  ![1, v1034.toNat, 0]
def k0_off34 (i : grid0.Coords) (k0_t3 : Fin (k0_t3_loop i).trips) (c0_i32_461 : BitVec 32) : Fin 3 → Nat :=
  let c2_466 : Index := 2#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1044 : Index := Scalar.indexCast v1018
  let c0_467 : Index := 0#32
  ![2, v1044.toNat, 0]
def k0_off35 (i : grid0.Coords) (k0_t3 : Fin (k0_t3_loop i).trips) (c0_i32_461 : BitVec 32) : Fin 3 → Nat :=
  let c3_468 : Index := 3#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1054 : Index := Scalar.indexCast v1018
  let c0_469 : Index := 0#32
  ![3, v1054.toNat, 0]
def k0_off36 (i : grid0.Coords) (k0_t3 : Fin (k0_t3_loop i).trips) (c0_i32_461 : BitVec 32) : Fin 2 → Nat :=
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_459 : BitVec 32 := 2#32
  let v1016 : BitVec 32 := Scalar.muli arg27 c2_i32_459
  let c128_i32_460 : BitVec 32 := 128#32
  let v1017 : BitVec 32 := Scalar.muli v1016 c128_i32_460
  let v1018 : BitVec 32 := Scalar.addi v1017 c0_i32_461
  let v1062 : Index := Scalar.indexCast v1018
  let c0_471 : Index := 0#32
  ![v1062.toNat, 0]
def k0_off37 (i : grid0.Coords) (k0_t3 : Fin (k0_t3_loop i).trips) : Fin 3 → Nat :=
  let c0_492 : Index := 0#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_489 : BitVec 32 := 2#32
  let v1132 : BitVec 32 := Scalar.muli arg27 c2_i32_489
  let c128_i32_490 : BitVec 32 := 128#32
  let v1133 : BitVec 32 := Scalar.muli v1132 c128_i32_490
  let v1135 : Index := Scalar.indexCast v1133
  let c0_493 : Index := 0#32
  ![0, v1135.toNat, 0]
def k0_off38 (i : grid0.Coords) (k0_t3 : Fin (k0_t3_loop i).trips) : Fin 2 → Nat :=
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_489 : BitVec 32 := 2#32
  let v1132 : BitVec 32 := Scalar.muli arg27 c2_i32_489
  let c128_i32_490 : BitVec 32 := 128#32
  let v1133 : BitVec 32 := Scalar.muli v1132 c128_i32_490
  let v1138 : Index := Scalar.indexCast v1133
  let c0_494 : Index := 0#32
  ![v1138.toNat, 0]
def k0_off39 (i : grid0.Coords) (k0_t3 : Fin (k0_t3_loop i).trips) : Fin 3 → Nat :=
  let c0_499 : Index := 0#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_491 : BitVec 32 := 128#32
  let v1134 : BitVec 32 := Scalar.muli arg27 c128_i32_491
  let v1145 : Index := Scalar.indexCast v1134
  let c0_500 : Index := 0#32
  ![0, v1145.toNat, 0]
def k0_off40 (i : grid0.Coords) (k0_t3 : Fin (k0_t3_loop i).trips) : Fin 3 → Nat :=
  let c1_501 : Index := 1#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_491 : BitVec 32 := 128#32
  let v1134 : BitVec 32 := Scalar.muli arg27 c128_i32_491
  let v1150 : Index := Scalar.indexCast v1134
  let c0_502 : Index := 0#32
  ![1, v1150.toNat, 0]
def k0_off41 (i : grid0.Coords) (k0_t3 : Fin (k0_t3_loop i).trips) : Fin 3 → Nat :=
  let c0_503 : Index := 0#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_491 : BitVec 32 := 128#32
  let v1134 : BitVec 32 := Scalar.muli arg27 c128_i32_491
  let v1155 : Index := Scalar.indexCast v1134
  let c0_504 : Index := 0#32
  ![0, v1155.toNat, 0]
def k0_off42 (i : grid0.Coords) (k0_t3 : Fin (k0_t3_loop i).trips) : Fin 3 → Nat :=
  let c1_515 : Index := 1#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_512 : BitVec 32 := 2#32
  let v1167 : BitVec 32 := Scalar.muli arg27 c2_i32_512
  let c128_i32_513 : BitVec 32 := 128#32
  let v1168 : BitVec 32 := Scalar.muli v1167 c128_i32_513
  let v1170 : Index := Scalar.indexCast v1168
  let c0_516 : Index := 0#32
  ![1, v1170.toNat, 0]
def k0_off43 (i : grid0.Coords) (k0_t3 : Fin (k0_t3_loop i).trips) : Fin 3 → Nat :=
  let c1_526 : Index := 1#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_514 : BitVec 32 := 128#32
  let v1169 : BitVec 32 := Scalar.muli arg27 c128_i32_514
  let v1190 : Index := Scalar.indexCast v1169
  let c0_527 : Index := 0#32
  ![1, v1190.toNat, 0]
def k0_off44 (i : grid0.Coords) (k0_t3 : Fin (k0_t3_loop i).trips) : Fin 3 → Nat :=
  let c2_538 : Index := 2#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_535 : BitVec 32 := 2#32
  let v1202 : BitVec 32 := Scalar.muli arg27 c2_i32_535
  let c128_i32_536 : BitVec 32 := 128#32
  let v1203 : BitVec 32 := Scalar.muli v1202 c128_i32_536
  let v1205 : Index := Scalar.indexCast v1203
  let c0_539 : Index := 0#32
  ![2, v1205.toNat, 0]
def k0_off45 (i : grid0.Coords) (k0_t3 : Fin (k0_t3_loop i).trips) : Fin 3 → Nat :=
  let c2_549 : Index := 2#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_537 : BitVec 32 := 128#32
  let v1204 : BitVec 32 := Scalar.muli arg27 c128_i32_537
  let v1225 : Index := Scalar.indexCast v1204
  let c0_550 : Index := 0#32
  ![2, v1225.toNat, 0]
def k0_off46 (i : grid0.Coords) (k0_t3 : Fin (k0_t3_loop i).trips) : Fin 3 → Nat :=
  let c3_561 : Index := 3#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c2_i32_558 : BitVec 32 := 2#32
  let v1237 : BitVec 32 := Scalar.muli arg27 c2_i32_558
  let c128_i32_559 : BitVec 32 := 128#32
  let v1238 : BitVec 32 := Scalar.muli v1237 c128_i32_559
  let v1240 : Index := Scalar.indexCast v1238
  let c0_562 : Index := 0#32
  ![3, v1240.toNat, 0]
def k0_off47 (i : grid0.Coords) (k0_t3 : Fin (k0_t3_loop i).trips) : Fin 3 → Nat :=
  let c3_572 : Index := 3#32
  let c0_i32_106 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v219 : BitVec 32 := Scalar.subi v218 c0_i32_106
  let c1_i32_108 : BitVec 32 := 1#32
  let v221 : BitVec 32 := Scalar.divsi v219 c1_i32_108
  let v222 : BitVec 32 := Scalar.muli v221 c1_i32_108
  let v223 : BitVec 32 := Scalar.addi c0_i32_106 v222
  let c1_i32_110 : BitVec 32 := 1#32
  let arg27 : BitVec 32 := Scf.iv v223 c1_i32_110 k0_t3
  let c128_i32_560 : BitVec 32 := 128#32
  let v1239 : BitVec 32 := Scalar.muli arg27 c128_i32_560
  let v1260 : Index := Scalar.indexCast v1239
  let c0_573 : Index := 0#32
  ![3, v1260.toNat, 0]
def k0_off48 (i : grid0.Coords) : Fin 2 → Nat :=
  let arg0 : BitVec 32 := BitVec.ofNat 32 (i 0).val
  let c4_i32 : BitVec 32 := 4#32
  let v33 : BitVec 32 := Scalar.muli arg0 c4_i32
  let c48_i32 : BitVec 32 := 48#32
  let v34 : BitVec 32 := Scalar.muli v33 c48_i32
  let v226 : Index := Scalar.indexCast v34
  let c0_111 : Index := 0#32
  ![v226.toNat, 0]
def k0_off49 (i : grid0.Coords) : Fin 3 → Nat :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let v229 : Index := Scalar.indexCast v218
  let c0_112 : Index := 0#32
  let c0_113 : Index := 0#32
  ![v229.toNat, 0, 0]
def k0_off50 (i : grid0.Coords) (c0_i32_119 : BitVec 32) : Fin 3 → Nat :=
  let c0_120 : Index := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32 : BitVec 32 := 2#32
  let v249 : BitVec 32 := Scalar.muli v218 c2_i32
  let c128_i32_118 : BitVec 32 := 128#32
  let v250 : BitVec 32 := Scalar.muli v249 c128_i32_118
  let v251 : BitVec 32 := Scalar.addi v250 c0_i32_119
  let v257 : Index := Scalar.indexCast v251
  let c0_121 : Index := 0#32
  ![0, v257.toNat, 0]
def k0_off51 (i : grid0.Coords) (c0_i32_119 : BitVec 32) : Fin 3 → Nat :=
  let c1_122 : Index := 1#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32 : BitVec 32 := 2#32
  let v249 : BitVec 32 := Scalar.muli v218 c2_i32
  let c128_i32_118 : BitVec 32 := 128#32
  let v250 : BitVec 32 := Scalar.muli v249 c128_i32_118
  let v251 : BitVec 32 := Scalar.addi v250 c0_i32_119
  let v267 : Index := Scalar.indexCast v251
  let c0_123 : Index := 0#32
  ![1, v267.toNat, 0]
def k0_off52 (i : grid0.Coords) (c0_i32_119 : BitVec 32) : Fin 3 → Nat :=
  let c2_124 : Index := 2#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32 : BitVec 32 := 2#32
  let v249 : BitVec 32 := Scalar.muli v218 c2_i32
  let c128_i32_118 : BitVec 32 := 128#32
  let v250 : BitVec 32 := Scalar.muli v249 c128_i32_118
  let v251 : BitVec 32 := Scalar.addi v250 c0_i32_119
  let v277 : Index := Scalar.indexCast v251
  let c0_125 : Index := 0#32
  ![2, v277.toNat, 0]
def k0_off53 (i : grid0.Coords) (c0_i32_119 : BitVec 32) : Fin 3 → Nat :=
  let c3_126 : Index := 3#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32 : BitVec 32 := 2#32
  let v249 : BitVec 32 := Scalar.muli v218 c2_i32
  let c128_i32_118 : BitVec 32 := 128#32
  let v250 : BitVec 32 := Scalar.muli v249 c128_i32_118
  let v251 : BitVec 32 := Scalar.addi v250 c0_i32_119
  let v287 : Index := Scalar.indexCast v251
  let c0_127 : Index := 0#32
  ![3, v287.toNat, 0]
def k0_off54 (i : grid0.Coords) (c0_i32_119 : BitVec 32) : Fin 2 → Nat :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32 : BitVec 32 := 2#32
  let v249 : BitVec 32 := Scalar.muli v218 c2_i32
  let c128_i32_118 : BitVec 32 := 128#32
  let v250 : BitVec 32 := Scalar.muli v249 c128_i32_118
  let v251 : BitVec 32 := Scalar.addi v250 c0_i32_119
  let v295 : Index := Scalar.indexCast v251
  let c0_129 : Index := 0#32
  ![v295.toNat, 0]
def k0_off55 (i : grid0.Coords) : Fin 3 → Nat :=
  let c0_150 : Index := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32_147 : BitVec 32 := 2#32
  let v365 : BitVec 32 := Scalar.muli v218 c2_i32_147
  let c128_i32_148 : BitVec 32 := 128#32
  let v366 : BitVec 32 := Scalar.muli v365 c128_i32_148
  let v368 : Index := Scalar.indexCast v366
  let c0_151 : Index := 0#32
  ![0, v368.toNat, 0]
def k0_off56 (i : grid0.Coords) : Fin 2 → Nat :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32_147 : BitVec 32 := 2#32
  let v365 : BitVec 32 := Scalar.muli v218 c2_i32_147
  let c128_i32_148 : BitVec 32 := 128#32
  let v366 : BitVec 32 := Scalar.muli v365 c128_i32_148
  let v371 : Index := Scalar.indexCast v366
  let c0_152 : Index := 0#32
  ![v371.toNat, 0]
def k0_off57 (i : grid0.Coords) : Fin 3 → Nat :=
  let c0_157 : Index := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_149 : BitVec 32 := 128#32
  let v367 : BitVec 32 := Scalar.muli v218 c128_i32_149
  let v378 : Index := Scalar.indexCast v367
  let c0_158 : Index := 0#32
  ![0, v378.toNat, 0]
def k0_off58 (i : grid0.Coords) : Fin 3 → Nat :=
  let c1_159 : Index := 1#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_149 : BitVec 32 := 128#32
  let v367 : BitVec 32 := Scalar.muli v218 c128_i32_149
  let v383 : Index := Scalar.indexCast v367
  let c0_160 : Index := 0#32
  ![1, v383.toNat, 0]
def k0_mult1 (i : grid0.Coords) : BitVec 32 :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_161 : BitVec 32 := 128#32
  let v388 : BitVec 32 := Scalar.muli v218 c128_i32_161
  let c32_i32_162 : BitVec 32 := 32#32
  let v389 : BitVec 32 := Scalar.muli arg0 c32_i32_162
  let c0_i32_163 : BitVec 32 := 0#32
  let v390 : BitVec 32 := Scalar.addi v389 c0_i32_163
  let v391 : BitVec 32 := Scalar.subi v388 v390
  let c160_i32 : BitVec 32 := 160#32
  let v392 : BitVec 32 := Scalar.addi v391 c160_i32
  v392
def k0_off59 (i : grid0.Coords) (c0_i32_163 : BitVec 32) : Fin 2 → Nat :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_161 : BitVec 32 := 128#32
  let v388 : BitVec 32 := Scalar.muli v218 c128_i32_161
  let c32_i32_162 : BitVec 32 := 32#32
  let v389 : BitVec 32 := Scalar.muli arg0 c32_i32_162
  let v390 : BitVec 32 := Scalar.addi v389 c0_i32_163
  let v391 : BitVec 32 := Scalar.subi v388 v390
  let c160_i32 : BitVec 32 := 160#32
  let v392 : BitVec 32 := Scalar.addi v391 c160_i32
  let v393 : BitVec 32 := v392
  let v394 : Index := Scalar.indexCast v393
  let c0_164 : Index := 0#32
  ![v394.toNat, 0]
def k0_off60 (i : grid0.Coords) : Fin 3 → Nat :=
  let c0_165 : Index := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_149 : BitVec 32 := 128#32
  let v367 : BitVec 32 := Scalar.muli v218 c128_i32_149
  let v397 : Index := Scalar.indexCast v367
  let c0_166 : Index := 0#32
  ![0, v397.toNat, 0]
def k0_off61 (i : grid0.Coords) : Fin 3 → Nat :=
  let c1_184 : Index := 1#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32_181 : BitVec 32 := 2#32
  let v418 : BitVec 32 := Scalar.muli v218 c2_i32_181
  let c128_i32_182 : BitVec 32 := 128#32
  let v419 : BitVec 32 := Scalar.muli v418 c128_i32_182
  let v421 : Index := Scalar.indexCast v419
  let c0_185 : Index := 0#32
  ![1, v421.toNat, 0]
def k0_mult2 (i : grid0.Coords) : BitVec 32 :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_195 : BitVec 32 := 128#32
  let v441 : BitVec 32 := Scalar.muli v218 c128_i32_195
  let c32_i32_196 : BitVec 32 := 32#32
  let v442 : BitVec 32 := Scalar.muli arg0 c32_i32_196
  let c8_i32_197 : BitVec 32 := 8#32
  let v443 : BitVec 32 := Scalar.addi v442 c8_i32_197
  let v444 : BitVec 32 := Scalar.subi v441 v443
  let c160_i32_198 : BitVec 32 := 160#32
  let v445 : BitVec 32 := Scalar.addi v444 c160_i32_198
  v445
def k0_off62 (i : grid0.Coords) : Fin 3 → Nat :=
  let c1_200 : Index := 1#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_183 : BitVec 32 := 128#32
  let v420 : BitVec 32 := Scalar.muli v218 c128_i32_183
  let v450 : Index := Scalar.indexCast v420
  let c0_201 : Index := 0#32
  ![1, v450.toNat, 0]
def k0_off63 (i : grid0.Coords) : Fin 3 → Nat :=
  let c2_219 : Index := 2#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32_216 : BitVec 32 := 2#32
  let v471 : BitVec 32 := Scalar.muli v218 c2_i32_216
  let c128_i32_217 : BitVec 32 := 128#32
  let v472 : BitVec 32 := Scalar.muli v471 c128_i32_217
  let v474 : Index := Scalar.indexCast v472
  let c0_220 : Index := 0#32
  ![2, v474.toNat, 0]
def k0_mult3 (i : grid0.Coords) : BitVec 32 :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_230 : BitVec 32 := 128#32
  let v494 : BitVec 32 := Scalar.muli v218 c128_i32_230
  let c32_i32_231 : BitVec 32 := 32#32
  let v495 : BitVec 32 := Scalar.muli arg0 c32_i32_231
  let c16_i32 : BitVec 32 := 16#32
  let v496 : BitVec 32 := Scalar.addi v495 c16_i32
  let v497 : BitVec 32 := Scalar.subi v494 v496
  let c160_i32_232 : BitVec 32 := 160#32
  let v498 : BitVec 32 := Scalar.addi v497 c160_i32_232
  v498
def k0_off64 (i : grid0.Coords) : Fin 3 → Nat :=
  let c2_234 : Index := 2#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_218 : BitVec 32 := 128#32
  let v473 : BitVec 32 := Scalar.muli v218 c128_i32_218
  let v503 : Index := Scalar.indexCast v473
  let c0_235 : Index := 0#32
  ![2, v503.toNat, 0]
def k0_off65 (i : grid0.Coords) : Fin 3 → Nat :=
  let c3_253 : Index := 3#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c2_i32_250 : BitVec 32 := 2#32
  let v524 : BitVec 32 := Scalar.muli v218 c2_i32_250
  let c128_i32_251 : BitVec 32 := 128#32
  let v525 : BitVec 32 := Scalar.muli v524 c128_i32_251
  let v527 : Index := Scalar.indexCast v525
  let c0_254 : Index := 0#32
  ![3, v527.toNat, 0]
def k0_mult4 (i : grid0.Coords) : BitVec 32 :=
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_264 : BitVec 32 := 128#32
  let v547 : BitVec 32 := Scalar.muli v218 c128_i32_264
  let c32_i32_265 : BitVec 32 := 32#32
  let v548 : BitVec 32 := Scalar.muli arg0 c32_i32_265
  let c24_i32 : BitVec 32 := 24#32
  let v549 : BitVec 32 := Scalar.addi v548 c24_i32
  let v550 : BitVec 32 := Scalar.subi v547 v549
  let c160_i32_266 : BitVec 32 := 160#32
  let v551 : BitVec 32 := Scalar.addi v550 c160_i32_266
  v551
def k0_off66 (i : grid0.Coords) : Fin 3 → Nat :=
  let c3_268 : Index := 3#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c128_i32_252 : BitVec 32 := 128#32
  let v526 : BitVec 32 := Scalar.muli v218 c128_i32_252
  let v556 : Index := Scalar.indexCast v526
  let c0_269 : Index := 0#32
  ![3, v556.toNat, 0]
@[reducible] def k0_t4_loop (i : grid0.Coords) : Scf.Loop 32 :=
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_288 : BitVec 32 := 1#32
  ⟨c0_i32_285, v582, c1_i32_288⟩
def k0_off67 (i : grid0.Coords) (k0_t4 : Fin (k0_t4_loop i).trips) : Fin 3 → Nat :=
  let c0_452 : Index := 0#32
  let c0_i32_285 : BitVec 32 := 0#32
  let c1_i32_288 : BitVec 32 := 1#32
  let arg27 : BitVec 32 := Scf.iv c0_i32_285 c1_i32_288 k0_t4
  let c128_i32_451 : BitVec 32 := 128#32
  let v993 : BitVec 32 := Scalar.muli arg27 c128_i32_451
  let v994 : Index := Scalar.indexCast v993
  let c0_453 : Index := 0#32
  ![0, v994.toNat, 0]
def k0_off68 (i : grid0.Coords) (k0_t4 : Fin (k0_t4_loop i).trips) : Fin 3 → Nat :=
  let c0_464 : Index := 0#32
  let c0_i32_285 : BitVec 32 := 0#32
  let c1_i32_288 : BitVec 32 := 1#32
  let arg27 : BitVec 32 := Scf.iv c0_i32_285 c1_i32_288 k0_t4
  let c128_i32_451 : BitVec 32 := 128#32
  let v993 : BitVec 32 := Scalar.muli arg27 c128_i32_451
  let v1010 : Index := Scalar.indexCast v993
  let c0_465 : Index := 0#32
  ![0, v1010.toNat, 0]
def k0_off69 (i : grid0.Coords) (k0_t4 : Fin (k0_t4_loop i).trips) : Fin 3 → Nat :=
  let c1_466 : Index := 1#32
  let c0_i32_285 : BitVec 32 := 0#32
  let c1_i32_288 : BitVec 32 := 1#32
  let arg27 : BitVec 32 := Scf.iv c0_i32_285 c1_i32_288 k0_t4
  let c128_i32_451 : BitVec 32 := 128#32
  let v993 : BitVec 32 := Scalar.muli arg27 c128_i32_451
  let v1015 : Index := Scalar.indexCast v993
  let c0_467 : Index := 0#32
  ![1, v1015.toNat, 0]
def k0_off70 (i : grid0.Coords) (k0_t4 : Fin (k0_t4_loop i).trips) : Fin 3 → Nat :=
  let c0_i32_285 : BitVec 32 := 0#32
  let c1_i32_288 : BitVec 32 := 1#32
  let arg27 : BitVec 32 := Scf.iv c0_i32_285 c1_i32_288 k0_t4
  let v1023 : Index := Scalar.indexCast arg27
  let c0_471 : Index := 0#32
  let c0_472 : Index := 0#32
  ![v1023.toNat, 0, 0]
def k0_off71 (i : grid0.Coords) (k0_t4 : Fin (k0_t4_loop i).trips) : Fin 3 → Nat :=
  let c1_478 : Index := 1#32
  let c0_i32_285 : BitVec 32 := 0#32
  let c1_i32_288 : BitVec 32 := 1#32
  let arg27 : BitVec 32 := Scf.iv c0_i32_285 c1_i32_288 k0_t4
  let c128_i32_477 : BitVec 32 := 128#32
  let v1031 : BitVec 32 := Scalar.muli arg27 c128_i32_477
  let v1032 : Index := Scalar.indexCast v1031
  let c0_479 : Index := 0#32
  ![1, v1032.toNat, 0]
def k0_off72 (i : grid0.Coords) (k0_t4 : Fin (k0_t4_loop i).trips) : Fin 3 → Nat :=
  let c2_504 : Index := 2#32
  let c0_i32_285 : BitVec 32 := 0#32
  let c1_i32_288 : BitVec 32 := 1#32
  let arg27 : BitVec 32 := Scf.iv c0_i32_285 c1_i32_288 k0_t4
  let c128_i32_503 : BitVec 32 := 128#32
  let v1069 : BitVec 32 := Scalar.muli arg27 c128_i32_503
  let v1070 : Index := Scalar.indexCast v1069
  let c0_505 : Index := 0#32
  ![2, v1070.toNat, 0]
def k0_off73 (i : grid0.Coords) (k0_t4 : Fin (k0_t4_loop i).trips) : Fin 3 → Nat :=
  let c3_530 : Index := 3#32
  let c0_i32_285 : BitVec 32 := 0#32
  let c1_i32_288 : BitVec 32 := 1#32
  let arg27 : BitVec 32 := Scf.iv c0_i32_285 c1_i32_288 k0_t4
  let c128_i32_529 : BitVec 32 := 128#32
  let v1107 : BitVec 32 := Scalar.muli arg27 c128_i32_529
  let v1108 : Index := Scalar.indexCast v1107
  let c0_531 : Index := 0#32
  ![3, v1108.toNat, 0]
@[reducible] def k0_t5_loop (i : grid0.Coords) : Scf.Loop 32 :=
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let v579 : BitVec 32 := Scalar.addi c0_i32_285 v578
  let c1_i32_289 : BitVec 32 := 1#32
  ⟨v582, v579, c1_i32_289⟩
def k0_off74 (i : grid0.Coords) (k0_t5 : Fin (k0_t5_loop i).trips) : Fin 3 → Nat :=
  let c0_452 : Index := 0#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_451 : BitVec 32 := 128#32
  let v993 : BitVec 32 := Scalar.muli arg27 c128_i32_451
  let v994 : Index := Scalar.indexCast v993
  let c0_453 : Index := 0#32
  ![0, v994.toNat, 0]
def k0_off75 (i : grid0.Coords) (k0_t5 : Fin (k0_t5_loop i).trips) : Fin 3 → Nat :=
  let c0_464 : Index := 0#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_451 : BitVec 32 := 128#32
  let v993 : BitVec 32 := Scalar.muli arg27 c128_i32_451
  let v1010 : Index := Scalar.indexCast v993
  let c0_465 : Index := 0#32
  ![0, v1010.toNat, 0]
def k0_off76 (i : grid0.Coords) (k0_t5 : Fin (k0_t5_loop i).trips) : Fin 3 → Nat :=
  let c1_466 : Index := 1#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_451 : BitVec 32 := 128#32
  let v993 : BitVec 32 := Scalar.muli arg27 c128_i32_451
  let v1015 : Index := Scalar.indexCast v993
  let c0_467 : Index := 0#32
  ![1, v1015.toNat, 0]
def k0_off77 (i : grid0.Coords) (k0_t5 : Fin (k0_t5_loop i).trips) : Fin 3 → Nat :=
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let v1023 : Index := Scalar.indexCast arg27
  let c0_471 : Index := 0#32
  let c0_472 : Index := 0#32
  ![v1023.toNat, 0, 0]
def k0_off78 (i : grid0.Coords) (k0_t5 : Fin (k0_t5_loop i).trips) : Fin 3 → Nat :=
  let c1_478 : Index := 1#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_477 : BitVec 32 := 128#32
  let v1031 : BitVec 32 := Scalar.muli arg27 c128_i32_477
  let v1032 : Index := Scalar.indexCast v1031
  let c0_479 : Index := 0#32
  ![1, v1032.toNat, 0]
def k0_off79 (i : grid0.Coords) (k0_t5 : Fin (k0_t5_loop i).trips) : Fin 3 → Nat :=
  let c2_504 : Index := 2#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_503 : BitVec 32 := 128#32
  let v1069 : BitVec 32 := Scalar.muli arg27 c128_i32_503
  let v1070 : Index := Scalar.indexCast v1069
  let c0_505 : Index := 0#32
  ![2, v1070.toNat, 0]
def k0_off80 (i : grid0.Coords) (k0_t5 : Fin (k0_t5_loop i).trips) : Fin 3 → Nat :=
  let c3_530 : Index := 3#32
  let c0_i32_285 : BitVec 32 := 0#32
  let arg0 : BitVec 32 := BitVec.ofNat 32 (i 0).val
  let c32_i32 : BitVec 32 := 32#32
  let v201 : BitVec 32 := Scalar.muli arg0 c32_i32
  let c0_i32_100 : BitVec 32 := 0#32
  let v203 : BitVec 1 := Scalar.cmpi .sgt v201 c0_i32_100
  let v204 : BitVec 32 := Scalar.extui v203
  let c0_i32_101 : BitVec 32 := 0#32
  let v205 : BitVec 1 := Scalar.cmpi .slt v201 c0_i32_101
  let v206 : BitVec 32 := Scalar.extui v205
  let v207 : BitVec 32 := Scalar.subi v204 v206
  let c128_i32 : BitVec 32 := 128#32
  let c0_i32_102 : BitVec 32 := 0#32
  let v208 : BitVec 1 := Scalar.cmpi .sgt c128_i32 c0_i32_102
  let v209 : BitVec 32 := Scalar.extui v208
  let c0_i32_103 : BitVec 32 := 0#32
  let v210 : BitVec 1 := Scalar.cmpi .slt c128_i32 c0_i32_103
  let v211 : BitVec 32 := Scalar.extui v210
  let v212 : BitVec 32 := Scalar.subi v209 v211
  let v213 : BitVec 1 := Scalar.cmpi .ne v207 v212
  let v214 : BitVec 32 := Scalar.remsi v201 c128_i32
  let c0_i32_104 : BitVec 32 := 0#32
  let v215 : BitVec 1 := Scalar.cmpi .ne v214 c0_i32_104
  let v216 : BitVec 1 := Scalar.andi v213 v215
  let v202 : BitVec 32 := Scalar.divsi v201 c128_i32
  let c1_i32_105 : BitVec 32 := 1#32
  let v217 : BitVec 32 := Scalar.subi v202 c1_i32_105
  let v218 : BitVec 32 := Scalar.select v216 v217 v202
  let c1_i32_284 : BitVec 32 := 1#32
  let v577 : BitVec 32 := Scalar.addi v218 c1_i32_284
  let v578 : BitVec 32 := Scalar.subi v577 c0_i32_285
  let c1_i32_287 : BitVec 32 := 1#32
  let v580 : BitVec 32 := Scalar.divsi v578 c1_i32_287
  let v581 : BitVec 32 := Scalar.muli v580 c1_i32_287
  let v582 : BitVec 32 := Scalar.addi c0_i32_285 v581
  let c1_i32_289 : BitVec 32 := 1#32
  let arg27 : BitVec 32 := Scf.iv v582 c1_i32_289 k0_t5
  let c128_i32_529 : BitVec 32 := 128#32
  let v1107 : BitVec 32 := Scalar.muli arg27 c128_i32_529
  let v1108 : Index := Scalar.indexCast v1107
  let c0_531 : Index := 0#32
  ![3, v1108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S9216x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9216x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1536x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x12x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x256x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x12x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1536x32 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x12x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1536x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x12x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale" => some ((((Real.sqrt 128)⁻¹ * (1 / 12)) * (Real.log 2)⁻¹ : ℝ) : EReal)
  | _ => none
-- ==== ReferenceIdeal.lean ====
abbrev S1x1536x6x32 : Shape := ⟨4, ![1, 1536, 6, 32]⟩
abbrev S1x1536x6 : Shape := ⟨3, ![1, 1536, 6]⟩
abbrev S1x1536x6x128 : Shape := ⟨4, ![1, 1536, 6, 128]⟩
abbrev S1x1536x2x32 : Shape := ⟨4, ![1, 1536, 2, 32]⟩
abbrev S1x1536x2 : Shape := ⟨3, ![1, 1536, 2]⟩
abbrev S1x1536x2x128 : Shape := ⟨4, ![1, 1536, 2, 128]⟩
abbrev S1x1536x2x1 : Shape := ⟨4, ![1, 1536, 2, 1]⟩
abbrev S1x2x32x1536 : Shape := ⟨4, ![1, 2, 32, 1536]⟩
abbrev S_ : Shape := ⟨0, ![]⟩
abbrev S1x1536x1x128 : Shape := ⟨4, ![1, 1536, 1, 128]⟩
abbrev S1x1536x128 : Shape := ⟨3, ![1, 1536, 128]⟩
abbrev S1x2x1536x128 : Shape := ⟨4, ![1, 2, 1536, 128]⟩
abbrev S1x2x1536 : Shape := ⟨3, ![1, 2, 1536]⟩
abbrev S1x1536x6x1 : Shape := ⟨4, ![1, 1536, 6, 1]⟩
abbrev S1x6x32x1536 : Shape := ⟨4, ![1, 6, 32, 1536]⟩
abbrev S1x6x1536x128 : Shape := ⟨4, ![1, 6, 1536, 128]⟩
abbrev S1x6x1536 : Shape := ⟨3, ![1, 6, 1536]⟩
abbrev S1x6x1536x2x1536 : Shape := ⟨5, ![1, 6, 1536, 2, 1536]⟩
abbrev S1x6x1536x1x1 : Shape := ⟨5, ![1, 6, 1536, 1, 1]⟩
abbrev S1x1x1x2x1536 : Shape := ⟨5, ![1, 1, 1, 2, 1536]⟩
abbrev S1x1x32x1536 : Shape := ⟨4, ![1, 1, 32, 1536]⟩
abbrev S1x32x1536 : Shape := ⟨3, ![1, 32, 1536]⟩
abbrev S1x32x1536x1 : Shape := ⟨4, ![1, 32, 1536, 1]⟩
abbrev S1x1x1536x1x1536 : Shape := ⟨5, ![1, 1, 1536, 1, 1536]⟩
abbrev S1x1536x1536 : Shape := ⟨3, ![1, 1536, 1536]⟩
abbrev S1x1x1536x1536 : Shape := ⟨4, ![1, 1, 1536, 1536]⟩
abbrev S1x32x1536x1536 : Shape := ⟨4, ![1, 32, 1536, 1536]⟩
abbrev S1x32x1x1536 : Shape := ⟨4, ![1, 32, 1, 1536]⟩
abbrev S1536 : Shape := ⟨1, ![1536]⟩
abbrev S1x1536 : Shape := ⟨2, ![1, 1536]⟩
abbrev S1536x1 : Shape := ⟨2, ![1536, 1]⟩
abbrev S1536x1536 : Shape := ⟨2, ![1536, 1536]⟩
abbrev S1x32x1536x128 : Shape := ⟨4, ![1, 32, 1536, 128]⟩
abbrev S1x1536x32x128 : Shape := ⟨4, ![1, 1536, 32, 128]⟩
abbrev S1x1536x4096 : Shape := ⟨3, ![1, 1536, 4096]⟩

abbrev nBuf : Space → Nat
  | .hbm => 245
  | .vmem => 12
  | .smem => 0
  | _ => 0

abbrev hbmTy0_0 (i : Nat) : BufTy := match i % 128 with
  | 0 => ⟨S1x1536x6x32, .f32⟩
  | 1 => ⟨S1x1536x6, .f32⟩
  | 2 => ⟨S1x1536x6x128, .f32⟩
  | 3 => ⟨S1x1536x6, .f32⟩
  | 4 => ⟨S1x1536x2x32, .f32⟩
  | 5 => ⟨S1x1536x2, .f32⟩
  | 6 => ⟨S1x1536x2x128, .f32⟩
  | 7 => ⟨S1x1536x2, .f32⟩
  | 8 => ⟨S1x1536x2x32, .fp8e4m3⟩
  | 9 => ⟨S1x1536x2, .f32⟩
  | 10 => ⟨S1x1536x2x128, .fp8e4m3⟩
  | 11 => ⟨S1x1536x2, .f32⟩
  | 12 => ⟨S1x1536x6x32, .fp8e4m3⟩
  | 13 => ⟨S1x1536x6x128, .fp8e4m3⟩
  | 14 => ⟨S1x1536x2x32, .fp8e4m3⟩
  | 15 => ⟨S1x1536x2x128, .fp8e4m3⟩
  | 16 => ⟨S1x1536x6x32, .f32⟩
  | 17 => ⟨S1x1536x6x128, .f32⟩
  | 18 => ⟨S1x1536x2x32, .f32⟩
  | 19 => ⟨S1x1536x2x128, .f32⟩
  | 20 => ⟨S1x1536x2x32, .f32⟩
  | 21 => ⟨S1x1536x2x128, .bf16⟩
  | 22 => ⟨S1x1536x2x1, .f32⟩
  | 23 => ⟨S1x1536x2x32, .f32⟩
  | 24 => ⟨S1x1536x2x32, .f32⟩
  | 25 => ⟨S1x2x32x1536, .f32⟩
  | 26 => ⟨S1x1536x2x1, .f32⟩
  | 27 => ⟨S1x1536x2x32, .f32⟩
  | 28 => ⟨S1x1536x2x32, .f32⟩
  | 29 => ⟨S_, .f32⟩
  | 30 => ⟨S1x1536x2, .f32⟩
  | 31 => ⟨S1x1536x2, .f32⟩
  | 32 => ⟨S1x1536x2x1, .f32⟩
  | 33 => ⟨S1x1536x2x32, .f32⟩
  | 34 => ⟨S1x1536x2x32, .f32⟩
  | 35 => ⟨S1x2x32x1536, .f32⟩
  | 36 => ⟨S1x1536x1x128, .bf16⟩
  | 37 => ⟨S1x1536x128, .bf16⟩
  | 38 => ⟨S1x1536x1x128, .bf16⟩
  | 39 => ⟨S1x1536x128, .bf16⟩
  | 40 => ⟨S1x2x1536x128, .f32⟩
  | 41 => ⟨S1x2x1536, .f32⟩
  | 42 => ⟨S1x1536x6x1, .f32⟩
  | 43 => ⟨S1x1536x6x32, .f32⟩
  | 44 => ⟨S1x1536x6x32, .f32⟩
  | 45 => ⟨S1x6x32x1536, .f32⟩
  | 46 => ⟨S1x6x1536x128, .f32⟩
  | 47 => ⟨S1x6x1536, .f32⟩
  | 48 => ⟨S1x6x1536x2x1536, .f32⟩
  | 49 => ⟨S1x6x1536x1x1, .f32⟩
  | 50 => ⟨S1x1x1x2x1536, .f32⟩
  | 51 => ⟨S1x6x1536x2x1536, .f32⟩
  | 52 => ⟨S1x6x1536x2x1536, .f32⟩
  | 53 => ⟨S1x6x1536x2x1536, .f32⟩
  | 54 => ⟨S1x6x1536x2x1536, .f32⟩
  | 55 => ⟨S1x1x32x1536, .f32⟩
  | 56 => ⟨S1x32x1536, .f32⟩
  | 57 => ⟨S1x32x1536x1, .f32⟩
  | 58 => ⟨S1x1x1536x1x1536, .f32⟩
  | 59 => ⟨S1x1536x1536, .f32⟩
  | 60 => ⟨S1x1x1536x1536, .f32⟩
  | 61 => ⟨S1x32x1536x1536, .f32⟩
  | 62 => ⟨S1x32x1536x1536, .f32⟩
  | 63 => ⟨S1x32x1536x1536, .f32⟩
  | 64 => ⟨S_, .f32⟩
  | 65 => ⟨S1x32x1536x1536, .f32⟩
  | 66 => ⟨S1x32x1536x1536, .f32⟩
  | 67 => ⟨S1x1x32x1536, .f32⟩
  | 68 => ⟨S1x32x1536, .f32⟩
  | 69 => ⟨S1x32x1536x1, .f32⟩
  | 70 => ⟨S1x1x1536x1x1536, .f32⟩
  | 71 => ⟨S1x1536x1536, .f32⟩
  | 72 => ⟨S1x1x1536x1536, .f32⟩
  | 73 => ⟨S1x32x1536x1536, .f32⟩
  | 74 => ⟨S1x32x1536x1536, .f32⟩
  | 75 => ⟨S1x32x1536x1536, .f32⟩
  | 76 => ⟨S1x32x1536x1536, .f32⟩
  | 77 => ⟨S1x1x32x1536, .f32⟩
  | 78 => ⟨S1x32x1536, .f32⟩
  | 79 => ⟨S1x32x1536x1, .f32⟩
  | 80 => ⟨S1x1x1536x1x1536, .f32⟩
  | 81 => ⟨S1x1536x1536, .f32⟩
  | 82 => ⟨S1x1x1536x1536, .f32⟩
  | 83 => ⟨S1x32x1536x1536, .f32⟩
  | 84 => ⟨S1x32x1536x1536, .f32⟩
  | 85 => ⟨S1x32x1536x1536, .f32⟩
  | 86 => ⟨S1x32x1536x1536, .f32⟩
  | 87 => ⟨S1x1x32x1536, .f32⟩
  | 88 => ⟨S1x32x1536, .f32⟩
  | 89 => ⟨S1x32x1536x1, .f32⟩
  | 90 => ⟨S1x1x1536x1x1536, .f32⟩
  | 91 => ⟨S1x1536x1536, .f32⟩
  | 92 => ⟨S1x1x1536x1536, .f32⟩
  | 93 => ⟨S1x32x1536x1536, .f32⟩
  | 94 => ⟨S1x32x1536x1536, .f32⟩
  | 95 => ⟨S1x32x1536x1536, .f32⟩
  | 96 => ⟨S1x32x1536x1536, .f32⟩
  | 97 => ⟨S1x1x32x1536, .f32⟩
  | 98 => ⟨S1x32x1536, .f32⟩
  | 99 => ⟨S1x32x1536x1, .f32⟩
  | 100 => ⟨S1x1x1536x1x1536, .f32⟩
  | 101 => ⟨S1x1536x1536, .f32⟩
  | 102 => ⟨S1x1x1536x1536, .f32⟩
  | 103 => ⟨S1x32x1536x1536, .f32⟩
  | 104 => ⟨S1x32x1536x1536, .f32⟩
  | 105 => ⟨S1x32x1536x1536, .f32⟩
  | 106 => ⟨S1x32x1536x1536, .f32⟩
  | 107 => ⟨S1x1x32x1536, .f32⟩
  | 108 => ⟨S1x32x1536, .f32⟩
  | 109 => ⟨S1x32x1536x1, .f32⟩
  | 110 => ⟨S1x1x1536x1x1536, .f32⟩
  | 111 => ⟨S1x1536x1536, .f32⟩
  | 112 => ⟨S1x1x1536x1536, .f32⟩
  | 113 => ⟨S1x32x1536x1536, .f32⟩
  | 114 => ⟨S1x32x1536x1536, .f32⟩
  | 115 => ⟨S1x32x1536x1536, .f32⟩
  | 116 => ⟨S1x32x1536x1536, .f32⟩
  | 117 => ⟨S1x1x32x1536, .f32⟩
  | 118 => ⟨S1x32x1536, .f32⟩
  | 119 => ⟨S1x32x1x1536, .f32⟩
  | 120 => ⟨S1x32x1536x1536, .f32⟩
  | 121 => ⟨S1x32x1536x1536, .f32⟩
  | 122 => ⟨S_, .f32⟩
  | 123 => ⟨S1x32x1536x1536, .f32⟩
  | 124 => ⟨S1x32x1536x1536, .f32⟩
  | 125 => ⟨S1x1x32x1536, .f32⟩
  | 126 => ⟨S1x32x1536, .f32⟩
  | 127 => ⟨S1x32x1536x1, .f32⟩
  | _ => ⟨S1x1536x6x32, .f32⟩

abbrev hbmTy0_1 (i : Nat) : BufTy := match i % 128 with
  | 0 => ⟨S1x1x1536x1x1536, .f32⟩
  | 1 => ⟨S1x1536x1536, .f32⟩
  | 2 => ⟨S1x1x1536x1536, .f32⟩
  | 3 => ⟨S1x32x1536x1536, .f32⟩
  | 4 => ⟨S1x32x1536x1536, .f32⟩
  | 5 => ⟨S1x32x1536x1536, .f32⟩
  | 6 => ⟨S_, .f32⟩
  | 7 => ⟨S1x32x1536x1536, .f32⟩
  | 8 => ⟨S1x32x1536x1536, .f32⟩
  | 9 => ⟨S1x1x32x1536, .f32⟩
  | 10 => ⟨S1x32x1536, .f32⟩
  | 11 => ⟨S1x32x1536x1, .f32⟩
  | 12 => ⟨S1x1x1536x1x1536, .f32⟩
  | 13 => ⟨S1x1536x1536, .f32⟩
  | 14 => ⟨S1x1x1536x1536, .f32⟩
  | 15 => ⟨S1x32x1536x1536, .f32⟩
  | 16 => ⟨S1x32x1536x1536, .f32⟩
  | 17 => ⟨S1x32x1536x1536, .f32⟩
  | 18 => ⟨S1x32x1536x1536, .f32⟩
  | 19 => ⟨S1x1x32x1536, .f32⟩
  | 20 => ⟨S1x32x1536, .f32⟩
  | 21 => ⟨S1x32x1536x1, .f32⟩
  | 22 => ⟨S1x1x1536x1x1536, .f32⟩
  | 23 => ⟨S1x1536x1536, .f32⟩
  | 24 => ⟨S1x1x1536x1536, .f32⟩
  | 25 => ⟨S1x32x1536x1536, .f32⟩
  | 26 => ⟨S1x32x1536x1536, .f32⟩
  | 27 => ⟨S1x32x1536x1536, .f32⟩
  | 28 => ⟨S1x32x1536x1536, .f32⟩
  | 29 => ⟨S1x1x32x1536, .f32⟩
  | 30 => ⟨S1x32x1536, .f32⟩
  | 31 => ⟨S1x32x1536x1, .f32⟩
  | 32 => ⟨S1x1x1536x1x1536, .f32⟩
  | 33 => ⟨S1x1536x1536, .f32⟩
  | 34 => ⟨S1x1x1536x1536, .f32⟩
  | 35 => ⟨S1x32x1536x1536, .f32⟩
  | 36 => ⟨S1x32x1536x1536, .f32⟩
  | 37 => ⟨S1x32x1536x1536, .f32⟩
  | 38 => ⟨S1x32x1536x1536, .f32⟩
  | 39 => ⟨S1x1x32x1536, .f32⟩
  | 40 => ⟨S1x32x1536, .f32⟩
  | 41 => ⟨S1x32x1536x1, .f32⟩
  | 42 => ⟨S1x1x1536x1x1536, .f32⟩
  | 43 => ⟨S1x1536x1536, .f32⟩
  | 44 => ⟨S1x1x1536x1536, .f32⟩
  | 45 => ⟨S1x32x1536x1536, .f32⟩
  | 46 => ⟨S1x32x1536x1536, .f32⟩
  | 47 => ⟨S1x32x1536x1536, .f32⟩
  | 48 => ⟨S1x32x1536x1536, .f32⟩
  | 49 => ⟨S1x1x32x1536, .f32⟩
  | 50 => ⟨S1x32x1536, .f32⟩
  | 51 => ⟨S1x32x1536x1, .f32⟩
  | 52 => ⟨S1x1x1536x1x1536, .f32⟩
  | 53 => ⟨S1x1536x1536, .f32⟩
  | 54 => ⟨S1x1x1536x1536, .f32⟩
  | 55 => ⟨S1x32x1536x1536, .f32⟩
  | 56 => ⟨S1x32x1536x1536, .f32⟩
  | 57 => ⟨S1x32x1536x1536, .f32⟩
  | 58 => ⟨S1x32x1536x1536, .f32⟩
  | 59 => ⟨S1x1x32x1536, .f32⟩
  | 60 => ⟨S1x32x1536, .f32⟩
  | 61 => ⟨S1x32x1x1536, .f32⟩
  | 62 => ⟨S1x32x1536x1536, .f32⟩
  | 63 => ⟨S1x32x1536x1536, .f32⟩
  | 64 => ⟨S1x32x1536x1536, .f32⟩
  | 65 => ⟨S_, .f32⟩
  | 66 => ⟨S_, .f32⟩
  | 67 => ⟨S_, .f32⟩
  | 68 => ⟨S_, .f32⟩
  | 69 => ⟨S1x32x1536x1536, .f32⟩
  | 70 => ⟨S1x32x1536x1536, .f32⟩
  | 71 => ⟨S1536, .i32⟩
  | 72 => ⟨S1x1536, .i32⟩
  | 73 => ⟨S1536x1, .i32⟩
  | 74 => ⟨S1536x1536, .i32⟩
  | 75 => ⟨S1536x1536, .i32⟩
  | 76 => ⟨S1536x1536, .i1⟩
  | 77 => ⟨S_, .f32⟩
  | 78 => ⟨S_, .f32⟩
  | 79 => ⟨S1x32x1536x1536, .i1⟩
  | 80 => ⟨S1x32x1536x1536, .f32⟩
  | 81 => ⟨S1x32x1536x1536, .f32⟩
  | 82 => ⟨S_, .f32⟩
  | 83 => ⟨S1x32x1536, .f32⟩
  | 84 => ⟨S1x32x1536x1, .f32⟩
  | 85 => ⟨S1x32x1536x1536, .f32⟩
  | 86 => ⟨S1x32x1536x1536, .f32⟩
  | 87 => ⟨S1x32x1536x1536, .f32⟩
  | 88 => ⟨S_, .f32⟩
  | 89 => ⟨S1x32x1536, .f32⟩
  | 90 => ⟨S1x32x1536x1, .f32⟩
  | 91 => ⟨S1x32x1536x1536, .f32⟩
  | 92 => ⟨S1x32x1536x1536, .f32⟩
  | 93 => ⟨S1x32x1536x1, .f32⟩
  | 94 => ⟨S1x32x1536x1, .f32⟩
  | 95 => ⟨S1x32x1536, .f32⟩
  | 96 => ⟨S1x1x32x1536, .f32⟩
  | 97 => ⟨S1x32x1536, .f32⟩
  | 98 => ⟨S1x32x1x1536, .f32⟩
  | 99 => ⟨S1x32x1536x1536, .f32⟩
  | 100 => ⟨S1x32x1536x1536, .f32⟩
  | 101 => ⟨S1x32x1536x1536, .bf16⟩
  | 102 => ⟨S1x32x1536x128, .f32⟩
  | 103 => ⟨S_, .f32⟩
  | 104 => ⟨S1x32x1536x128, .f32⟩
  | 105 => ⟨S1x32x1536x128, .f32⟩
  | 106 => ⟨S1x1x32x1536, .f32⟩
  | 107 => ⟨S1x32x1536, .f32⟩
  | 108 => ⟨S1x32x1x1536, .f32⟩
  | 109 => ⟨S1x32x1536x1536, .f32⟩
  | 110 => ⟨S1x32x1536x1536, .f32⟩
  | 111 => ⟨S1x32x1536x1536, .bf16⟩
  | 112 => ⟨S1x32x1536x128, .f32⟩
  | 113 => ⟨S1x32x1536x128, .f32⟩
  | 114 => ⟨S1x1536x32x128, .f32⟩
  | 115 => ⟨S1x1536x4096, .f32⟩
  | 116 => ⟨S1x1536x4096, .bf16⟩
  | _ => ⟨S1x1536x6x32, .f32⟩

abbrev hbmTy (i : Nat) : BufTy := match i / 128 with
  | 0 => hbmTy0_0 i
  | 1 => hbmTy0_1 i
  | _ => ⟨S1x1536x6x32, .f32⟩

abbrev bufTy : (tb : Table) → Fin (tcTables nBuf tb) → BufTy
  | .hbm, ⟨i, _⟩ => hbmTy i
  | .local _ .vmem, ⟨0, _⟩ => ⟨S1x1536x6x32, .fp8e4m3⟩
  | .local _ .vmem, ⟨1, _⟩ => ⟨S1x1536x6x128, .fp8e4m3⟩
  | .local _ .vmem, ⟨2, _⟩ => ⟨S1x1536x2x32, .fp8e4m3⟩
  | .local _ .vmem, ⟨3, _⟩ => ⟨S1x1536x2x128, .fp8e4m3⟩
  | .local _ .vmem, ⟨4, _⟩ => ⟨S1x1536x2x32, .fp8e4m3⟩
  | .local _ .vmem, ⟨5, _⟩ => ⟨S1x1536x2x128, .fp8e4m3⟩
  | .local _ .vmem, ⟨6, _⟩ => ⟨S1x1536x6x32, .f32⟩
  | .local _ .vmem, ⟨7, _⟩ => ⟨S1x1536x6x128, .f32⟩
  | .local _ .vmem, ⟨8, _⟩ => ⟨S1x1536x2x32, .f32⟩
  | .local _ .vmem, ⟨9, _⟩ => ⟨S1x1536x2x128, .f32⟩
  | .local _ .vmem, ⟨10, _⟩ => ⟨S1x1536x2x32, .f32⟩
  | .local _ .vmem, ⟨11, _⟩ => ⟨S1x1536x2x128, .bf16⟩
  | _, _ => ⟨S1x1536x6x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_1 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_2 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_cst_3 : Ref sig .tc := ⟨.hbm, 193, rfl⟩
abbrev main_v172 : Ref sig .tc := ⟨.hbm, 194, rfl⟩
abbrev main_cst_4 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_cst_5 : Ref sig .tc := ⟨.hbm, 205, rfl⟩
abbrev main_call0_v0 : Ref sig .tc := ⟨.hbm, 206, rfl⟩
abbrev main_call0_v1 : Ref sig .tc := ⟨.hbm, 207, rfl⟩
abbrev main_call0_v2 : Ref sig .tc := ⟨.hbm, 208, rfl⟩
abbrev main_v182 : Ref sig .tc := ⟨.hbm, 209, rfl⟩
abbrev main_cst_6 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_cst_7 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_cst_8 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1536x6x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536x6x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536x2x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536x2x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536x6x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536x6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536x2x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536x2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1536x2x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Step.lean ====
/- Programs over a family of buffers, gone through one operation at a time. `WP O p Q s`: with the buffers held as `O s`
   says, `p` runs and ends with a value and a state that `Q` relates. The buffers a program names are found by instance
   (`Rd`, `Wr`), a load reads a window of the state and a store puts its payload over one. -/
module

public import Idealize.ShloMosaic.Lib.VecWindow
public import Idealize.ShloMosaic.Lib.Scf

@[expose] public section

noncomputable section

namespace Cert.Proof.Step

open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Val : EltTy → Type} {U : Type} [URA U] {Λ : Labels}

local notation "𝕄" => MT nD τ sig Unit Val ℕ U ℕ

/-- One summand out of a finite separating conjunction, and back at any value that changes no other. -/
theorem bigSep_take {M : Type} [URA M] {I : Type} [Fintype I] [DecidableEq I] (Φ : I → sProp M) (b : I) {X : Type} (Ψ : X → I → sProp M)
    (h : ∀ x j, j ≠ b → Ψ x j = Φ j) : BI.bigSep Finset.univ Φ ⊢ iprop(Φ b ∗ (∀ x, Ψ x b -∗ BI.bigSep Finset.univ (Ψ x))) := by
  have eΨ : ∀ x, BI.bigSep Finset.univ (Ψ x) = iprop(Ψ x b ∗ BI.bigSep (Finset.univ.erase b) Φ) := fun x =>
    (BI.bigSep_univ_split b).trans (congrArg (BI.sep (Ψ x b))
      (BI.bigSep_congr (s := Finset.univ.erase b) fun j hj => h x j (Finset.ne_of_mem_erase hj)))
  rw [show BI.bigSep Finset.univ Φ = iprop(Φ b ∗ BI.bigSep (Finset.univ.erase b) Φ) from BI.bigSep_univ_split b]
  iintro ⟨Hb, Hr⟩
  isplitl [Hb]; · iexact Hb
  iintro %x Hx
  rw [eΨ x]
  isplitl [Hx] <;> iassumption

/-- What a buffer family `O` is, at a state of type `S`, on core `c` of a program with definitions `defs`. -/
structure Fam (nD : Nat) (τ : Topo) (sig : RefSig) (Val : EltTy → Type) (U : Type) [URA U] (Λ : Labels) (S : Type) where
  /-- The definitions in scope. -/
  defs : Defs nD τ sig Val Λ
  /-- The core. -/
  c : Dev nD
  /-- The buffers, held at a state. -/
  own : S → sProp (MT nD τ sig Unit Val ℕ U ℕ)

variable {S : Type} (O : Fam nD τ sig Val U Λ S)

/-- With the buffers held at `s`, `p` runs, and ends with a value and a state that `Q` relates. -/
def WP {α : Type} (p : Prog (TpuEff nD τ sig Val Λ .tc) α) (Q : α → S → Prop) (s : S) : Prop :=
  O.own s ⊢ wp frame (wpE O.defs Variants.none (O.c : Thread nD τ) none) Set.univ p (fun a => iprop(∃ s', ⌜Q a s'⌝ ∗ O.own s'))

/-- A memref that the family holds and a program may load from. -/
class Rd {sp : CoreSpace} {sh : Shape} {e : EltTy} (m : Memref sig .tc sp sh e) where
  /-- What it holds at a state. -/
  get : S → sh.Idx → Val e
  /-- It can be taken out of the family and put back. -/
  out : ∀ s, O.own s ⊢ iprop(owns (O.c : Thread nD τ) m fullShare (get s) ∗ (owns (O.c : Thread nD τ) m fullShare (get s) -∗ O.own s))

/-- A memref that a program may store into. -/
class Wr {sp : CoreSpace} {sh : Shape} {e : EltTy} (m : Memref sig .tc sp sh e) where
  /-- What it holds at a state. -/
  get : S → sh.Idx → Val e
  /-- The state with new contents. -/
  set : S → (sh.Idx → Val e) → S
  /-- It can be taken out of the family and put back at any contents. -/
  out : ∀ s, O.own s ⊢ iprop(owns (O.c : Thread nD τ) m fullShare (get s) ∗ (∀ x, owns (O.c : Thread nD τ) m fullShare x -∗ O.own (set s x)))

variable {α β : Type} {Q : α → S → Prop} {s : S}

/-- A value runs to itself. -/
theorem WP.pure {a : α} (h : Q a s) : WP O (Pure.pure a) Q s := by
  unfold WP; rw [wp_pure]
  iintro H; imodintro; iexists s; isplitr; · ipureintro; exact h
  iexact H

/-- A weaker post. -/
theorem WP.mono {p : Prog (TpuEff nD τ sig Val Λ .tc) α} {R : α → S → Prop} (h : WP O p R s) (hR : ∀ a s', R a s' → Q a s') : WP O p Q s := by
  unfold WP at *
  refine h.trans (wp_mono _ _ _ fun a => ?_)
  iintro ⟨%s', %hr, H⟩; iexists s'; isplitr; · ipureintro; exact hR a s' hr
  iexact H

/-- One program after another. -/
theorem WP.bind {p : Prog (TpuEff nD τ sig Val Λ .tc) β} {k : β → Prog (TpuEff nD τ sig Val Λ .tc) α} {R : β → S → Prop}
    (h : WP O p R s) (hk : ∀ b s', R b s' → WP O (k b) Q s') : WP O (p >>= k) Q s := by
  unfold WP at *
  rw [wp_bind]
  refine h.trans (wp_mono _ _ _ fun a => ?_)
  iintro ⟨%s', %hr, H⟩
  iapply (hk a s' hr); iexact H

/-- The last program of a sequence is followed by nothing. -/
theorem WP.last {p : Prog (TpuEff nD τ sig Val Λ .tc) α} (h : WP O (p >>= Pure.pure) Q s) : WP O p Q s := by
  unfold WP at *
  rw [wp_bind] at h
  refine h.trans ?_
  have e : (fun a : α => wp frame (wpE O.defs Variants.none (O.c : Thread nD τ) none) Set.univ (Pure.pure a : Prog (TpuEff nD τ sig Val Λ .tc) α) (fun a => iprop(∃ s', ⌜Q a s'⌝ ∗ O.own s')))
    = fun a => iprop(|={Set.univ}[frame]=> (∃ s', ⌜Q a s'⌝ ∗ O.own s')) := funext fun a => wp_pure ..
  rw [← wp_bind, bind_pure]

section Ops

variable {sp : CoreSpace} {sh : Shape} {e : EltTy} {m : Memref sig .tc sp sh e}
variable {off size : Fin sh.rank → ℕ} {inb : ∀ a, off a + size a ≤ sh.size a}

/-- A load reads the window of what its memref holds. -/
theorem WP.load [C : Rd O m] {hl : m.view.LoadsAt (Rect.unit off size inb).toLoadRect}
    {k : ((Rect.unit off size inb).shape.Idx → Val e) → Prog (TpuEff nD τ sig Val Λ .tc) α}
    (h : WP O (k (VecWindow.window (C.get s) off size inb)) Q s) :
    WP O (Prog.lift (.load m (Rect.unit off size inb).toLoadRect hl) >>= k) Q s := by
  unfold WP at *
  refine (C.out s).trans ?_
  unfold owns
  iintro ⟨⟨%f, %hf, Hm⟩, Hr⟩
  iapply (wp_load Variants.none (O.c : Thread nD τ) none Set.univ (S := m.view.set) (q := fullShare) (f := f) (m.view.setOn_subset_set _)) $$ Hm
  iintro Hm
  rw [View.readAt_unit m.view f inb rfl inb, hf]
  iapply h
  iapply Hr; iexists f; isplitr; · ipureintro; exact hf
  iexact Hm

/-- A store puts its payload over the window. -/
theorem WP.store [C : Wr O m] {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ .tc) α}
    (h : WP O (k ⟨⟩) Q (C.set s (VecWindow.put (C.get s) off size w))) :
    WP O (Prog.lift (.store m (Rect.unit off size inb) w Finset.univ hx hm) >>= k) Q s := by
  unfold WP at *
  refine (C.out s).trans ?_
  unfold owns
  iintro ⟨⟨%f, %hf, Hm⟩, Hr⟩
  iapply (wp_store_writes₀ Variants.none (O.c : Thread nD τ) none Set.univ (S := m.view.set) (f := f)
    (by have := m.setOn_access_subset (Rect.unit off size inb) Finset.univ; rwa [View.setOn_univ] at this)) $$ Hm
  iintro Hm
  iapply h
  iapply Hr; iexists _; isplitr
  · ipureintro
    rw [View.read_writes_cons_put m.view f inb w [] rfl, View.writes_nil, hf]
  iexact Hm

end Ops

/-- A counted loop, by an invariant of the carried value and the state. -/
theorem WP.loop {w : ℕ} {l : Scf.Loop w} {hok : l.OK} {init : β} {body : Fin l.trips → β → Prog (TpuEff nD τ sig Val Λ .tc) β}
    {k : β → Prog (TpuEff nD τ sig Val Λ .tc) α} (I : ℕ → β → S → Prop) (h0 : I 0 init s)
    (hb : ∀ (t : Fin l.trips) acc s', I t.val acc s' → WP O (body t acc) (I (t.val + 1)) s')
    (hk : ∀ acc s', I l.trips acc s' → WP O (k acc) Q s') :
    WP O (Scf.Loop.for l hok init body >>= k) Q s := by
  refine WP.bind O (R := I l.trips) ?_ hk
  unfold WP
  have := Scf.wp_for frame (wpE O.defs Variants.none (O.c : Thread nD τ) none) Set.univ l.lb l.ub l.st hok init body
    (fun n acc => iprop(∃ s', ⌜I n acc s'⌝ ∗ O.own s'))
    (fun t acc => by
      iintro ⟨%s', %hi, H⟩
      have hb' := hb t acc s' hi
      unfold WP at hb'
      iapply hb'; iexact H)
    (Q := fun acc => iprop(∃ s', ⌜I l.trips acc s'⌝ ∗ O.own s'))
  refine .trans ?_ this
  iintro H; isplitl [H]
  · iexists s; isplitr; · ipureintro; exact h0
    iexact H
  · iintro %acc H; iexact H

/-! ## Runs of which nothing is said but that they run -/

/-- From every state `p` runs. -/
def Safe (p : Prog (TpuEff nD τ sig Val Λ .tc) α) : Prop := ∀ s, WP O p (fun _ _ => True) s

theorem Safe.pure {a : α} : Safe O (Pure.pure a) := fun _ => WP.pure O trivial

theorem Safe.last {p : Prog (TpuEff nD τ sig Val Λ .tc) α} (h : Safe O (p >>= Pure.pure)) : Safe O p := fun s => WP.last O (h s)

theorem Safe.bind {p : Prog (TpuEff nD τ sig Val Λ .tc) β} {k : β → Prog (TpuEff nD τ sig Val Λ .tc) α}
    (h : Safe O p) (hk : ∀ b, Safe O (k b)) : Safe O (p >>= k) := fun s => WP.bind O (h s) fun b s' _ => hk b s'

theorem Safe.load {sp : CoreSpace} {sh : Shape} {e : EltTy} {m : Memref sig .tc sp sh e} {off size : Fin sh.rank → ℕ} {inb : ∀ a, off a + size a ≤ sh.size a}
    [Rd O m] {hl : m.view.LoadsAt (Rect.unit off size inb).toLoadRect}
    {k : ((Rect.unit off size inb).shape.Idx → Val e) → Prog (TpuEff nD τ sig Val Λ .tc) α} (h : ∀ x, Safe O (k x)) :
    Safe O (Prog.lift (.load m (Rect.unit off size inb).toLoadRect hl) >>= k) := fun s => WP.load O (h _ s)

theorem Safe.store {sp : CoreSpace} {sh : Shape} {e : EltTy} {m : Memref sig .tc sp sh e} {off size : Fin sh.rank → ℕ} {inb : ∀ a, off a + size a ≤ sh.size a}
    [Wr O m] {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ .tc) α} (h : Safe O (k ⟨⟩)) :
    Safe O (Prog.lift (.store m (Rect.unit off size inb) w Finset.univ hx hm) >>= k) := fun s => WP.store O (h _)

theorem Safe.loop {w : ℕ} {l : Scf.Loop w} {hok : l.OK} {init : β} {body : Fin l.trips → β → Prog (TpuEff nD τ sig Val Λ .tc) β}
    {k : β → Prog (TpuEff nD τ sig Val Λ .tc) α} (hb : ∀ t acc, Safe O (body t acc)) (hk : ∀ b, Safe O (k b)) :
    Safe O (Scf.Loop.for l hok init body >>= k) := fun s =>
  WP.loop O (fun _ _ _ => True) trivial (fun t acc s' _ => hb t acc s') fun b s' _ => hk b s'

end Cert.Proof.Step

end
-- ==== Proof.CellsB.lean ====
/- The buffers of the kernel `Kernel` as one family: what each holds is a field of `In` (the staged inputs, never stored
   into) or of `Sc` (the results' staging buffers and the scratch), and each memref is found by instance. -/
module

public import proofs.«01_k».proof.Proof.Step
public import proofs.«01_k».proof.Proof.Gen.Kernel.Frame

@[expose] public section

noncomputable section

namespace Cert.Proof.Kernel

open Cert.Kernel Cert.Kernel.Gen Cert.Proof.Step
open Idealize.ShloMosaic Idealize.ShloMosaic.TcCoe
open Idealize.SL Idealize.SL.BI
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (UR sig nD τ) ℕ

/-- The memrefs the kernel body is called with, each a whole buffer. -/
structure Args where
  a1 : Memref sig .tc .vmem S9216x32 .fp8e4m3
  h1 : a1.IsWhole
  a2 : Memref sig .tc .vmem S1x1x192 .f32
  h2 : a2.IsWhole
  a3 : Memref sig .tc .vmem S9216x128 .fp8e4m3
  h3 : a3.IsWhole
  a4 : Memref sig .tc .vmem S1x1x192 .f32
  h4 : a4.IsWhole
  a5 : Memref sig .tc .vmem S2x1536x32 .fp8e4m3
  h5 : a5.IsWhole
  a6 : Memref sig .tc .vmem S2x12x1x128 .f32
  h6 : a6.IsWhole
  a7 : Memref sig .tc .vmem S12x256x128 .fp8e4m3
  h7 : a7.IsWhole
  a8 : Memref sig .tc .vmem S2x12x1x128 .f32
  h8 : a8.IsWhole
  a9 : Memref sig .tc .vmem S2x1536x32 .fp8e4m3
  h9 : a9.IsWhole
  a10 : Memref sig .tc .vmem S2x12x1x128 .f32
  h10 : a10.IsWhole
  a11 : Memref sig .tc .vmem S2x1536x128 .fp8e4m3
  h11 : a11.IsWhole
  a12 : Memref sig .tc .vmem S2x12x1x128 .f32
  h12 : a12.IsWhole
  a13 : Memref sig .tc .vmem S32x4096 .bf16
  h13 : a13.IsWhole
  a14 : Memref sig .tc .vmem S1x4x256 .f32
  h14 : a14.IsWhole
  a15 : Memref sig .tc .vmem S2x1536x256 .f32
  h15 : a15.IsWhole
  a16 : Memref sig .tc .vmem S2x1536x256 .f32
  h16 : a16.IsWhole
  a17 : Memref sig .tc .vmem S12x128x256 .bf16
  h17 : a17.IsWhole
  a18 : Memref sig .tc .vmem S288x256 .f32
  h18 : a18.IsWhole
  a19 : Memref sig .tc .vmem S4x3072x128 .bf16
  h19 : a19.IsWhole
  a20 : Memref sig .tc .vmem S3072x128 .bf16
  h20 : a20.IsWhole
  a21 : Memref sig .tc .vmem S4x256x256 .bf16
  h21 : a21.IsWhole
  a22 : Memref sig .tc .vmem S4x1536x256 .f32
  h22 : a22.IsWhole
  a23 : Memref sig .tc .vmem S4x8x256 .f32
  h23 : a23.IsWhole
  a24 : Memref sig .tc .vmem S4x8x256 .f32
  h24 : a24.IsWhole
  a25 : Memref sig .tc .vmem S4x128x256 .f32
  h25 : a25.IsWhole
  a26 : Memref sig .tc .vmem S192x128 .f32
  h26 : a26.IsWhole

/-- What the staged inputs hold. -/
structure In (F : FTy → Type) where
  /-- The query A codes. -/
  x1 : Vec F S9216x32 .fp8e4m3
  /-- The query A scales. -/
  x2 : Vec F S1x1x192 .f32
  /-- The query B codes. -/
  x3 : Vec F S9216x128 .fp8e4m3
  /-- The query B scales. -/
  x4 : Vec F S1x1x192 .f32
  /-- The key A codes. -/
  x5 : Vec F S2x1536x32 .fp8e4m3
  /-- The key A scales. -/
  x6 : Vec F S2x12x1x128 .f32
  /-- The key B codes. -/
  x7 : Vec F S12x256x128 .fp8e4m3
  /-- The key B scales. -/
  x8 : Vec F S2x12x1x128 .f32
  /-- The value A codes. -/
  x9 : Vec F S2x1536x32 .fp8e4m3
  /-- The value A scales. -/
  x10 : Vec F S2x12x1x128 .f32
  /-- The value B codes. -/
  x11 : Vec F S2x1536x128 .fp8e4m3
  /-- The value B scales. -/
  x12 : Vec F S2x12x1x128 .f32

/-- What the results' staging buffers and the scratch buffers hold. -/
structure Sc (F : FTy → Type) where
  /-- The output block. -/
  out : Vec F S32x4096 .bf16
  /-- The log-sum-exp block. -/
  lse : Vec F S1x4x256 .f32
  /-- The key A codes times their scales, one table per rank. -/
  akt : Vec F S2x1536x256 .f32
  /-- The value A codes times their scales. -/
  avt : Vec F S2x1536x256 .f32
  /-- The transposed value B codes times their scales, per chunk. -/
  bvt : Vec F S12x128x256 .bf16
  /-- The causal mask. -/
  mask : Vec F S288x256 .f32
  /-- The B score products, three terms per token. -/
  fta : Vec F S4x3072x128 .bf16
  /-- The same, the remaining rows. -/
  ftb : Vec F S3072x128 .bf16
  /-- The block-diagonal query A codes. -/
  bd : Vec F S4x256x256 .bf16
  /-- The scores. -/
  sb : Vec F S4x1536x256 .f32
  /-- The running maxima. -/
  mb : Vec F S4x8x256 .f32
  /-- The running sums. -/
  lb : Vec F S4x8x256 .f32
  /-- The running outputs. -/
  ob : Vec F S4x128x256 .f32
  /-- The query scales, broadcast. -/
  csb : Vec F S192x128 .f32

/-- Buffer `b` of the family, held at the inputs `I` and the state `σ`. -/
def cell (A : Args) (c : Dev nD) (I : In F) (σ : Sc F) : Fin 26 → sProp 𝕄
  | 0 => owns (c : Thread nD τ) A.a1 fullShare I.x1
  | 1 => owns (c : Thread nD τ) A.a2 fullShare I.x2
  | 2 => owns (c : Thread nD τ) A.a3 fullShare I.x3
  | 3 => owns (c : Thread nD τ) A.a4 fullShare I.x4
  | 4 => owns (c : Thread nD τ) A.a5 fullShare I.x5
  | 5 => owns (c : Thread nD τ) A.a6 fullShare I.x6
  | 6 => owns (c : Thread nD τ) A.a7 fullShare I.x7
  | 7 => owns (c : Thread nD τ) A.a8 fullShare I.x8
  | 8 => owns (c : Thread nD τ) A.a9 fullShare I.x9
  | 9 => owns (c : Thread nD τ) A.a10 fullShare I.x10
  | 10 => owns (c : Thread nD τ) A.a11 fullShare I.x11
  | 11 => owns (c : Thread nD τ) A.a12 fullShare I.x12
  | 12 => owns (c : Thread nD τ) A.a13 fullShare σ.out
  | 13 => owns (c : Thread nD τ) A.a14 fullShare σ.lse
  | 14 => owns (c : Thread nD τ) A.a15 fullShare σ.akt
  | 15 => owns (c : Thread nD τ) A.a16 fullShare σ.avt
  | 16 => owns (c : Thread nD τ) A.a17 fullShare σ.bvt
  | 17 => owns (c : Thread nD τ) A.a18 fullShare σ.mask
  | 18 => owns (c : Thread nD τ) A.a19 fullShare σ.fta
  | 19 => owns (c : Thread nD τ) A.a20 fullShare σ.ftb
  | 20 => owns (c : Thread nD τ) A.a21 fullShare σ.bd
  | 21 => owns (c : Thread nD τ) A.a22 fullShare σ.sb
  | 22 => owns (c : Thread nD τ) A.a23 fullShare σ.mb
  | 23 => owns (c : Thread nD τ) A.a24 fullShare σ.lb
  | 24 => owns (c : Thread nD τ) A.a25 fullShare σ.ob
  | 25 => owns (c : Thread nD τ) A.a26 fullShare σ.csb
  | ⟨_ + 26, h⟩ => absurd h (by omega)

/-- The kernel body's buffers as a family over its states. -/
def fam (A : Args) (c : Dev nD) (I : In F) : Fam nD τ sig (Elt F) (UR sig nD τ) Λ₀ (Sc F) where
  defs := defs₀ (F := F)
  c := c
  own σ := bigSep Finset.univ (cell A c I σ)

/-- The family as a conjunction over its 26 buffers in order. -/
theorem fam_own (A : Args) (c : Dev nD) (I : In F) (σ : Sc F) :
    (fam A c I).own σ = iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare σ.out ∗ owns (c : Thread nD τ) A.a14 fullShare σ.lse ∗ owns (c : Thread nD τ) A.a15 fullShare σ.akt ∗ owns (c : Thread nD τ) A.a16 fullShare σ.avt ∗ owns (c : Thread nD τ) A.a17 fullShare σ.bvt ∗ owns (c : Thread nD τ) A.a18 fullShare σ.mask ∗ owns (c : Thread nD τ) A.a19 fullShare σ.fta ∗ owns (c : Thread nD τ) A.a20 fullShare σ.ftb ∗ owns (c : Thread nD τ) A.a21 fullShare σ.bd ∗ owns (c : Thread nD τ) A.a22 fullShare σ.sb ∗ owns (c : Thread nD τ) A.a23 fullShare σ.mb ∗ owns (c : Thread nD τ) A.a24 fullShare σ.lb ∗ owns (c : Thread nD τ) A.a25 fullShare σ.ob ∗ owns (c : Thread nD τ) A.a26 fullShare σ.csb) :=
  (bigSep_univ_eq_bigSepL [0, 1, 2, 3, 4, 5, 6, 7, 8, 9, 10, 11, 12, 13, 14, 15, 16, 17, 18, 19, 20, 21, 22, 23, 24, 25] (by decide) (by decide) (cell A c I σ) :)

/-- One buffer out of the family, and back at any contents that change no other. -/
theorem take (A : Args) (c : Dev nD) (I : In F) (σ : Sc F) (b : Fin 26) {X : Type} {P : X → sProp 𝕄} (upd : X → Sc F)
    (hP : ∀ x, cell A c I (upd x) b = P x) (hother : ∀ x j, j ≠ b → cell A c I (upd x) j = cell A c I σ j) :
    (fam A c I).own σ ⊢ iprop(cell A c I σ b ∗ (∀ x, P x -∗ (fam A c I).own (upd x))) := by
  have h := Step.bigSep_take (cell A c I σ) b (fun x => cell A c I (upd x)) hother
  simp only [hP] at h
  exact h

/-- A buffer out of the family, and back as it was. -/
theorem takeRd (A : Args) (c : Dev nD) (I : In F) (σ : Sc F) (b : Fin 26) :
    (fam A c I).own σ ⊢ iprop(cell A c I σ b ∗ (cell A c I σ b -∗ (fam A c I).own σ)) := by
  refine (take A c I σ b (X := Unit) (P := fun _ => cell A c I σ b) (fun _ => σ) (fun _ => rfl) (fun _ _ _ => rfl)).trans ?_
  iintro ⟨H, K⟩; isplitl [H]; · iexact H
  iapply K $$ %()

section Cells

variable (A : Args) (c : Dev nD) (I : In F)

instance : Rd (fam A c I) A.a1 := ⟨fun _ => I.x1, fun σ => takeRd A c I σ 0⟩
instance : Rd (fam A c I) A.a2 := ⟨fun _ => I.x2, fun σ => takeRd A c I σ 1⟩
instance : Rd (fam A c I) A.a3 := ⟨fun _ => I.x3, fun σ => takeRd A c I σ 2⟩
instance : Rd (fam A c I) A.a4 := ⟨fun _ => I.x4, fun σ => takeRd A c I σ 3⟩
instance : Rd (fam A c I) A.a5 := ⟨fun _ => I.x5, fun σ => takeRd A c I σ 4⟩
instance : Rd (fam A c I) A.a6 := ⟨fun _ => I.x6, fun σ => takeRd A c I σ 5⟩
instance : Rd (fam A c I) A.a7 := ⟨fun _ => I.x7, fun σ => takeRd A c I σ 6⟩
instance : Rd (fam A c I) A.a8 := ⟨fun _ => I.x8, fun σ => takeRd A c I σ 7⟩
instance : Rd (fam A c I) A.a9 := ⟨fun _ => I.x9, fun σ => takeRd A c I σ 8⟩
instance : Rd (fam A c I) A.a10 := ⟨fun _ => I.x10, fun σ => takeRd A c I σ 9⟩
instance : Rd (fam A c I) A.a11 := ⟨fun _ => I.x11, fun σ => takeRd A c I σ 10⟩
instance : Rd (fam A c I) A.a12 := ⟨fun _ => I.x12, fun σ => takeRd A c I σ 11⟩
instance : Rd (fam A c I) A.a13 := ⟨fun σ => σ.out, fun σ => takeRd A c I σ 12⟩
instance : Wr (fam A c I) A.a13 := ⟨fun σ => σ.out, fun σ x => { σ with out := x }, fun σ => take A c I σ 12 _ (fun _ => rfl) (fun _ j hj => by fin_cases j <;> first | rfl | exact absurd rfl hj)⟩
instance : Rd (fam A c I) A.a14 := ⟨fun σ => σ.lse, fun σ => takeRd A c I σ 13⟩
instance : Wr (fam A c I) A.a14 := ⟨fun σ => σ.lse, fun σ x => { σ with lse := x }, fun σ => take A c I σ 13 _ (fun _ => rfl) (fun _ j hj => by fin_cases j <;> first | rfl | exact absurd rfl hj)⟩
instance : Rd (fam A c I) A.a15 := ⟨fun σ => σ.akt, fun σ => takeRd A c I σ 14⟩
instance : Wr (fam A c I) A.a15 := ⟨fun σ => σ.akt, fun σ x => { σ with akt := x }, fun σ => take A c I σ 14 _ (fun _ => rfl) (fun _ j hj => by fin_cases j <;> first | rfl | exact absurd rfl hj)⟩
instance : Rd (fam A c I) A.a16 := ⟨fun σ => σ.avt, fun σ => takeRd A c I σ 15⟩
instance : Wr (fam A c I) A.a16 := ⟨fun σ => σ.avt, fun σ x => { σ with avt := x }, fun σ => take A c I σ 15 _ (fun _ => rfl) (fun _ j hj => by fin_cases j <;> first | rfl | exact absurd rfl hj)⟩
instance : Rd (fam A c I) A.a17 := ⟨fun σ => σ.bvt, fun σ => takeRd A c I σ 16⟩
instance : Wr (fam A c I) A.a17 := ⟨fun σ => σ.bvt, fun σ x => { σ with bvt := x }, fun σ => take A c I σ 16 _ (fun _ => rfl) (fun _ j hj => by fin_cases j <;> first | rfl | exact absurd rfl hj)⟩
instance : Rd (fam A c I) A.a18 := ⟨fun σ => σ.mask, fun σ => takeRd A c I σ 17⟩
instance : Wr (fam A c I) A.a18 := ⟨fun σ => σ.mask, fun σ x => { σ with mask := x }, fun σ => take A c I σ 17 _ (fun _ => rfl) (fun _ j hj => by fin_cases j <;> first | rfl | exact absurd rfl hj)⟩
instance : Rd (fam A c I) A.a19 := ⟨fun σ => σ.fta, fun σ => takeRd A c I σ 18⟩
instance : Wr (fam A c I) A.a19 := ⟨fun σ => σ.fta, fun σ x => { σ with fta := x }, fun σ => take A c I σ 18 _ (fun _ => rfl) (fun _ j hj => by fin_cases j <;> first | rfl | exact absurd rfl hj)⟩
instance : Rd (fam A c I) A.a20 := ⟨fun σ => σ.ftb, fun σ => takeRd A c I σ 19⟩
instance : Wr (fam A c I) A.a20 := ⟨fun σ => σ.ftb, fun σ x => { σ with ftb := x }, fun σ => take A c I σ 19 _ (fun _ => rfl) (fun _ j hj => by fin_cases j <;> first | rfl | exact absurd rfl hj)⟩
instance : Rd (fam A c I) A.a21 := ⟨fun σ => σ.bd, fun σ => takeRd A c I σ 20⟩
instance : Wr (fam A c I) A.a21 := ⟨fun σ => σ.bd, fun σ x => { σ with bd := x }, fun σ => take A c I σ 20 _ (fun _ => rfl) (fun _ j hj => by fin_cases j <;> first | rfl | exact absurd rfl hj)⟩
instance : Rd (fam A c I) A.a22 := ⟨fun σ => σ.sb, fun σ => takeRd A c I σ 21⟩
instance : Wr (fam A c I) A.a22 := ⟨fun σ => σ.sb, fun σ x => { σ with sb := x }, fun σ => take A c I σ 21 _ (fun _ => rfl) (fun _ j hj => by fin_cases j <;> first | rfl | exact absurd rfl hj)⟩
instance : Rd (fam A c I) A.a23 := ⟨fun σ => σ.mb, fun σ => takeRd A c I σ 22⟩
instance : Wr (fam A c I) A.a23 := ⟨fun σ => σ.mb, fun σ x => { σ with mb := x }, fun σ => take A c I σ 22 _ (fun _ => rfl) (fun _ j hj => by fin_cases j <;> first | rfl | exact absurd rfl hj)⟩
instance : Rd (fam A c I) A.a24 := ⟨fun σ => σ.lb, fun σ => takeRd A c I σ 23⟩
instance : Wr (fam A c I) A.a24 := ⟨fun σ => σ.lb, fun σ x => { σ with lb := x }, fun σ => take A c I σ 23 _ (fun _ => rfl) (fun _ j hj => by fin_cases j <;> first | rfl | exact absurd rfl hj)⟩
instance : Rd (fam A c I) A.a25 := ⟨fun σ => σ.ob, fun σ => takeRd A c I σ 24⟩
instance : Wr (fam A c I) A.a25 := ⟨fun σ => σ.ob, fun σ x => { σ with ob := x }, fun σ => take A c I σ 24 _ (fun _ => rfl) (fun _ j hj => by fin_cases j <;> first | rfl | exact absurd rfl hj)⟩
instance : Rd (fam A c I) A.a26 := ⟨fun σ => σ.csb, fun σ => takeRd A c I σ 25⟩
instance : Wr (fam A c I) A.a26 := ⟨fun σ => σ.csb, fun σ x => { σ with csb := x }, fun σ => take A c I σ 25 _ (fun _ => rfl) (fun _ j hj => by fin_cases j <;> first | rfl | exact absurd rfl hj)⟩

end Cells

/-- A function of the 26 memrefs and of their being whole, at `A`. -/
abbrev Args.app (A : Args) {α : Type 1} (f : (a1 : Memref sig .tc .vmem S9216x32 .fp8e4m3) → a1.IsWhole → (a2 : Memref sig .tc .vmem S1x1x192 .f32) → a2.IsWhole → (a3 : Memref sig .tc .vmem S9216x128 .fp8e4m3) → a3.IsWhole → (a4 : Memref sig .tc .vmem S1x1x192 .f32) → a4.IsWhole → (a5 : Memref sig .tc .vmem S2x1536x32 .fp8e4m3) → a5.IsWhole → (a6 : Memref sig .tc .vmem S2x12x1x128 .f32) → a6.IsWhole → (a7 : Memref sig .tc .vmem S12x256x128 .fp8e4m3) → a7.IsWhole → (a8 : Memref sig .tc .vmem S2x12x1x128 .f32) → a8.IsWhole → (a9 : Memref sig .tc .vmem S2x1536x32 .fp8e4m3) → a9.IsWhole → (a10 : Memref sig .tc .vmem S2x12x1x128 .f32) → a10.IsWhole → (a11 : Memref sig .tc .vmem S2x1536x128 .fp8e4m3) → a11.IsWhole → (a12 : Memref sig .tc .vmem S2x12x1x128 .f32) → a12.IsWhole → (a13 : Memref sig .tc .vmem S32x4096 .bf16) → a13.IsWhole → (a14 : Memref sig .tc .vmem S1x4x256 .f32) → a14.IsWhole → (a15 : Memref sig .tc .vmem S2x1536x256 .f32) → a15.IsWhole → (a16 : Memref sig .tc .vmem S2x1536x256 .f32) → a16.IsWhole → (a17 : Memref sig .tc .vmem S12x128x256 .bf16) → a17.IsWhole → (a18 : Memref sig .tc .vmem S288x256 .f32) → a18.IsWhole → (a19 : Memref sig .tc .vmem S4x3072x128 .bf16) → a19.IsWhole → (a20 : Memref sig .tc .vmem S3072x128 .bf16) → a20.IsWhole → (a21 : Memref sig .tc .vmem S4x256x256 .bf16) → a21.IsWhole → (a22 : Memref sig .tc .vmem S4x1536x256 .f32) → a22.IsWhole → (a23 : Memref sig .tc .vmem S4x8x256 .f32) → a23.IsWhole → (a24 : Memref sig .tc .vmem S4x8x256 .f32) → a24.IsWhole → (a25 : Memref sig .tc .vmem S4x128x256 .f32) → a25.IsWhole → (a26 : Memref sig .tc .vmem S192x128 .f32) → a26.IsWhole → α) : α :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26

end Cert.Proof.Kernel

end
-- ==== Proof.SafeB.lean ====
/- The body of `Kernel` runs at every grid point and from every contents of its buffers, part by part. -/
module

public import proofs.«01_k».proof.Proof.CellsB
public import proofs.«01_k».proof.Proof.Gen.Kernel.Skeleton

@[expose] public section

set_option maxRecDepth 16384

noncomputable section

namespace Cert.Proof.Kernel

open Cert.Kernel Cert.Kernel.Gen Cert.Proof.Step
open Idealize.ShloMosaic Idealize.ShloMosaic.TcCoe
open Idealize.SL Idealize.SL.BI Idealize.SL.Sem

variable {F : FTy → Type} [BitOps F]
variable (A : Args) (c : Dev nD) (I : In F) (i : grid0.Coords)

theorem part1_safe (v29) (k0_h1) (c0_i32_462) (c1_i32_463) (k0_t1) : Safe (fam A c I) (A.app (k0_part1 (F := F) i) v29 k0_h1 c0_i32_462 c1_i32_463 k0_t1) := by
  rw [k0_part1_eq_skeleton]; unfold k0_part1_skel
  repeat' first | with_reducible refine Safe.load _ fun _ => ?_ | with_reducible refine Safe.store _ ?_ | with_reducible exact Safe.pure _

theorem part2_safe (v29) (k0_h1) (k0_t1) (arg27) (v1021) (v1058) : Safe (fam A c I) (A.app (k0_part2 (F := F) i) v29 k0_h1 k0_t1 arg27 v1021 v1058) := by
  rw [k0_part2_eq_skeleton]; unfold k0_part2_skel
  repeat' first | with_reducible refine Safe.load _ fun _ => ?_ | with_reducible refine Safe.store _ ?_ | with_reducible exact Safe.pure _

theorem part3_safe (v29) (k0_h1) (c0_i32_462) (c1_i32_463) (k0_t1) : Safe (fam A c I) (A.app (k0_part3 (F := F) i) v29 k0_h1 c0_i32_462 c1_i32_463 k0_t1) := by
  rw [k0_part3_eq_skeleton]; unfold k0_part3_skel
  refine Safe.bind _ (part1_safe A c I i _ _ _ _ _) ?_; rintro ⟨_, _, _⟩
  refine Safe.bind _ (part2_safe A c I i _ _ _ _ _ _) ?_; rintro _
  repeat' first | with_reducible refine Safe.load _ fun _ => ?_ | with_reducible refine Safe.store _ ?_ | with_reducible exact Safe.pure _

theorem part4_safe (v34) (c0_i32_106) (c1_i32_109) (k0_t2) : Safe (fam A c I) (A.app (k0_part4 (F := F) i) v34 c0_i32_106 c1_i32_109 k0_t2) := by
  rw [k0_part4_eq_skeleton]; unfold k0_part4_skel
  repeat' first | with_reducible refine Safe.load _ fun _ => ?_ | with_reducible refine Safe.store _ ?_ | with_reducible exact Safe.pure _

theorem part5_safe (k0_t2) (v999) (v1013) (v1014) (v1015) (v1018) (v1028) (v1033) (v1035) : Safe (fam A c I) (A.app (k0_part5 (F := F) i) k0_t2 v999 v1013 v1014 v1015 v1018 v1028 v1033 v1035) := by
  rw [k0_part5_eq_skeleton]; unfold k0_part5_skel
  repeat' first | with_reducible refine Safe.load _ fun _ => ?_ | with_reducible refine Safe.store _ ?_ | with_reducible exact Safe.pure _

theorem part6_safe (k0_t2) (arg27) (v1079) (v1080) (v1081) : Safe (fam A c I) (A.app (k0_part6 (F := F) i) k0_t2 arg27 v1079 v1080 v1081) := by
  rw [k0_part6_eq_skeleton]; unfold k0_part6_skel
  repeat' first | with_reducible refine Safe.load _ fun _ => ?_ | with_reducible refine Safe.store _ ?_ | with_reducible exact Safe.pure _

theorem part7_safe (k0_t2) (arg27) (v1084) (v1094) (v1104) (v1114) (v1124) (v1125) : Safe (fam A c I) (A.app (k0_part7 (F := F) i) k0_t2 arg27 v1084 v1094 v1104 v1114 v1124 v1125) := by
  rw [k0_part7_eq_skeleton]; unfold k0_part7_skel
  repeat' first | with_reducible refine Safe.load _ fun _ => ?_ | with_reducible refine Safe.store _ ?_ | with_reducible exact Safe.pure _

theorem part8_safe (k0_t2) (arg27) (v1160) (v1162) : Safe (fam A c I) (A.app (k0_part8 (F := F) i) k0_t2 arg27 v1160 v1162) := by
  rw [k0_part8_eq_skeleton]; unfold k0_part8_skel
  repeat' first | with_reducible refine Safe.load _ fun _ => ?_ | with_reducible refine Safe.store _ ?_ | with_reducible exact Safe.pure _

theorem part9_safe (k0_t2) (arg27) (v1195) (v1197) : Safe (fam A c I) (A.app (k0_part9 (F := F) i) k0_t2 arg27 v1195 v1197) := by
  rw [k0_part9_eq_skeleton]; unfold k0_part9_skel
  repeat' first | with_reducible refine Safe.load _ fun _ => ?_ | with_reducible refine Safe.store _ ?_ | with_reducible exact Safe.pure _

theorem part10_safe (k0_t2) (arg27) (v1230) (v1232) : Safe (fam A c I) (A.app (k0_part10 (F := F) i) k0_t2 arg27 v1230 v1232) := by
  rw [k0_part10_eq_skeleton]; unfold k0_part10_skel
  repeat' first | with_reducible refine Safe.load _ fun _ => ?_ | with_reducible refine Safe.store _ ?_ | with_reducible exact Safe.pure _

theorem part11_safe (v34) (v223) (c1_i32_110) (k0_t3) : Safe (fam A c I) (A.app (k0_part11 (F := F) i) v34 v223 c1_i32_110 k0_t3) := by
  rw [k0_part11_eq_skeleton]; unfold k0_part11_skel
  repeat' first | with_reducible refine Safe.load _ fun _ => ?_ | with_reducible refine Safe.store _ ?_ | with_reducible exact Safe.pure _

theorem part12_safe (k0_t3) (v999) (v1013) (v1014) (v1015) (v1018) (v1028) (v1033) (v1035) : Safe (fam A c I) (A.app (k0_part12 (F := F) i) k0_t3 v999 v1013 v1014 v1015 v1018 v1028 v1033 v1035) := by
  rw [k0_part12_eq_skeleton]; unfold k0_part12_skel
  repeat' first | with_reducible refine Safe.load _ fun _ => ?_ | with_reducible refine Safe.store _ ?_ | with_reducible exact Safe.pure _

theorem part13_safe (k0_t3) (arg27) (v1079) (v1080) (v1081) : Safe (fam A c I) (A.app (k0_part13 (F := F) i) k0_t3 arg27 v1079 v1080 v1081) := by
  rw [k0_part13_eq_skeleton]; unfold k0_part13_skel
  repeat' first | with_reducible refine Safe.load _ fun _ => ?_ | with_reducible refine Safe.store _ ?_ | with_reducible exact Safe.pure _

theorem part14_safe (k0_t3) (arg27) (v1084) (v1094) (v1104) (v1114) (v1124) (v1125) : Safe (fam A c I) (A.app (k0_part14 (F := F) i) k0_t3 arg27 v1084 v1094 v1104 v1114 v1124 v1125) := by
  rw [k0_part14_eq_skeleton]; unfold k0_part14_skel
  repeat' first | with_reducible refine Safe.load _ fun _ => ?_ | with_reducible refine Safe.store _ ?_ | with_reducible exact Safe.pure _

theorem part15_safe (k0_t3) (arg27) (v1160) (v1162) : Safe (fam A c I) (A.app (k0_part15 (F := F) i) k0_t3 arg27 v1160 v1162) := by
  rw [k0_part15_eq_skeleton]; unfold k0_part15_skel
  repeat' first | with_reducible refine Safe.load _ fun _ => ?_ | with_reducible refine Safe.store _ ?_ | with_reducible exact Safe.pure _

theorem part16_safe (k0_t3) (arg27) (v1195) (v1197) : Safe (fam A c I) (A.app (k0_part16 (F := F) i) k0_t3 arg27 v1195 v1197) := by
  rw [k0_part16_eq_skeleton]; unfold k0_part16_skel
  repeat' first | with_reducible refine Safe.load _ fun _ => ?_ | with_reducible refine Safe.store _ ?_ | with_reducible exact Safe.pure _

theorem part17_safe (k0_t3) (arg27) (v1230) (v1232) : Safe (fam A c I) (A.app (k0_part17 (F := F) i) k0_t3 arg27 v1230 v1232) := by
  rw [k0_part17_eq_skeleton]; unfold k0_part17_skel
  repeat' first | with_reducible refine Safe.load _ fun _ => ?_ | with_reducible refine Safe.store _ ?_ | with_reducible exact Safe.pure _

theorem part18_safe (c0_i32_285) (c1_i32_288) (k0_t4) : Safe (fam A c I) (A.app (k0_part18 (F := F) i) c0_i32_285 c1_i32_288 k0_t4) := by
  rw [k0_part18_eq_skeleton]; unfold k0_part18_skel
  repeat' first | with_reducible refine Safe.load _ fun _ => ?_ | with_reducible refine Safe.store _ ?_ | with_reducible exact Safe.pure _

theorem part19_safe (k0_t4) (arg27) (v1027) : Safe (fam A c I) (A.app (k0_part19 (F := F) i) k0_t4 arg27 v1027) := by
  rw [k0_part19_eq_skeleton]; unfold k0_part19_skel
  repeat' first | with_reducible refine Safe.load _ fun _ => ?_ | with_reducible refine Safe.store _ ?_ | with_reducible exact Safe.pure _

theorem part20_safe (k0_t4) (arg27) (v1058) (v1060) : Safe (fam A c I) (A.app (k0_part20 (F := F) i) k0_t4 arg27 v1058 v1060) := by
  rw [k0_part20_eq_skeleton]; unfold k0_part20_skel
  repeat' first | with_reducible refine Safe.load _ fun _ => ?_ | with_reducible refine Safe.store _ ?_ | with_reducible exact Safe.pure _

theorem part21_safe (k0_t4) (arg27) (v1096) : Safe (fam A c I) (A.app (k0_part21 (F := F) i) k0_t4 arg27 v1096) := by
  rw [k0_part21_eq_skeleton]; unfold k0_part21_skel
  repeat' first | with_reducible refine Safe.load _ fun _ => ?_ | with_reducible refine Safe.store _ ?_ | with_reducible exact Safe.pure _

theorem part22_safe (v582) (c1_i32_289) (k0_t5) : Safe (fam A c I) (A.app (k0_part22 (F := F) i) v582 c1_i32_289 k0_t5) := by
  rw [k0_part22_eq_skeleton]; unfold k0_part22_skel
  repeat' first | with_reducible refine Safe.load _ fun _ => ?_ | with_reducible refine Safe.store _ ?_ | with_reducible exact Safe.pure _

theorem part23_safe (k0_t5) (arg27) (v1027) : Safe (fam A c I) (A.app (k0_part23 (F := F) i) k0_t5 arg27 v1027) := by
  rw [k0_part23_eq_skeleton]; unfold k0_part23_skel
  repeat' first | with_reducible refine Safe.load _ fun _ => ?_ | with_reducible refine Safe.store _ ?_ | with_reducible exact Safe.pure _

theorem part24_safe (k0_t5) (arg27) (v1058) (v1060) : Safe (fam A c I) (A.app (k0_part24 (F := F) i) k0_t5 arg27 v1058 v1060) := by
  rw [k0_part24_eq_skeleton]; unfold k0_part24_skel
  repeat' first | with_reducible refine Safe.load _ fun _ => ?_ | with_reducible refine Safe.store _ ?_ | with_reducible exact Safe.pure _

theorem part25_safe (k0_t5) (arg27) (v1096) : Safe (fam A c I) (A.app (k0_part25 (F := F) i) k0_t5 arg27 v1096) := by
  rw [k0_part25_eq_skeleton]; unfold k0_part25_skel
  repeat' first | with_reducible refine Safe.load _ fun _ => ?_ | with_reducible refine Safe.store _ ?_ | with_reducible exact Safe.pure _

theorem t1_safe (h : k0_cond1 i = 1#1) (t a) : Safe (fam A c I) (A.app (k0_t1_body (F := F) i) h t a) := by
  unfold k0_t1_body
  refine Safe.bind _ (part3_safe A c I i _ _ _ _ _) ?_; rintro _
  repeat' first | with_reducible refine Safe.load _ fun _ => ?_ | with_reducible refine Safe.store _ ?_ | with_reducible exact Safe.pure _

theorem part26_safe : Safe (fam A c I) (A.app (k0_part26 (F := F) i) ) := by
  rw [k0_part26_eq_skeleton]; unfold k0_part26_skel
  dsimp only [Args.app]
  split
  · repeat' first | with_reducible refine Safe.load _ fun _ => ?_ | with_reducible refine Safe.store _ ?_
    refine Safe.loop _ (fun t a => t1_safe A c I i _ t a) fun _ => ?_
    repeat' first | with_reducible refine Safe.load _ fun _ => ?_ | with_reducible exact Safe.pure _
  · repeat' first | with_reducible refine Safe.load _ fun _ => ?_ | with_reducible exact Safe.pure _

theorem part27_safe (v40) (c8_i32_6) (v41) (c1_i32_8) : Safe (fam A c I) (A.app (k0_part27 (F := F) i) v40 c8_i32_6 v41 c1_i32_8) := by
  rw [k0_part27_eq_skeleton]; unfold k0_part27_skel
  repeat' first | with_reducible refine Safe.load _ fun _ => ?_ | with_reducible refine Safe.store _ ?_ | with_reducible exact Safe.pure _

theorem part28_safe (v39) (v56) (v73) (c6_i32) (v75) (v82) (v87) : Safe (fam A c I) (A.app (k0_part28 (F := F) i) v39 v56 v73 c6_i32 v75 v82 v87) := by
  rw [k0_part28_eq_skeleton]; unfold k0_part28_skel
  repeat' first | with_reducible refine Safe.load _ fun _ => ?_ | with_reducible refine Safe.store _ ?_ | with_reducible exact Safe.pure _

theorem part29_safe (v101) (v121) : Safe (fam A c I) (A.app (k0_part29 (F := F) i) v101 v121) := by
  rw [k0_part29_eq_skeleton]; unfold k0_part29_skel
  repeat' first | with_reducible refine Safe.load _ fun _ => ?_ | with_reducible refine Safe.store _ ?_ | with_reducible exact Safe.pure _

theorem part30_safe (v101) (v140) : Safe (fam A c I) (A.app (k0_part30 (F := F) i) v101 v140) := by
  rw [k0_part30_eq_skeleton]; unfold k0_part30_skel
  repeat' first | with_reducible refine Safe.load _ fun _ => ?_ | with_reducible refine Safe.store _ ?_ | with_reducible exact Safe.pure _

theorem part31_safe (arg0) : Safe (fam A c I) (A.app (k0_part31 (F := F) i) arg0) := by
  rw [k0_part31_eq_skeleton]; unfold k0_part31_skel
  repeat' first | with_reducible refine Safe.load _ fun _ => ?_ | with_reducible refine Safe.store _ ?_ | with_reducible exact Safe.pure _

theorem t2_safe (v34) (v201) (c128_i32) (v202) (v207) (v209) (v210) (t a) : Safe (fam A c I) (A.app (k0_t2_body (F := F) i) v34 v201 c128_i32 v202 v207 v209 v210 t a) := by
  unfold k0_t2_body
  refine Safe.bind _ (part4_safe A c I i _ _ _ _) ?_; rintro ⟨_, _, _, _, _, _, _, _, _⟩
  refine Safe.bind _ (part5_safe A c I i _ _ _ _ _ _ _ _ _) ?_; rintro ⟨_, _, _⟩
  refine Safe.bind _ (part6_safe A c I i _ _ _ _ _) ?_; rintro ⟨_, _, _, _, _, _⟩
  refine Safe.bind _ (part7_safe A c I i _ _ _ _ _ _ _ _) ?_; rintro ⟨_, _⟩
  refine Safe.bind _ (part8_safe A c I i _ _ _ _) ?_; rintro ⟨_, _⟩
  refine Safe.bind _ (part9_safe A c I i _ _ _ _) ?_; rintro ⟨_, _⟩
  refine Safe.bind _ (part10_safe A c I i _ _ _ _) ?_; rintro ⟨_, _⟩
  repeat' first | with_reducible refine Safe.load _ fun _ => ?_ | with_reducible refine Safe.store _ ?_ | with_reducible exact Safe.pure _

theorem t3_safe (v34) (v201) (c128_i32) (v202) (v207) (v209) (v210) (v223) (t a) : Safe (fam A c I) (A.app (k0_t3_body (F := F) i) v34 v201 c128_i32 v202 v207 v209 v210 v223 t a) := by
  unfold k0_t3_body
  refine Safe.bind _ (part11_safe A c I i _ _ _ _) ?_; rintro ⟨_, _, _, _, _, _, _, _, _⟩
  refine Safe.bind _ (part12_safe A c I i _ _ _ _ _ _ _ _ _) ?_; rintro ⟨_, _, _⟩
  refine Safe.bind _ (part13_safe A c I i _ _ _ _ _) ?_; rintro ⟨_, _, _, _, _, _⟩
  refine Safe.bind _ (part14_safe A c I i _ _ _ _ _ _ _ _) ?_; rintro ⟨_, _⟩
  refine Safe.bind _ (part15_safe A c I i _ _ _ _) ?_; rintro ⟨_, _⟩
  refine Safe.bind _ (part16_safe A c I i _ _ _ _) ?_; rintro ⟨_, _⟩
  refine Safe.bind _ (part17_safe A c I i _ _ _ _) ?_; rintro ⟨_, _⟩
  repeat' first | with_reducible refine Safe.load _ fun _ => ?_ | with_reducible refine Safe.store _ ?_ | with_reducible exact Safe.pure _

theorem part32_safe (v34) (v201) (c128_i32) (v202) (v207) (v209) (v210) : Safe (fam A c I) (A.app (k0_part32 (F := F) i) v34 v201 c128_i32 v202 v207 v209 v210) := by
  rw [k0_part32_eq_skeleton]; unfold k0_part32_skel
  refine Safe.loop _ (fun t a => t2_safe A c I i _ _ _ _ _ _ _ t a) fun _ => ?_
  refine Safe.loop _ (fun t a => t3_safe A c I i _ _ _ _ _ _ _ _ t a) fun _ => ?_
  repeat' first | with_reducible refine Safe.load _ fun _ => ?_ | with_reducible refine Safe.store _ ?_ | with_reducible exact Safe.pure _

theorem part33_safe (v246) (v247) (v248) (v251) (v252) : Safe (fam A c I) (A.app (k0_part33 (F := F) i) v246 v247 v248 v251 v252) := by
  rw [k0_part33_eq_skeleton]; unfold k0_part33_skel
  repeat' first | with_reducible refine Safe.load _ fun _ => ?_ | with_reducible refine Safe.store _ ?_ | with_reducible exact Safe.pure _

theorem part34_safe (v218) (v232) (v298) : Safe (fam A c I) (A.app (k0_part34 (F := F) i) v218 v232 v298) := by
  rw [k0_part34_eq_skeleton]; unfold k0_part34_skel
  repeat' first | with_reducible refine Safe.load _ fun _ => ?_ | with_reducible refine Safe.store _ ?_ | with_reducible exact Safe.pure _

theorem part35_safe (v218) (v312) (v313) (v314) (v317) (v327) (v337) (v342) : Safe (fam A c I) (A.app (k0_part35 (F := F) i) v218 v312 v313 v314 v317 v327 v337 v342) := by
  rw [k0_part35_eq_skeleton]; unfold k0_part35_skel
  repeat' first | with_reducible refine Safe.load _ fun _ => ?_ | with_reducible refine Safe.store _ ?_ | with_reducible exact Safe.pure _

theorem part36_safe (arg0) (v218) (v367) (v381) (v382) : Safe (fam A c I) (A.app (k0_part36 (F := F) i) arg0 v218 v367 v381 v382) := by
  rw [k0_part36_eq_skeleton]; unfold k0_part36_skel
  repeat' first | with_reducible refine Safe.load _ fun _ => ?_ | with_reducible refine Safe.store _ ?_ | with_reducible exact Safe.pure _

theorem part37_safe (arg0) (v218) : Safe (fam A c I) (A.app (k0_part37 (F := F) i) arg0 v218) := by
  rw [k0_part37_eq_skeleton]; unfold k0_part37_skel
  repeat' first | with_reducible refine Safe.load _ fun _ => ?_ | with_reducible refine Safe.store _ ?_ | with_reducible exact Safe.pure _

theorem part38_safe (v218) (v449) : Safe (fam A c I) (A.app (k0_part38 (F := F) i) v218 v449) := by
  rw [k0_part38_eq_skeleton]; unfold k0_part38_skel
  repeat' first | with_reducible refine Safe.load _ fun _ => ?_ | with_reducible refine Safe.store _ ?_ | with_reducible exact Safe.pure _

theorem part39_safe (arg0) (v218) (v473) (v482) (v487) : Safe (fam A c I) (A.app (k0_part39 (F := F) i) arg0 v218 v473 v482 v487) := by
  rw [k0_part39_eq_skeleton]; unfold k0_part39_skel
  repeat' first | with_reducible refine Safe.load _ fun _ => ?_ | with_reducible refine Safe.store _ ?_ | with_reducible exact Safe.pure _

theorem part40_safe (arg0) (v218) (v520) : Safe (fam A c I) (A.app (k0_part40 (F := F) i) arg0 v218 v520) := by
  rw [k0_part40_eq_skeleton]; unfold k0_part40_skel
  repeat' first | with_reducible refine Safe.load _ fun _ => ?_ | with_reducible refine Safe.store _ ?_ | with_reducible exact Safe.pure _

theorem t4_safe (v218) (v555) (t a) : Safe (fam A c I) (A.app (k0_t4_body (F := F) i) v218 v555 t a) := by
  unfold k0_t4_body
  refine Safe.bind _ (part18_safe A c I i _ _ _) ?_; rintro ⟨_, _⟩
  refine Safe.bind _ (part19_safe A c I i _ _ _) ?_; rintro ⟨_, _⟩
  refine Safe.bind _ (part20_safe A c I i _ _ _ _) ?_; rintro _
  refine Safe.bind _ (part21_safe A c I i _ _ _) ?_; rintro ⟨_, _⟩
  repeat' first | with_reducible refine Safe.load _ fun _ => ?_ | with_reducible refine Safe.store _ ?_ | with_reducible exact Safe.pure _

theorem t5_safe (v218) (v555) (v582) (t a) : Safe (fam A c I) (A.app (k0_t5_body (F := F) i) v218 v555 v582 t a) := by
  unfold k0_t5_body
  refine Safe.bind _ (part22_safe A c I i _ _ _) ?_; rintro ⟨_, _⟩
  refine Safe.bind _ (part23_safe A c I i _ _ _) ?_; rintro ⟨_, _⟩
  refine Safe.bind _ (part24_safe A c I i _ _ _ _) ?_; rintro _
  refine Safe.bind _ (part25_safe A c I i _ _ _) ?_; rintro ⟨_, _⟩
  repeat' first | with_reducible refine Safe.load _ fun _ => ?_ | with_reducible refine Safe.store _ ?_ | with_reducible exact Safe.pure _

theorem part41_safe (v218) (v555) : Safe (fam A c I) (A.app (k0_part41 (F := F) i) v218 v555) := by
  rw [k0_part41_eq_skeleton]; unfold k0_part41_skel
  repeat' first | with_reducible refine Safe.load _ fun _ => ?_ | with_reducible refine Safe.store _ ?_
  refine Safe.loop _ (fun t a => t4_safe A c I i _ _ t a) fun _ => ?_
  refine Safe.loop _ (fun t a => t5_safe A c I i _ _ _ t a) fun _ => ?_
  repeat' first | with_reducible refine Safe.load _ fun _ => ?_ | with_reducible refine Safe.store _ ?_ | with_reducible exact Safe.pure _

theorem part42_safe (v588) (v590) : Safe (fam A c I) (A.app (k0_part42 (F := F) i) v588 v590) := by
  rw [k0_part42_eq_skeleton]; unfold k0_part42_skel
  repeat' first | with_reducible refine Safe.load _ fun _ => ?_ | with_reducible refine Safe.store _ ?_ | with_reducible exact Safe.pure _

theorem part43_safe (v625) : Safe (fam A c I) (A.app (k0_part43 (F := F) i) v625) := by
  rw [k0_part43_eq_skeleton]; unfold k0_part43_skel
  repeat' first | with_reducible refine Safe.load _ fun _ => ?_ | with_reducible refine Safe.store _ ?_ | with_reducible exact Safe.pure _

theorem part44_safe (v595) (v617) (v654) (v656) (v658) : Safe (fam A c I) (A.app (k0_part44 (F := F) i) v595 v617 v654 v656 v658) := by
  rw [k0_part44_eq_skeleton]; unfold k0_part44_skel
  repeat' first | with_reducible refine Safe.load _ fun _ => ?_ | with_reducible refine Safe.store _ ?_ | with_reducible exact Safe.pure _

theorem part45_safe (v595) (v617) (v696) : Safe (fam A c I) (A.app (k0_part45 (F := F) i) v595 v617 v696) := by
  rw [k0_part45_eq_skeleton]; unfold k0_part45_skel
  repeat' first | with_reducible refine Safe.load _ fun _ => ?_ | with_reducible refine Safe.store _ ?_ | with_reducible exact Safe.pure _

theorem part46_safe (v595) (v617) (v733) : Safe (fam A c I) (A.app (k0_part46 (F := F) i) v595 v617 v733) := by
  rw [k0_part46_eq_skeleton]; unfold k0_part46_skel
  repeat' first | with_reducible refine Safe.load _ fun _ => ?_ | with_reducible refine Safe.store _ ?_ | with_reducible exact Safe.pure _

theorem part47_safe (v595) (v617) (v771) : Safe (fam A c I) (A.app (k0_part47 (F := F) i) v595 v617 v771) := by
  rw [k0_part47_eq_skeleton]; unfold k0_part47_skel
  repeat' first | with_reducible refine Safe.load _ fun _ => ?_ | with_reducible refine Safe.store _ ?_ | with_reducible exact Safe.pure _

theorem part48_safe (v595) (v617) (v639) (v661) (v808) : Safe (fam A c I) (A.app (k0_part48 (F := F) i) v595 v617 v639 v661 v808) := by
  rw [k0_part48_eq_skeleton]; unfold k0_part48_skel
  repeat' first | with_reducible refine Safe.load _ fun _ => ?_ | with_reducible refine Safe.store _ ?_ | with_reducible exact Safe.pure _

theorem part49_safe (v639) (v661) (v846) : Safe (fam A c I) (A.app (k0_part49 (F := F) i) v639 v661 v846) := by
  rw [k0_part49_eq_skeleton]; unfold k0_part49_skel
  repeat' first | with_reducible refine Safe.load _ fun _ => ?_ | with_reducible refine Safe.store _ ?_ | with_reducible exact Safe.pure _

theorem part50_safe (v639) (v661) (v883) : Safe (fam A c I) (A.app (k0_part50 (F := F) i) v639 v661 v883) := by
  rw [k0_part50_eq_skeleton]; unfold k0_part50_skel
  repeat' first | with_reducible refine Safe.load _ fun _ => ?_ | with_reducible refine Safe.store _ ?_ | with_reducible exact Safe.pure _

theorem part51_safe (v639) (v661) (v921) : Safe (fam A c I) (A.app (k0_part51 (F := F) i) v639 v661 v921) := by
  rw [k0_part51_eq_skeleton]; unfold k0_part51_skel
  repeat' first | with_reducible refine Safe.load _ fun _ => ?_ | with_reducible refine Safe.store _ ?_ | with_reducible exact Safe.pure _

theorem part52_safe : Safe (fam A c I) (A.app (k0_part52 (F := F) i) ) := by
  rw [k0_part52_eq_skeleton]; unfold k0_part52_skel
  refine Safe.bind _ (part26_safe A c I i) ?_; rintro ⟨_, _, _, _, _, _, _⟩
  refine Safe.bind _ (part27_safe A c I i _ _ _ _) ?_; rintro ⟨_, _, _, _, _, _⟩
  refine Safe.bind _ (part28_safe A c I i _ _ _ _ _ _ _) ?_; rintro ⟨_, _⟩
  refine Safe.bind _ (part29_safe A c I i _ _) ?_; rintro _
  refine Safe.bind _ (part30_safe A c I i _ _) ?_; rintro _
  refine Safe.bind _ (part31_safe A c I i _) ?_; rintro ⟨_, _, _, _, _, _⟩
  refine Safe.bind _ (part32_safe A c I i _ _ _ _ _ _ _) ?_; rintro ⟨_, _, _, _, _, _, _⟩
  refine Safe.bind _ (part33_safe A c I i _ _ _ _ _) ?_; rintro _
  refine Safe.bind _ (part34_safe A c I i _ _ _) ?_; rintro ⟨_, _, _, _, _, _, _⟩
  refine Safe.bind _ (part35_safe A c I i _ _ _ _ _ _ _ _) ?_; rintro ⟨_, _, _⟩
  refine Safe.bind _ (part36_safe A c I i _ _ _ _ _) ?_; rintro _
  refine Safe.bind _ (part37_safe A c I i _ _) ?_; rintro _
  refine Safe.bind _ (part38_safe A c I i _ _) ?_; rintro ⟨_, _, _⟩
  refine Safe.bind _ (part39_safe A c I i _ _ _ _ _) ?_; rintro _
  refine Safe.bind _ (part40_safe A c I i _ _ _) ?_; rintro _
  refine Safe.bind _ (part41_safe A c I i _ _) ?_; rintro ⟨_, _⟩
  refine Safe.bind _ (part42_safe A c I i _ _) ?_; rintro ⟨_, _, _⟩
  refine Safe.bind _ (part43_safe A c I i _) ?_; rintro ⟨_, _, _, _⟩
  refine Safe.bind _ (part44_safe A c I i _ _ _ _ _) ?_; rintro ⟨_, _⟩
  refine Safe.bind _ (part45_safe A c I i _ _ _) ?_; rintro _
  refine Safe.bind _ (part46_safe A c I i _ _ _) ?_; rintro _
  refine Safe.bind _ (part47_safe A c I i _ _ _) ?_; rintro _
  refine Safe.bind _ (part48_safe A c I i _ _ _ _ _) ?_; rintro _
  refine Safe.bind _ (part49_safe A c I i _ _ _) ?_; rintro _
  refine Safe.bind _ (part50_safe A c I i _ _ _) ?_; rintro _
  refine Safe.bind _ (part51_safe A c I i _ _ _) ?_; rintro _
  repeat' first | with_reducible refine Safe.load _ fun _ => ?_ | with_reducible refine Safe.store _ ?_ | with_reducible exact Safe.pure _

/-- The whole body runs, from any contents of its buffers. -/
theorem body_safe : Safe (fam A c I) (A.app (cc0_tpa_attention (F := F) i)) := by
  rw [cc0_tpa_attention_eq_skeleton]; unfold cc0_tpa_attention_skel
  refine Safe.bind _ (part52_safe A c I i) ?_; rintro ⟨_, _, _⟩
  repeat' first | with_reducible refine Safe.load _ fun _ => ?_ | with_reducible refine Safe.store _ ?_ | with_reducible exact Safe.pure _

end Cert.Proof.Kernel

end
-- ==== Proof.FrameB.lean ====
/- The frame of `Kernel`: every run ends, with the arguments as they were and every counter at zero. The body is gone
   through from arbitrary scratch contents and the results' staging buffers are forgotten. -/
module

public import proofs.«01_k».proof.Proof.SafeB

@[expose] public section

set_option maxRecDepth 16384

noncomputable section

namespace Cert.Proof.Kernel

open Cert.Kernel Cert.Kernel.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The memrefs the body is called with at point `t`. -/
abbrev argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _
  a21 := Memref.whole cc0_scratch6
  h21 := Memref.isWhole_whole _
  a22 := Memref.whole cc0_scratch7
  h22 := Memref.isWhole_whole _
  a23 := Memref.whole cc0_scratch8
  h23 := Memref.isWhole_whole _
  a24 := Memref.whole cc0_scratch9
  h24 := Memref.isWhole_whole _
  a25 := Memref.whole cc0_scratch10
  h25 := Memref.isWhole_whole _
  a26 := Memref.whole cc0_scratch11
  h26 := Memref.isWhole_whole _

/-- What the staged inputs hold at point `t`: the windows' blocks. -/
def inAt (c : Dev nD) (t : Fin cfg0.N) : In F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t

/-- The proof data of the frame: an input window keeps its block, a result's window is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => Dat.unnamed 13 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- A program that runs on the 26 memrefs hands the inputs back as they were and everything else at some contents. -/
theorem run_own (A : Args) (c : Dev nD) (I : In F) {p : Prog (TpuEff nD τ sig (Elt F) Λ₀ .tc) PUnit} (h : Safe (fam A c I) p) (σ : Sc F) :
    (iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare σ.out ∗ owns (c : Thread nD τ) A.a14 fullShare σ.lse ∗ owns (c : Thread nD τ) A.a15 fullShare σ.akt ∗ owns (c : Thread nD τ) A.a16 fullShare σ.avt ∗ owns (c : Thread nD τ) A.a17 fullShare σ.bvt ∗ owns (c : Thread nD τ) A.a18 fullShare σ.mask ∗ owns (c : Thread nD τ) A.a19 fullShare σ.fta ∗ owns (c : Thread nD τ) A.a20 fullShare σ.ftb ∗ owns (c : Thread nD τ) A.a21 fullShare σ.bd ∗ owns (c : Thread nD τ) A.a22 fullShare σ.sb ∗ owns (c : Thread nD τ) A.a23 fullShare σ.mb ∗ owns (c : Thread nD τ) A.a24 fullShare σ.lb ∗ owns (c : Thread nD τ) A.a25 fullShare σ.ob ∗ owns (c : Thread nD τ) A.a26 fullShare σ.csb) : sProp 𝕄) ⊢ wp frame (wpE (defs₀ (F := F)) Variants.none (c : Thread nD τ) none) Set.univ p
      (fun _ => iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ (∃ x, owns (c : Thread nD τ) A.a13 fullShare x) ∗ (∃ x, owns (c : Thread nD τ) A.a14 fullShare x) ∗ (∃ x, owns (c : Thread nD τ) A.a15 fullShare x) ∗ (∃ x, owns (c : Thread nD τ) A.a16 fullShare x) ∗ (∃ x, owns (c : Thread nD τ) A.a17 fullShare x) ∗ (∃ x, owns (c : Thread nD τ) A.a18 fullShare x) ∗ (∃ x, owns (c : Thread nD τ) A.a19 fullShare x) ∗ (∃ x, owns (c : Thread nD τ) A.a20 fullShare x) ∗ (∃ x, owns (c : Thread nD τ) A.a21 fullShare x) ∗ (∃ x, owns (c : Thread nD τ) A.a22 fullShare x) ∗ (∃ x, owns (c : Thread nD τ) A.a23 fullShare x) ∗ (∃ x, owns (c : Thread nD τ) A.a24 fullShare x) ∗ (∃ x, owns (c : Thread nD τ) A.a25 fullShare x) ∗ (∃ x, owns (c : Thread nD τ) A.a26 fullShare x))) := by
  have h' := h σ
  unfold WP at h'
  simp only [fam_own] at h'
  refine h'.trans (wp_mono frame (wpE (defs₀ (F := F)) Variants.none (c : Thread nD τ) none) Set.univ fun _ => ?_)
  iintro ⟨%σ', -, H1, H2, H3, H4, H5, H6, H7, H8, H9, H10, H11, H12, H13, H14, H15, H16, H17, H18, H19, H20, H21, H22, H23, H24, H25, H26⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iexists _; iexact H26

/-- What the body is handed at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ X, owns (c : Thread nD τ) (st0_12 t) fullShare X) ∗ (∃ X, owns (c : Thread nD τ) (st0_13 t) fullShare X))

/-- What it leaves. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ X, owns (c : Thread nD τ) (st0_12 t) fullShare X) ∗ (∃ X, owns (c : Thread nD τ) (st0_13 t) fullShare X))

/-- The scratch buffers as memrefs owned at some contents. -/
theorem scratch_owns (c : Dev nD) : (Pipeline.scopedRest (Ix := Unit) (Name := ℕ) (U := UR sig nD τ) (Lvl := ℕ) (Val := Elt F) spec0 c : sProp 𝕄)
    = iprop((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f) ∗ (∃ f, owns (c : Thread nD τ) (Memref.whole cc0_scratch7) fullShare f) ∗ (∃ f, owns (c : Thread nD τ) (Memref.whole cc0_scratch8) fullShare f) ∗ (∃ f, owns (c : Thread nD τ) (Memref.whole cc0_scratch9) fullShare f) ∗ (∃ f, owns (c : Thread nD τ) (Memref.whole cc0_scratch10) fullShare f) ∗ (∃ f, owns (c : Thread nD τ) (Memref.whole cc0_scratch11) fullShare f)) := by
  rw [scopedRest0_eq]
  simp only [owns_whole]

/-- The body at any point, from any scratch contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scratch_owns]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%X12, H12⟩, ⟨%X13, H13⟩⟩
  have h := run_own (argsAt t) c (inAt m c t) (body_safe (argsAt t) c (inAt m c t) (grid0.coords t)) ⟨X12, X13, f0, f1, f2, f3, f4, f5, f6, f7, f8, f9, f10, f11⟩
  dsimp only [argsAt, inAt] at h
  iapply (wp_wand_r frame (wpE (defs₀ (F := F)) Variants.none (c : Thread nD τ) none) Set.univ)
  isplitl [H0 H1 H2 H3 H4 H5 H6 H7 H8 H9 H10 H11 H12 H13 S0 S1 S2 S3 S4 S5 S6 S7 S8 S9 S10 S11]
  · iapply h
    iframe H0 H1 H2 H3 H4 H5 H6 H7 H8 H9 H10 H11 H12 H13 S0 S1 S2 S3 S4 S5 S6 S7 S8 S9 S10 S11
  · iintro %a ⟨H0, H1, H2, H3, H4, H5, H6, H7, H8, H9, H10, H11, H12, H13, S0, S1, S2, S3, S4, S5, S6, S7, S8, S9, S10, S11⟩
    iframe Hp Ho H0 H1 H2 H3 H4 H5 H6 H7 H8 H9 H10 H11 H12 H13 S0 S1 S2 S3 S4 S5 S6 S7 S8 S9 S10 S11

/-- The windows whose contents are forgotten: the results'. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers the host operations after the region write. -/
def T : Finset (Ref sig .tc) := {main_v30, main_v31, main_v32, main_v33}

theorem sfx_T : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    (simp only [StableHlo.unary_writes, StableHlo.reshape_writes, Finset.mem_singleton] at hb
     have hb' := Proc.devRef_injective _ hb
     subst hb'; decide)

set_option backward.isDefEq.respectTransparency.types false in
set_option maxHeartbeats 800000 in
/-- The launch, with the results forgotten. -/
theorem run_main : θ_run defs (onTc (τ := τ) (main (F := F))) (s₀ m ρ) (fun r => Pipeline.RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl)

/-- The frame: `Cert.quiescent_Kernel`'s statement at any float reading. -/
theorem frame_thm : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c), ((h.1 c).2 main_arg8 (Finset.mem_sdiff.mpr ⟨Pipeline.mem_restRefs_of main_arg8 (by decide) (by decide), by decide⟩)).trans (V_main_arg8 m c), ((h.1 c).2 main_arg9 (Finset.mem_sdiff.mpr ⟨Pipeline.mem_restRefs_of main_arg9 (by decide) (by decide), by decide⟩)).trans (V_main_arg9 m c), ((h.1 c).2 main_arg10 (Finset.mem_sdiff.mpr ⟨Pipeline.mem_restRefs_of main_arg10 (by decide) (by decide), by decide⟩)).trans (V_main_arg10 m c), ((h.1 c).2 main_arg11 (Finset.mem_sdiff.mpr ⟨Pipeline.mem_restRefs_of main_arg11 (by decide) (by decide), by decide⟩)).trans (V_main_arg11 m c)⟩, h.2⟩) (run_main m ρ)

end Cert.Proof.Kernel

end
-- ==== Proof.CellsI.lean ====
/- The buffers of the kernel `KernelIdeal` as one family: what each holds is a field of `In` (the staged inputs, never stored
   into) or of `Sc` (the results' staging buffers and the scratch), and each memref is found by instance. -/
module

public import proofs.«01_k».proof.Proof.Step
public import proofs.«01_k».proof.Proof.Gen.KernelIdeal.Frame

@[expose] public section

noncomputable section

namespace Cert.Proof.KernelIdeal

open Cert.KernelIdeal Cert.KernelIdeal.Gen Cert.Proof.Step
open Idealize.ShloMosaic Idealize.ShloMosaic.TcCoe
open Idealize.SL Idealize.SL.BI
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (UR sig nD τ) ℕ

/-- The memrefs the kernel body is called with, each a whole buffer. -/
structure Args where
  a1 : Memref sig .tc .vmem S9216x32 .fp8e4m3
  h1 : a1.IsWhole
  a2 : Memref sig .tc .vmem S1x1x192 .f32
  h2 : a2.IsWhole
  a3 : Memref sig .tc .vmem S9216x128 .fp8e4m3
  h3 : a3.IsWhole
  a4 : Memref sig .tc .vmem S1x1x192 .f32
  h4 : a4.IsWhole
  a5 : Memref sig .tc .vmem S2x1536x32 .fp8e4m3
  h5 : a5.IsWhole
  a6 : Memref sig .tc .vmem S2x12x1x128 .f32
  h6 : a6.IsWhole
  a7 : Memref sig .tc .vmem S12x256x128 .fp8e4m3
  h7 : a7.IsWhole
  a8 : Memref sig .tc .vmem S2x12x1x128 .f32
  h8 : a8.IsWhole
  a9 : Memref sig .tc .vmem S2x1536x32 .fp8e4m3
  h9 : a9.IsWhole
  a10 : Memref sig .tc .vmem S2x12x1x128 .f32
  h10 : a10.IsWhole
  a11 : Memref sig .tc .vmem S2x1536x128 .fp8e4m3
  h11 : a11.IsWhole
  a12 : Memref sig .tc .vmem S2x12x1x128 .f32
  h12 : a12.IsWhole
  a13 : Memref sig .tc .vmem S32x4096 .bf16
  h13 : a13.IsWhole
  a14 : Memref sig .tc .vmem S1x4x256 .f32
  h14 : a14.IsWhole
  a15 : Memref sig .tc .vmem S2x1536x256 .f32
  h15 : a15.IsWhole
  a16 : Memref sig .tc .vmem S2x1536x256 .f32
  h16 : a16.IsWhole
  a17 : Memref sig .tc .vmem S12x128x256 .bf16
  h17 : a17.IsWhole
  a18 : Memref sig .tc .vmem S288x256 .f32
  h18 : a18.IsWhole
  a19 : Memref sig .tc .vmem S4x3072x128 .bf16
  h19 : a19.IsWhole
  a20 : Memref sig .tc .vmem S3072x128 .bf16
  h20 : a20.IsWhole
  a21 : Memref sig .tc .vmem S4x256x256 .bf16
  h21 : a21.IsWhole
  a22 : Memref sig .tc .vmem S4x1536x256 .f32
  h22 : a22.IsWhole
  a23 : Memref sig .tc .vmem S4x8x256 .f32
  h23 : a23.IsWhole
  a24 : Memref sig .tc .vmem S4x8x256 .f32
  h24 : a24.IsWhole
  a25 : Memref sig .tc .vmem S4x128x256 .f32
  h25 : a25.IsWhole
  a26 : Memref sig .tc .vmem S192x128 .f32
  h26 : a26.IsWhole

/-- What the staged inputs hold. -/
structure In (F : FTy → Type) where
  /-- The query A codes. -/
  x1 : Vec F S9216x32 .fp8e4m3
  /-- The query A scales. -/
  x2 : Vec F S1x1x192 .f32
  /-- The query B codes. -/
  x3 : Vec F S9216x128 .fp8e4m3
  /-- The query B scales. -/
  x4 : Vec F S1x1x192 .f32
  /-- The key A codes. -/
  x5 : Vec F S2x1536x32 .fp8e4m3
  /-- The key A scales. -/
  x6 : Vec F S2x12x1x128 .f32
  /-- The key B codes. -/
  x7 : Vec F S12x256x128 .fp8e4m3
  /-- The key B scales. -/
  x8 : Vec F S2x12x1x128 .f32
  /-- The value A codes. -/
  x9 : Vec F S2x1536x32 .fp8e4m3
  /-- The value A scales. -/
  x10 : Vec F S2x12x1x128 .f32
  /-- The value B codes. -/
  x11 : Vec F S2x1536x128 .fp8e4m3
  /-- The value B scales. -/
  x12 : Vec F S2x12x1x128 .f32

/-- What the results' staging buffers and the scratch buffers hold. -/
structure Sc (F : FTy → Type) where
  /-- The output block. -/
  out : Vec F S32x4096 .bf16
  /-- The log-sum-exp block. -/
  lse : Vec F S1x4x256 .f32
  /-- The key A codes times their scales, one table per rank. -/
  akt : Vec F S2x1536x256 .f32
  /-- The value A codes times their scales. -/
  avt : Vec F S2x1536x256 .f32
  /-- The transposed value B codes times their scales, per chunk. -/
  bvt : Vec F S12x128x256 .bf16
  /-- The causal mask. -/
  mask : Vec F S288x256 .f32
  /-- The B score products, three terms per token. -/
  fta : Vec F S4x3072x128 .bf16
  /-- The same, the remaining rows. -/
  ftb : Vec F S3072x128 .bf16
  /-- The block-diagonal query A codes. -/
  bd : Vec F S4x256x256 .bf16
  /-- The scores. -/
  sb : Vec F S4x1536x256 .f32
  /-- The running maxima. -/
  mb : Vec F S4x8x256 .f32
  /-- The running sums. -/
  lb : Vec F S4x8x256 .f32
  /-- The running outputs. -/
  ob : Vec F S4x128x256 .f32
  /-- The query scales, broadcast. -/
  csb : Vec F S192x128 .f32

/-- Buffer `b` of the family, held at the inputs `I` and the state `σ`. -/
def cell (A : Args) (c : Dev nD) (I : In F) (σ : Sc F) : Fin 26 → sProp 𝕄
  | 0 => owns (c : Thread nD τ) A.a1 fullShare I.x1
  | 1 => owns (c : Thread nD τ) A.a2 fullShare I.x2
  | 2 => owns (c : Thread nD τ) A.a3 fullShare I.x3
  | 3 => owns (c : Thread nD τ) A.a4 fullShare I.x4
  | 4 => owns (c : Thread nD τ) A.a5 fullShare I.x5
  | 5 => owns (c : Thread nD τ) A.a6 fullShare I.x6
  | 6 => owns (c : Thread nD τ) A.a7 fullShare I.x7
  | 7 => owns (c : Thread nD τ) A.a8 fullShare I.x8
  | 8 => owns (c : Thread nD τ) A.a9 fullShare I.x9
  | 9 => owns (c : Thread nD τ) A.a10 fullShare I.x10
  | 10 => owns (c : Thread nD τ) A.a11 fullShare I.x11
  | 11 => owns (c : Thread nD τ) A.a12 fullShare I.x12
  | 12 => owns (c : Thread nD τ) A.a13 fullShare σ.out
  | 13 => owns (c : Thread nD τ) A.a14 fullShare σ.lse
  | 14 => owns (c : Thread nD τ) A.a15 fullShare σ.akt
  | 15 => owns (c : Thread nD τ) A.a16 fullShare σ.avt
  | 16 => owns (c : Thread nD τ) A.a17 fullShare σ.bvt
  | 17 => owns (c : Thread nD τ) A.a18 fullShare σ.mask
  | 18 => owns (c : Thread nD τ) A.a19 fullShare σ.fta
  | 19 => owns (c : Thread nD τ) A.a20 fullShare σ.ftb
  | 20 => owns (c : Thread nD τ) A.a21 fullShare σ.bd
  | 21 => owns (c : Thread nD τ) A.a22 fullShare σ.sb
  | 22 => owns (c : Thread nD τ) A.a23 fullShare σ.mb
  | 23 => owns (c : Thread nD τ) A.a24 fullShare σ.lb
  | 24 => owns (c : Thread nD τ) A.a25 fullShare σ.ob
  | 25 => owns (c : Thread nD τ) A.a26 fullShare σ.csb
  | ⟨_ + 26, h⟩ => absurd h (by omega)

/-- The kernel body's buffers as a family over its states. -/
def fam (A : Args) (c : Dev nD) (I : In F) : Fam nD τ sig (Elt F) (UR sig nD τ) Λ₀ (Sc F) where
  defs := defs₀ (F := F)
  c := c
  own σ := bigSep Finset.univ (cell A c I σ)

/-- The family as a conjunction over its 26 buffers in order. -/
theorem fam_own (A : Args) (c : Dev nD) (I : In F) (σ : Sc F) :
    (fam A c I).own σ = iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare σ.out ∗ owns (c : Thread nD τ) A.a14 fullShare σ.lse ∗ owns (c : Thread nD τ) A.a15 fullShare σ.akt ∗ owns (c : Thread nD τ) A.a16 fullShare σ.avt ∗ owns (c : Thread nD τ) A.a17 fullShare σ.bvt ∗ owns (c : Thread nD τ) A.a18 fullShare σ.mask ∗ owns (c : Thread nD τ) A.a19 fullShare σ.fta ∗ owns (c : Thread nD τ) A.a20 fullShare σ.ftb ∗ owns (c : Thread nD τ) A.a21 fullShare σ.bd ∗ owns (c : Thread nD τ) A.a22 fullShare σ.sb ∗ owns (c : Thread nD τ) A.a23 fullShare σ.mb ∗ owns (c : Thread nD τ) A.a24 fullShare σ.lb ∗ owns (c : Thread nD τ) A.a25 fullShare σ.ob ∗ owns (c : Thread nD τ) A.a26 fullShare σ.csb) :=
  (bigSep_univ_eq_bigSepL [0, 1, 2, 3, 4, 5, 6, 7, 8, 9, 10, 11, 12, 13, 14, 15, 16, 17, 18, 19, 20, 21, 22, 23, 24, 25] (by decide) (by decide) (cell A c I σ) :)

/-- One buffer out of the family, and back at any contents that change no other. -/
theorem take (A : Args) (c : Dev nD) (I : In F) (σ : Sc F) (b : Fin 26) {X : Type} {P : X → sProp 𝕄} (upd : X → Sc F)
    (hP : ∀ x, cell A c I (upd x) b = P x) (hother : ∀ x j, j ≠ b → cell A c I (upd x) j = cell A c I σ j) :
    (fam A c I).own σ ⊢ iprop(cell A c I σ b ∗ (∀ x, P x -∗ (fam A c I).own (upd x))) := by
  have h := Step.bigSep_take (cell A c I σ) b (fun x => cell A c I (upd x)) hother
  simp only [hP] at h
  exact h

/-- A buffer out of the family, and back as it was. -/
theorem takeRd (A : Args) (c : Dev nD) (I : In F) (σ : Sc F) (b : Fin 26) :
    (fam A c I).own σ ⊢ iprop(cell A c I σ b ∗ (cell A c I σ b -∗ (fam A c I).own σ)) := by
  refine (take A c I σ b (X := Unit) (P := fun _ => cell A c I σ b) (fun _ => σ) (fun _ => rfl) (fun _ _ _ => rfl)).trans ?_
  iintro ⟨H, K⟩; isplitl [H]; · iexact H
  iapply K $$ %()

section Cells

variable (A : Args) (c : Dev nD) (I : In F)

instance : Rd (fam A c I) A.a1 := ⟨fun _ => I.x1, fun σ => takeRd A c I σ 0⟩
instance : Rd (fam A c I) A.a2 := ⟨fun _ => I.x2, fun σ => takeRd A c I σ 1⟩
instance : Rd (fam A c I) A.a3 := ⟨fun _ => I.x3, fun σ => takeRd A c I σ 2⟩
instance : Rd (fam A c I) A.a4 := ⟨fun _ => I.x4, fun σ => takeRd A c I σ 3⟩
instance : Rd (fam A c I) A.a5 := ⟨fun _ => I.x5, fun σ => takeRd A c I σ 4⟩
instance : Rd (fam A c I) A.a6 := ⟨fun _ => I.x6, fun σ => takeRd A c I σ 5⟩
instance : Rd (fam A c I) A.a7 := ⟨fun _ => I.x7, fun σ => takeRd A c I σ 6⟩
instance : Rd (fam A c I) A.a8 := ⟨fun _ => I.x8, fun σ => takeRd A c I σ 7⟩
instance : Rd (fam A c I) A.a9 := ⟨fun _ => I.x9, fun σ => takeRd A c I σ 8⟩
instance : Rd (fam A c I) A.a10 := ⟨fun _ => I.x10, fun σ => takeRd A c I σ 9⟩
instance : Rd (fam A c I) A.a11 := ⟨fun _ => I.x11, fun σ => takeRd A c I σ 10⟩
instance : Rd (fam A c I) A.a12 := ⟨fun _ => I.x12, fun σ => takeRd A c I σ 11⟩
instance : Rd (fam A c I) A.a13 := ⟨fun σ => σ.out, fun σ => takeRd A c I σ 12⟩
instance : Wr (fam A c I) A.a13 := ⟨fun σ => σ.out, fun σ x => { σ with out := x }, fun σ => take A c I σ 12 _ (fun _ => rfl) (fun _ j hj => by fin_cases j <;> first | rfl | exact absurd rfl hj)⟩
instance : Rd (fam A c I) A.a14 := ⟨fun σ => σ.lse, fun σ => takeRd A c I σ 13⟩
instance : Wr (fam A c I) A.a14 := ⟨fun σ => σ.lse, fun σ x => { σ with lse := x }, fun σ => take A c I σ 13 _ (fun _ => rfl) (fun _ j hj => by fin_cases j <;> first | rfl | exact absurd rfl hj)⟩
instance : Rd (fam A c I) A.a15 := ⟨fun σ => σ.akt, fun σ => takeRd A c I σ 14⟩
instance : Wr (fam A c I) A.a15 := ⟨fun σ => σ.akt, fun σ x => { σ with akt := x }, fun σ => take A c I σ 14 _ (fun _ => rfl) (fun _ j hj => by fin_cases j <;> first | rfl | exact absurd rfl hj)⟩
instance : Rd (fam A c I) A.a16 := ⟨fun σ => σ.avt, fun σ => takeRd A c I σ 15⟩
instance : Wr (fam A c I) A.a16 := ⟨fun σ => σ.avt, fun σ x => { σ with avt := x }, fun σ => take A c I σ 15 _ (fun _ => rfl) (fun _ j hj => by fin_cases j <;> first | rfl | exact absurd rfl hj)⟩
instance : Rd (fam A c I) A.a17 := ⟨fun σ => σ.bvt, fun σ => takeRd A c I σ 16⟩
instance : Wr (fam A c I) A.a17 := ⟨fun σ => σ.bvt, fun σ x => { σ with bvt := x }, fun σ => take A c I σ 16 _ (fun _ => rfl) (fun _ j hj => by fin_cases j <;> first | rfl | exact absurd rfl hj)⟩
instance : Rd (fam A c I) A.a18 := ⟨fun σ => σ.mask, fun σ => takeRd A c I σ 17⟩
instance : Wr (fam A c I) A.a18 := ⟨fun σ => σ.mask, fun σ x => { σ with mask := x }, fun σ => take A c I σ 17 _ (fun _ => rfl) (fun _ j hj => by fin_cases j <;> first | rfl | exact absurd rfl hj)⟩
instance : Rd (fam A c I) A.a19 := ⟨fun σ => σ.fta, fun σ => takeRd A c I σ 18⟩
instance : Wr (fam A c I) A.a19 := ⟨fun σ => σ.fta, fun σ x => { σ with fta := x }, fun σ => take A c I σ 18 _ (fun _ => rfl) (fun _ j hj => by fin_cases j <;> first | rfl | exact absurd rfl hj)⟩
instance : Rd (fam A c I) A.a20 := ⟨fun σ => σ.ftb, fun σ => takeRd A c I σ 19⟩
instance : Wr (fam A c I) A.a20 := ⟨fun σ => σ.ftb, fun σ x => { σ with ftb := x }, fun σ => take A c I σ 19 _ (fun _ => rfl) (fun _ j hj => by fin_cases j <;> first | rfl | exact absurd rfl hj)⟩
instance : Rd (fam A c I) A.a21 := ⟨fun σ => σ.bd, fun σ => takeRd A c I σ 20⟩
instance : Wr (fam A c I) A.a21 := ⟨fun σ => σ.bd, fun σ x => { σ with bd := x }, fun σ => take A c I σ 20 _ (fun _ => rfl) (fun _ j hj => by fin_cases j <;> first | rfl | exact absurd rfl hj)⟩
instance : Rd (fam A c I) A.a22 := ⟨fun σ => σ.sb, fun σ => takeRd A c I σ 21⟩
instance : Wr (fam A c I) A.a22 := ⟨fun σ => σ.sb, fun σ x => { σ with sb := x }, fun σ => take A c I σ 21 _ (fun _ => rfl) (fun _ j hj => by fin_cases j <;> first | rfl | exact absurd rfl hj)⟩
instance : Rd (fam A c I) A.a23 := ⟨fun σ => σ.mb, fun σ => takeRd A c I σ 22⟩
instance : Wr (fam A c I) A.a23 := ⟨fun σ => σ.mb, fun σ x => { σ with mb := x }, fun σ => take A c I σ 22 _ (fun _ => rfl) (fun _ j hj => by fin_cases j <;> first | rfl | exact absurd rfl hj)⟩
instance : Rd (fam A c I) A.a24 := ⟨fun σ => σ.lb, fun σ => takeRd A c I σ 23⟩
instance : Wr (fam A c I) A.a24 := ⟨fun σ => σ.lb, fun σ x => { σ with lb := x }, fun σ => take A c I σ 23 _ (fun _ => rfl) (fun _ j hj => by fin_cases j <;> first | rfl | exact absurd rfl hj)⟩
instance : Rd (fam A c I) A.a25 := ⟨fun σ => σ.ob, fun σ => takeRd A c I σ 24⟩
instance : Wr (fam A c I) A.a25 := ⟨fun σ => σ.ob, fun σ x => { σ with ob := x }, fun σ => take A c I σ 24 _ (fun _ => rfl) (fun _ j hj => by fin_cases j <;> first | rfl | exact absurd rfl hj)⟩
instance : Rd (fam A c I) A.a26 := ⟨fun σ => σ.csb, fun σ => takeRd A c I σ 25⟩
instance : Wr (fam A c I) A.a26 := ⟨fun σ => σ.csb, fun σ x => { σ with csb := x }, fun σ => take A c I σ 25 _ (fun _ => rfl) (fun _ j hj => by fin_cases j <;> first | rfl | exact absurd rfl hj)⟩

end Cells

/-- A function of the 26 memrefs and of their being whole, at `A`. -/
abbrev Args.app (A : Args) {α : Type 1} (f : (a1 : Memref sig .tc .vmem S9216x32 .fp8e4m3) → a1.IsWhole → (a2 : Memref sig .tc .vmem S1x1x192 .f32) → a2.IsWhole → (a3 : Memref sig .tc .vmem S9216x128 .fp8e4m3) → a3.IsWhole → (a4 : Memref sig .tc .vmem S1x1x192 .f32) → a4.IsWhole → (a5 : Memref sig .tc .vmem S2x1536x32 .fp8e4m3) → a5.IsWhole → (a6 : Memref sig .tc .vmem S2x12x1x128 .f32) → a6.IsWhole → (a7 : Memref sig .tc .vmem S12x256x128 .fp8e4m3) → a7.IsWhole → (a8 : Memref sig .tc .vmem S2x12x1x128 .f32) → a8.IsWhole → (a9 : Memref sig .tc .vmem S2x1536x32 .fp8e4m3) → a9.IsWhole → (a10 : Memref sig .tc .vmem S2x12x1x128 .f32) → a10.IsWhole → (a11 : Memref sig .tc .vmem S2x1536x128 .fp8e4m3) → a11.IsWhole → (a12 : Memref sig .tc .vmem S2x12x1x128 .f32) → a12.IsWhole → (a13 : Memref sig .tc .vmem S32x4096 .bf16) → a13.IsWhole → (a14 : Memref sig .tc .vmem S1x4x256 .f32) → a14.IsWhole → (a15 : Memref sig .tc .vmem S2x1536x256 .f32) → a15.IsWhole → (a16 : Memref sig .tc .vmem S2x1536x256 .f32) → a16.IsWhole → (a17 : Memref sig .tc .vmem S12x128x256 .bf16) → a17.IsWhole → (a18 : Memref sig .tc .vmem S288x256 .f32) → a18.IsWhole → (a19 : Memref sig .tc .vmem S4x3072x128 .bf16) → a19.IsWhole → (a20 : Memref sig .tc .vmem S3072x128 .bf16) → a20.IsWhole → (a21 : Memref sig .tc .vmem S4x256x256 .bf16) → a21.IsWhole → (a22 : Memref sig .tc .vmem S4x1536x256 .f32) → a22.IsWhole → (a23 : Memref sig .tc .vmem S4x8x256 .f32) → a23.IsWhole → (a24 : Memref sig .tc .vmem S4x8x256 .f32) → a24.IsWhole → (a25 : Memref sig .tc .vmem S4x128x256 .f32) → a25.IsWhole → (a26 : Memref sig .tc .vmem S192x128 .f32) → a26.IsWhole → α) : α :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26

end Cert.Proof.KernelIdeal

end
-- ==== Proof.SafeI.lean ====
/- The body of `KernelIdeal` runs at every grid point and from every contents of its buffers, part by part. -/
module

public import proofs.«01_k».proof.Proof.CellsI
public import proofs.«01_k».proof.Proof.Gen.KernelIdeal.Skeleton

@[expose] public section

set_option maxRecDepth 16384

noncomputable section

namespace Cert.Proof.KernelIdeal

open Cert.KernelIdeal Cert.KernelIdeal.Gen Cert.Proof.Step
open Idealize.ShloMosaic Idealize.ShloMosaic.TcCoe
open Idealize.SL Idealize.SL.BI Idealize.SL.Sem

variable {F : FTy → Type} [FloatOps F] [Named F]
variable (A : Args) (c : Dev nD) (I : In F) (i : grid0.Coords)

theorem part1_safe (v29) (k0_h1) (c0_i32_462) (c1_i32_463) (k0_t1) : Safe (fam A c I) (A.app (k0_part1 (F := F) i) v29 k0_h1 c0_i32_462 c1_i32_463 k0_t1) := by
  rw [k0_part1_eq_skeleton]; unfold k0_part1_skel
  repeat' first | with_reducible refine Safe.load _ fun _ => ?_ | with_reducible refine Safe.store _ ?_ | with_reducible exact Safe.pure _

theorem part2_safe (v29) (k0_h1) (k0_t1) (arg27) (v1021) (v1058) : Safe (fam A c I) (A.app (k0_part2 (F := F) i) v29 k0_h1 k0_t1 arg27 v1021 v1058) := by
  rw [k0_part2_eq_skeleton]; unfold k0_part2_skel
  repeat' first | with_reducible refine Safe.load _ fun _ => ?_ | with_reducible refine Safe.store _ ?_ | with_reducible exact Safe.pure _

theorem part3_safe (v29) (k0_h1) (c0_i32_462) (c1_i32_463) (k0_t1) : Safe (fam A c I) (A.app (k0_part3 (F := F) i) v29 k0_h1 c0_i32_462 c1_i32_463 k0_t1) := by
  rw [k0_part3_eq_skeleton]; unfold k0_part3_skel
  refine Safe.bind _ (part1_safe A c I i _ _ _ _ _) ?_; rintro ⟨_, _, _⟩
  refine Safe.bind _ (part2_safe A c I i _ _ _ _ _ _) ?_; rintro _
  repeat' first | with_reducible refine Safe.load _ fun _ => ?_ | with_reducible refine Safe.store _ ?_ | with_reducible exact Safe.pure _

theorem part4_safe (v34) (c0_i32_106) (c1_i32_109) (k0_t2) : Safe (fam A c I) (A.app (k0_part4 (F := F) i) v34 c0_i32_106 c1_i32_109 k0_t2) := by
  rw [k0_part4_eq_skeleton]; unfold k0_part4_skel
  repeat' first | with_reducible refine Safe.load _ fun _ => ?_ | with_reducible refine Safe.store _ ?_ | with_reducible exact Safe.pure _

theorem part5_safe (k0_t2) (arg27) (v999) (v1013) (v1014) (v1015) (v1018) (v1028) (v1038) : Safe (fam A c I) (A.app (k0_part5 (F := F) i) k0_t2 arg27 v999 v1013 v1014 v1015 v1018 v1028 v1038) := by
  rw [k0_part5_eq_skeleton]; unfold k0_part5_skel
  repeat' first | with_reducible refine Safe.load _ fun _ => ?_ | with_reducible refine Safe.store _ ?_ | with_reducible exact Safe.pure _

theorem part6_safe (k0_t2) (v1079) (v1080) (v1081) (v1084) (v1085) (v1086) : Safe (fam A c I) (A.app (k0_part6 (F := F) i) k0_t2 v1079 v1080 v1081 v1084 v1085 v1086) := by
  rw [k0_part6_eq_skeleton]; unfold k0_part6_skel
  repeat' first | with_reducible refine Safe.load _ fun _ => ?_ | with_reducible refine Safe.store _ ?_ | with_reducible exact Safe.pure _

theorem part7_safe (k0_t2) (arg27) : Safe (fam A c I) (A.app (k0_part7 (F := F) i) k0_t2 arg27) := by
  rw [k0_part7_eq_skeleton]; unfold k0_part7_skel
  repeat' first | with_reducible refine Safe.load _ fun _ => ?_ | with_reducible refine Safe.store _ ?_ | with_reducible exact Safe.pure _

theorem part8_safe (k0_t2) (arg27) : Safe (fam A c I) (A.app (k0_part8 (F := F) i) k0_t2 arg27) := by
  rw [k0_part8_eq_skeleton]; unfold k0_part8_skel
  repeat' first | with_reducible refine Safe.load _ fun _ => ?_ | with_reducible refine Safe.store _ ?_ | with_reducible exact Safe.pure _

theorem part9_safe (k0_t2) (arg27) : Safe (fam A c I) (A.app (k0_part9 (F := F) i) k0_t2 arg27) := by
  rw [k0_part9_eq_skeleton]; unfold k0_part9_skel
  repeat' first | with_reducible refine Safe.load _ fun _ => ?_ | with_reducible refine Safe.store _ ?_ | with_reducible exact Safe.pure _

theorem part10_safe (k0_t2) (arg27) : Safe (fam A c I) (A.app (k0_part10 (F := F) i) k0_t2 arg27) := by
  rw [k0_part10_eq_skeleton]; unfold k0_part10_skel
  repeat' first | with_reducible refine Safe.load _ fun _ => ?_ | with_reducible refine Safe.store _ ?_ | with_reducible exact Safe.pure _

theorem part11_safe (v34) (v223) (c1_i32_110) (k0_t3) : Safe (fam A c I) (A.app (k0_part11 (F := F) i) v34 v223 c1_i32_110 k0_t3) := by
  rw [k0_part11_eq_skeleton]; unfold k0_part11_skel
  repeat' first | with_reducible refine Safe.load _ fun _ => ?_ | with_reducible refine Safe.store _ ?_ | with_reducible exact Safe.pure _

theorem part12_safe (k0_t3) (arg27) (v999) (v1013) (v1014) (v1015) (v1018) (v1028) (v1038) : Safe (fam A c I) (A.app (k0_part12 (F := F) i) k0_t3 arg27 v999 v1013 v1014 v1015 v1018 v1028 v1038) := by
  rw [k0_part12_eq_skeleton]; unfold k0_part12_skel
  repeat' first | with_reducible refine Safe.load _ fun _ => ?_ | with_reducible refine Safe.store _ ?_ | with_reducible exact Safe.pure _

theorem part13_safe (k0_t3) (v1079) (v1080) (v1081) (v1084) (v1085) (v1086) : Safe (fam A c I) (A.app (k0_part13 (F := F) i) k0_t3 v1079 v1080 v1081 v1084 v1085 v1086) := by
  rw [k0_part13_eq_skeleton]; unfold k0_part13_skel
  repeat' first | with_reducible refine Safe.load _ fun _ => ?_ | with_reducible refine Safe.store _ ?_ | with_reducible exact Safe.pure _

theorem part14_safe (k0_t3) (arg27) : Safe (fam A c I) (A.app (k0_part14 (F := F) i) k0_t3 arg27) := by
  rw [k0_part14_eq_skeleton]; unfold k0_part14_skel
  repeat' first | with_reducible refine Safe.load _ fun _ => ?_ | with_reducible refine Safe.store _ ?_ | with_reducible exact Safe.pure _

theorem part15_safe (k0_t3) (arg27) : Safe (fam A c I) (A.app (k0_part15 (F := F) i) k0_t3 arg27) := by
  rw [k0_part15_eq_skeleton]; unfold k0_part15_skel
  repeat' first | with_reducible refine Safe.load _ fun _ => ?_ | with_reducible refine Safe.store _ ?_ | with_reducible exact Safe.pure _

theorem part16_safe (k0_t3) (arg27) : Safe (fam A c I) (A.app (k0_part16 (F := F) i) k0_t3 arg27) := by
  rw [k0_part16_eq_skeleton]; unfold k0_part16_skel
  repeat' first | with_reducible refine Safe.load _ fun _ => ?_ | with_reducible refine Safe.store _ ?_ | with_reducible exact Safe.pure _

theorem part17_safe (k0_t3) (arg27) : Safe (fam A c I) (A.app (k0_part17 (F := F) i) k0_t3 arg27) := by
  rw [k0_part17_eq_skeleton]; unfold k0_part17_skel
  repeat' first | with_reducible refine Safe.load _ fun _ => ?_ | with_reducible refine Safe.store _ ?_ | with_reducible exact Safe.pure _

theorem part18_safe (c0_i32_285) (c1_i32_288) (k0_t4) : Safe (fam A c I) (A.app (k0_part18 (F := F) i) c0_i32_285 c1_i32_288 k0_t4) := by
  rw [k0_part18_eq_skeleton]; unfold k0_part18_skel
  repeat' first | with_reducible refine Safe.load _ fun _ => ?_ | with_reducible refine Safe.store _ ?_ | with_reducible exact Safe.pure _

theorem part19_safe (k0_t4) (arg27) (v1027) : Safe (fam A c I) (A.app (k0_part19 (F := F) i) k0_t4 arg27 v1027) := by
  rw [k0_part19_eq_skeleton]; unfold k0_part19_skel
  repeat' first | with_reducible refine Safe.load _ fun _ => ?_ | with_reducible refine Safe.store _ ?_ | with_reducible exact Safe.pure _

theorem part20_safe (k0_t4) (arg27) (v1058) (v1060) : Safe (fam A c I) (A.app (k0_part20 (F := F) i) k0_t4 arg27 v1058 v1060) := by
  rw [k0_part20_eq_skeleton]; unfold k0_part20_skel
  repeat' first | with_reducible refine Safe.load _ fun _ => ?_ | with_reducible refine Safe.store _ ?_ | with_reducible exact Safe.pure _

theorem part21_safe (k0_t4) (arg27) (v1096) : Safe (fam A c I) (A.app (k0_part21 (F := F) i) k0_t4 arg27 v1096) := by
  rw [k0_part21_eq_skeleton]; unfold k0_part21_skel
  repeat' first | with_reducible refine Safe.load _ fun _ => ?_ | with_reducible refine Safe.store _ ?_ | with_reducible exact Safe.pure _

theorem part22_safe (v582) (c1_i32_289) (k0_t5) : Safe (fam A c I) (A.app (k0_part22 (F := F) i) v582 c1_i32_289 k0_t5) := by
  rw [k0_part22_eq_skeleton]; unfold k0_part22_skel
  repeat' first | with_reducible refine Safe.load _ fun _ => ?_ | with_reducible refine Safe.store _ ?_ | with_reducible exact Safe.pure _

theorem part23_safe (k0_t5) (arg27) (v1027) : Safe (fam A c I) (A.app (k0_part23 (F := F) i) k0_t5 arg27 v1027) := by
  rw [k0_part23_eq_skeleton]; unfold k0_part23_skel
  repeat' first | with_reducible refine Safe.load _ fun _ => ?_ | with_reducible refine Safe.store _ ?_ | with_reducible exact Safe.pure _

theorem part24_safe (k0_t5) (arg27) (v1058) (v1060) : Safe (fam A c I) (A.app (k0_part24 (F := F) i) k0_t5 arg27 v1058 v1060) := by
  rw [k0_part24_eq_skeleton]; unfold k0_part24_skel
  repeat' first | with_reducible refine Safe.load _ fun _ => ?_ | with_reducible refine Safe.store _ ?_ | with_reducible exact Safe.pure _

theorem part25_safe (k0_t5) (arg27) (v1096) : Safe (fam A c I) (A.app (k0_part25 (F := F) i) k0_t5 arg27 v1096) := by
  rw [k0_part25_eq_skeleton]; unfold k0_part25_skel
  repeat' first | with_reducible refine Safe.load _ fun _ => ?_ | with_reducible refine Safe.store _ ?_ | with_reducible exact Safe.pure _

theorem t1_safe (h : k0_cond1 i = 1#1) (t a) : Safe (fam A c I) (A.app (k0_t1_body (F := F) i) h t a) := by
  unfold k0_t1_body
  refine Safe.bind _ (part3_safe A c I i _ _ _ _ _) ?_; rintro _
  repeat' first | with_reducible refine Safe.load _ fun _ => ?_ | with_reducible refine Safe.store _ ?_ | with_reducible exact Safe.pure _

theorem part26_safe : Safe (fam A c I) (A.app (k0_part26 (F := F) i) ) := by
  rw [k0_part26_eq_skeleton]; unfold k0_part26_skel
  dsimp only [Args.app]
  split
  · repeat' first | with_reducible refine Safe.load _ fun _ => ?_ | with_reducible refine Safe.store _ ?_
    refine Safe.loop _ (fun t a => t1_safe A c I i _ t a) fun _ => ?_
    repeat' first | with_reducible refine Safe.load _ fun _ => ?_ | with_reducible exact Safe.pure _
  · repeat' first | with_reducible refine Safe.load _ fun _ => ?_ | with_reducible exact Safe.pure _

theorem part27_safe (v40) (c8_i32_6) (v41) (c1_i32_8) : Safe (fam A c I) (A.app (k0_part27 (F := F) i) v40 c8_i32_6 v41 c1_i32_8) := by
  rw [k0_part27_eq_skeleton]; unfold k0_part27_skel
  repeat' first | with_reducible refine Safe.load _ fun _ => ?_ | with_reducible refine Safe.store _ ?_ | with_reducible exact Safe.pure _

theorem part28_safe (v39) (v56) (v73) (c6_i32) (v75) (v82) (v87) : Safe (fam A c I) (A.app (k0_part28 (F := F) i) v39 v56 v73 c6_i32 v75 v82 v87) := by
  rw [k0_part28_eq_skeleton]; unfold k0_part28_skel
  repeat' first | with_reducible refine Safe.load _ fun _ => ?_ | with_reducible refine Safe.store _ ?_ | with_reducible exact Safe.pure _

theorem part29_safe (v101) (v121) : Safe (fam A c I) (A.app (k0_part29 (F := F) i) v101 v121) := by
  rw [k0_part29_eq_skeleton]; unfold k0_part29_skel
  repeat' first | with_reducible refine Safe.load _ fun _ => ?_ | with_reducible refine Safe.store _ ?_ | with_reducible exact Safe.pure _

theorem part30_safe (v101) (v140) : Safe (fam A c I) (A.app (k0_part30 (F := F) i) v101 v140) := by
  rw [k0_part30_eq_skeleton]; unfold k0_part30_skel
  repeat' first | with_reducible refine Safe.load _ fun _ => ?_ | with_reducible refine Safe.store _ ?_ | with_reducible exact Safe.pure _

theorem part31_safe (arg0) : Safe (fam A c I) (A.app (k0_part31 (F := F) i) arg0) := by
  rw [k0_part31_eq_skeleton]; unfold k0_part31_skel
  repeat' first | with_reducible refine Safe.load _ fun _ => ?_ | with_reducible refine Safe.store _ ?_ | with_reducible exact Safe.pure _

theorem t2_safe (v34) (v201) (c128_i32) (v202) (v207) (v209) (v210) (t a) : Safe (fam A c I) (A.app (k0_t2_body (F := F) i) v34 v201 c128_i32 v202 v207 v209 v210 t a) := by
  unfold k0_t2_body
  refine Safe.bind _ (part4_safe A c I i _ _ _ _) ?_; rintro ⟨_, _, _, _, _, _, _, _⟩
  refine Safe.bind _ (part5_safe A c I i _ _ _ _ _ _ _ _ _) ?_; rintro ⟨_, _, _, _, _, _⟩
  refine Safe.bind _ (part6_safe A c I i _ _ _ _ _ _ _) ?_; rintro _
  refine Safe.bind _ (part7_safe A c I i _ _) ?_; rintro _
  refine Safe.bind _ (part8_safe A c I i _ _) ?_; rintro _
  refine Safe.bind _ (part9_safe A c I i _ _) ?_; rintro _
  refine Safe.bind _ (part10_safe A c I i _ _) ?_; rintro _
  repeat' first | with_reducible refine Safe.load _ fun _ => ?_ | with_reducible refine Safe.store _ ?_ | with_reducible exact Safe.pure _

theorem t3_safe (v34) (v201) (c128_i32) (v202) (v207) (v209) (v210) (v223) (t a) : Safe (fam A c I) (A.app (k0_t3_body (F := F) i) v34 v201 c128_i32 v202 v207 v209 v210 v223 t a) := by
  unfold k0_t3_body
  refine Safe.bind _ (part11_safe A c I i _ _ _ _) ?_; rintro ⟨_, _, _, _, _, _, _, _⟩
  refine Safe.bind _ (part12_safe A c I i _ _ _ _ _ _ _ _ _) ?_; rintro ⟨_, _, _, _, _, _⟩
  refine Safe.bind _ (part13_safe A c I i _ _ _ _ _ _ _) ?_; rintro _
  refine Safe.bind _ (part14_safe A c I i _ _) ?_; rintro _
  refine Safe.bind _ (part15_safe A c I i _ _) ?_; rintro _
  refine Safe.bind _ (part16_safe A c I i _ _) ?_; rintro _
  refine Safe.bind _ (part17_safe A c I i _ _) ?_; rintro _
  repeat' first | with_reducible refine Safe.load _ fun _ => ?_ | with_reducible refine Safe.store _ ?_ | with_reducible exact Safe.pure _

theorem part32_safe (v34) (v201) (c128_i32) (v202) (v207) (v209) (v210) : Safe (fam A c I) (A.app (k0_part32 (F := F) i) v34 v201 c128_i32 v202 v207 v209 v210) := by
  rw [k0_part32_eq_skeleton]; unfold k0_part32_skel
  refine Safe.loop _ (fun t a => t2_safe A c I i _ _ _ _ _ _ _ t a) fun _ => ?_
  refine Safe.loop _ (fun t a => t3_safe A c I i _ _ _ _ _ _ _ _ t a) fun _ => ?_
  repeat' first | with_reducible refine Safe.load _ fun _ => ?_ | with_reducible refine Safe.store _ ?_ | with_reducible exact Safe.pure _

theorem part33_safe (v232) (v246) (v247) (v248) (v251) (v256) : Safe (fam A c I) (A.app (k0_part33 (F := F) i) v232 v246 v247 v248 v251 v256) := by
  rw [k0_part33_eq_skeleton]; unfold k0_part33_skel
  repeat' first | with_reducible refine Safe.load _ fun _ => ?_ | with_reducible refine Safe.store _ ?_ | with_reducible exact Safe.pure _

theorem part34_safe (v218) (v299) : Safe (fam A c I) (A.app (k0_part34 (F := F) i) v218 v299) := by
  rw [k0_part34_eq_skeleton]; unfold k0_part34_skel
  repeat' first | with_reducible refine Safe.load _ fun _ => ?_ | with_reducible refine Safe.store _ ?_ | with_reducible exact Safe.pure _

theorem part35_safe (v218) (v312) (v317) (v327) (v337) (v347) (v348) (v349) : Safe (fam A c I) (A.app (k0_part35 (F := F) i) v218 v312 v317 v327 v337 v347 v348 v349) := by
  rw [k0_part35_eq_skeleton]; unfold k0_part35_skel
  repeat' first | with_reducible refine Safe.load _ fun _ => ?_ | with_reducible refine Safe.store _ ?_ | with_reducible exact Safe.pure _

theorem part36_safe (arg0) (v218) (v367) (v387) (v388) : Safe (fam A c I) (A.app (k0_part36 (F := F) i) arg0 v218 v367 v387 v388) := by
  rw [k0_part36_eq_skeleton]; unfold k0_part36_skel
  repeat' first | with_reducible refine Safe.load _ fun _ => ?_ | with_reducible refine Safe.store _ ?_ | with_reducible exact Safe.pure _

theorem part37_safe (arg0) (v218) (v419) (v420) : Safe (fam A c I) (A.app (k0_part37 (F := F) i) arg0 v218 v419 v420) := by
  rw [k0_part37_eq_skeleton]; unfold k0_part37_skel
  repeat' first | with_reducible refine Safe.load _ fun _ => ?_ | with_reducible refine Safe.store _ ?_ | with_reducible exact Safe.pure _

theorem part38_safe (v218) (v458) : Safe (fam A c I) (A.app (k0_part38 (F := F) i) v218 v458) := by
  rw [k0_part38_eq_skeleton]; unfold k0_part38_skel
  repeat' first | with_reducible refine Safe.load _ fun _ => ?_ | with_reducible refine Safe.store _ ?_ | with_reducible exact Safe.pure _

theorem part39_safe (arg0) (v218) (v473) (v493) : Safe (fam A c I) (A.app (k0_part39 (F := F) i) arg0 v218 v473 v493) := by
  rw [k0_part39_eq_skeleton]; unfold k0_part39_skel
  repeat' first | with_reducible refine Safe.load _ fun _ => ?_ | with_reducible refine Safe.store _ ?_ | with_reducible exact Safe.pure _

theorem part40_safe (arg0) (v218) (v525) (v526) : Safe (fam A c I) (A.app (k0_part40 (F := F) i) arg0 v218 v525 v526) := by
  rw [k0_part40_eq_skeleton]; unfold k0_part40_skel
  repeat' first | with_reducible refine Safe.load _ fun _ => ?_ | with_reducible refine Safe.store _ ?_ | with_reducible exact Safe.pure _

theorem t4_safe (v218) (v561) (v563) (t a) : Safe (fam A c I) (A.app (k0_t4_body (F := F) i) v218 v561 v563 t a) := by
  unfold k0_t4_body
  refine Safe.bind _ (part18_safe A c I i _ _ _) ?_; rintro ⟨_, _⟩
  refine Safe.bind _ (part19_safe A c I i _ _ _) ?_; rintro ⟨_, _⟩
  refine Safe.bind _ (part20_safe A c I i _ _ _ _) ?_; rintro _
  refine Safe.bind _ (part21_safe A c I i _ _ _) ?_; rintro ⟨_, _⟩
  repeat' first | with_reducible refine Safe.load _ fun _ => ?_ | with_reducible refine Safe.store _ ?_ | with_reducible exact Safe.pure _

theorem t5_safe (v218) (v561) (v563) (v582) (t a) : Safe (fam A c I) (A.app (k0_t5_body (F := F) i) v218 v561 v563 v582 t a) := by
  unfold k0_t5_body
  refine Safe.bind _ (part22_safe A c I i _ _ _) ?_; rintro ⟨_, _⟩
  refine Safe.bind _ (part23_safe A c I i _ _ _) ?_; rintro ⟨_, _⟩
  refine Safe.bind _ (part24_safe A c I i _ _ _ _) ?_; rintro _
  refine Safe.bind _ (part25_safe A c I i _ _ _) ?_; rintro ⟨_, _⟩
  repeat' first | with_reducible refine Safe.load _ fun _ => ?_ | with_reducible refine Safe.store _ ?_ | with_reducible exact Safe.pure _

theorem part41_safe (v218) (v561) (v563) : Safe (fam A c I) (A.app (k0_part41 (F := F) i) v218 v561 v563) := by
  rw [k0_part41_eq_skeleton]; unfold k0_part41_skel
  repeat' first | with_reducible refine Safe.load _ fun _ => ?_ | with_reducible refine Safe.store _ ?_
  refine Safe.loop _ (fun t a => t4_safe A c I i _ _ _ t a) fun _ => ?_
  refine Safe.loop _ (fun t a => t5_safe A c I i _ _ _ _ t a) fun _ => ?_
  repeat' first | with_reducible refine Safe.load _ fun _ => ?_ | with_reducible refine Safe.store _ ?_ | with_reducible exact Safe.pure _

theorem part42_safe (v588) : Safe (fam A c I) (A.app (k0_part42 (F := F) i) v588) := by
  rw [k0_part42_eq_skeleton]; unfold k0_part42_skel
  repeat' first | with_reducible refine Safe.load _ fun _ => ?_ | with_reducible refine Safe.store _ ?_ | with_reducible exact Safe.pure _

theorem part43_safe : Safe (fam A c I) (A.app (k0_part43 (F := F) i) ) := by
  rw [k0_part43_eq_skeleton]; unfold k0_part43_skel
  repeat' first | with_reducible refine Safe.load _ fun _ => ?_ | with_reducible refine Safe.store _ ?_ | with_reducible exact Safe.pure _

theorem part44_safe (v595) (v617) (v654) (v663) : Safe (fam A c I) (A.app (k0_part44 (F := F) i) v595 v617 v654 v663) := by
  rw [k0_part44_eq_skeleton]; unfold k0_part44_skel
  repeat' first | with_reducible refine Safe.load _ fun _ => ?_ | with_reducible refine Safe.store _ ?_ | with_reducible exact Safe.pure _

theorem part45_safe (v595) (v617) (v701) : Safe (fam A c I) (A.app (k0_part45 (F := F) i) v595 v617 v701) := by
  rw [k0_part45_eq_skeleton]; unfold k0_part45_skel
  repeat' first | with_reducible refine Safe.load _ fun _ => ?_ | with_reducible refine Safe.store _ ?_ | with_reducible exact Safe.pure _

theorem part46_safe (v595) (v617) (v738) : Safe (fam A c I) (A.app (k0_part46 (F := F) i) v595 v617 v738) := by
  rw [k0_part46_eq_skeleton]; unfold k0_part46_skel
  repeat' first | with_reducible refine Safe.load _ fun _ => ?_ | with_reducible refine Safe.store _ ?_ | with_reducible exact Safe.pure _

theorem part47_safe (v595) (v617) (v776) : Safe (fam A c I) (A.app (k0_part47 (F := F) i) v595 v617 v776) := by
  rw [k0_part47_eq_skeleton]; unfold k0_part47_skel
  repeat' first | with_reducible refine Safe.load _ fun _ => ?_ | with_reducible refine Safe.store _ ?_ | with_reducible exact Safe.pure _

theorem part48_safe (v595) (v617) (v639) (v661) (v813) : Safe (fam A c I) (A.app (k0_part48 (F := F) i) v595 v617 v639 v661 v813) := by
  rw [k0_part48_eq_skeleton]; unfold k0_part48_skel
  repeat' first | with_reducible refine Safe.load _ fun _ => ?_ | with_reducible refine Safe.store _ ?_ | with_reducible exact Safe.pure _

theorem part49_safe (v639) (v661) (v851) : Safe (fam A c I) (A.app (k0_part49 (F := F) i) v639 v661 v851) := by
  rw [k0_part49_eq_skeleton]; unfold k0_part49_skel
  repeat' first | with_reducible refine Safe.load _ fun _ => ?_ | with_reducible refine Safe.store _ ?_ | with_reducible exact Safe.pure _

theorem part50_safe (v639) (v661) (v888) : Safe (fam A c I) (A.app (k0_part50 (F := F) i) v639 v661 v888) := by
  rw [k0_part50_eq_skeleton]; unfold k0_part50_skel
  repeat' first | with_reducible refine Safe.load _ fun _ => ?_ | with_reducible refine Safe.store _ ?_ | with_reducible exact Safe.pure _

theorem part51_safe (v639) (v661) (v926) : Safe (fam A c I) (A.app (k0_part51 (F := F) i) v639 v661 v926) := by
  rw [k0_part51_eq_skeleton]; unfold k0_part51_skel
  repeat' first | with_reducible refine Safe.load _ fun _ => ?_ | with_reducible refine Safe.store _ ?_ | with_reducible exact Safe.pure _

theorem part52_safe : Safe (fam A c I) (A.app (k0_part52 (F := F) i) ) := by
  rw [k0_part52_eq_skeleton]; unfold k0_part52_skel
  refine Safe.bind _ (part26_safe A c I i) ?_; rintro ⟨_, _, _, _, _, _, _⟩
  refine Safe.bind _ (part27_safe A c I i _ _ _ _) ?_; rintro ⟨_, _, _, _, _, _⟩
  refine Safe.bind _ (part28_safe A c I i _ _ _ _ _ _ _) ?_; rintro ⟨_, _⟩
  refine Safe.bind _ (part29_safe A c I i _ _) ?_; rintro _
  refine Safe.bind _ (part30_safe A c I i _ _) ?_; rintro _
  refine Safe.bind _ (part31_safe A c I i _) ?_; rintro ⟨_, _, _, _, _, _⟩
  refine Safe.bind _ (part32_safe A c I i _ _ _ _ _ _ _) ?_; rintro ⟨_, _, _, _, _, _, _⟩
  refine Safe.bind _ (part33_safe A c I i _ _ _ _ _ _) ?_; rintro _
  refine Safe.bind _ (part34_safe A c I i _ _) ?_; rintro ⟨_, _, _, _, _, _, _⟩
  refine Safe.bind _ (part35_safe A c I i _ _ _ _ _ _ _ _) ?_; rintro ⟨_, _, _⟩
  refine Safe.bind _ (part36_safe A c I i _ _ _ _ _) ?_; rintro ⟨_, _⟩
  refine Safe.bind _ (part37_safe A c I i _ _ _ _) ?_; rintro _
  refine Safe.bind _ (part38_safe A c I i _ _) ?_; rintro ⟨_, _⟩
  refine Safe.bind _ (part39_safe A c I i _ _ _ _) ?_; rintro ⟨_, _⟩
  refine Safe.bind _ (part40_safe A c I i _ _ _ _) ?_; rintro ⟨_, _⟩
  refine Safe.bind _ (part41_safe A c I i _ _ _) ?_; rintro ⟨_, _⟩
  refine Safe.bind _ (part42_safe A c I i _) ?_; rintro _
  refine Safe.bind _ (part43_safe A c I i) ?_; rintro ⟨_, _, _, _⟩
  refine Safe.bind _ (part44_safe A c I i _ _ _ _) ?_; rintro _
  refine Safe.bind _ (part45_safe A c I i _ _ _) ?_; rintro _
  refine Safe.bind _ (part46_safe A c I i _ _ _) ?_; rintro _
  refine Safe.bind _ (part47_safe A c I i _ _ _) ?_; rintro _
  refine Safe.bind _ (part48_safe A c I i _ _ _ _ _) ?_; rintro _
  refine Safe.bind _ (part49_safe A c I i _ _ _) ?_; rintro _
  refine Safe.bind _ (part50_safe A c I i _ _ _) ?_; rintro _
  refine Safe.bind _ (part51_safe A c I i _ _ _) ?_; rintro _
  repeat' first | with_reducible refine Safe.load _ fun _ => ?_ | with_reducible refine Safe.store _ ?_ | with_reducible exact Safe.pure _

/-- The whole body runs, from any contents of its buffers. -/
theorem body_safe : Safe (fam A c I) (A.app (cc0_tpa_attention (F := F) i)) := by
  rw [cc0_tpa_attention_eq_skeleton]; unfold cc0_tpa_attention_skel
  refine Safe.bind _ (part52_safe A c I i) ?_; rintro ⟨_, _, _⟩
  repeat' first | with_reducible refine Safe.load _ fun _ => ?_ | with_reducible refine Safe.store _ ?_ | with_reducible exact Safe.pure _

end Cert.Proof.KernelIdeal

end
-- ==== Proof.FrameI.lean ====
/- The frame of `KernelIdeal`: every run ends, with the arguments as they were and every counter at zero. The body is gone
   through from arbitrary scratch contents and the results' staging buffers are forgotten. -/
module

public import proofs.«01_k».proof.Proof.SafeI

@[expose] public section

set_option maxRecDepth 16384

noncomputable section

namespace Cert.Proof.KernelIdeal

open Cert.KernelIdeal Cert.KernelIdeal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The memrefs the body is called with at point `t`. -/
abbrev argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _
  a21 := Memref.whole cc0_scratch6
  h21 := Memref.isWhole_whole _
  a22 := Memref.whole cc0_scratch7
  h22 := Memref.isWhole_whole _
  a23 := Memref.whole cc0_scratch8
  h23 := Memref.isWhole_whole _
  a24 := Memref.whole cc0_scratch9
  h24 := Memref.isWhole_whole _
  a25 := Memref.whole cc0_scratch10
  h25 := Memref.isWhole_whole _
  a26 := Memref.whole cc0_scratch11
  h26 := Memref.isWhole_whole _

/-- What the staged inputs hold at point `t`: the windows' blocks. -/
def inAt (c : Dev nD) (t : Fin cfg0.N) : In F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t

/-- The proof data of the frame: an input window keeps its block, a result's window is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => Dat.unnamed 13 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- A program that runs on the 26 memrefs hands the inputs back as they were and everything else at some contents. -/
theorem run_own (A : Args) (c : Dev nD) (I : In F) {p : Prog (TpuEff nD τ sig (Elt F) Λ₀ .tc) PUnit} (h : Safe (fam A c I) p) (σ : Sc F) :
    (iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare σ.out ∗ owns (c : Thread nD τ) A.a14 fullShare σ.lse ∗ owns (c : Thread nD τ) A.a15 fullShare σ.akt ∗ owns (c : Thread nD τ) A.a16 fullShare σ.avt ∗ owns (c : Thread nD τ) A.a17 fullShare σ.bvt ∗ owns (c : Thread nD τ) A.a18 fullShare σ.mask ∗ owns (c : Thread nD τ) A.a19 fullShare σ.fta ∗ owns (c : Thread nD τ) A.a20 fullShare σ.ftb ∗ owns (c : Thread nD τ) A.a21 fullShare σ.bd ∗ owns (c : Thread nD τ) A.a22 fullShare σ.sb ∗ owns (c : Thread nD τ) A.a23 fullShare σ.mb ∗ owns (c : Thread nD τ) A.a24 fullShare σ.lb ∗ owns (c : Thread nD τ) A.a25 fullShare σ.ob ∗ owns (c : Thread nD τ) A.a26 fullShare σ.csb) : sProp 𝕄) ⊢ wp frame (wpE (defs₀ (F := F)) Variants.none (c : Thread nD τ) none) Set.univ p
      (fun _ => iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ (∃ x, owns (c : Thread nD τ) A.a13 fullShare x) ∗ (∃ x, owns (c : Thread nD τ) A.a14 fullShare x) ∗ (∃ x, owns (c : Thread nD τ) A.a15 fullShare x) ∗ (∃ x, owns (c : Thread nD τ) A.a16 fullShare x) ∗ (∃ x, owns (c : Thread nD τ) A.a17 fullShare x) ∗ (∃ x, owns (c : Thread nD τ) A.a18 fullShare x) ∗ (∃ x, owns (c : Thread nD τ) A.a19 fullShare x) ∗ (∃ x, owns (c : Thread nD τ) A.a20 fullShare x) ∗ (∃ x, owns (c : Thread nD τ) A.a21 fullShare x) ∗ (∃ x, owns (c : Thread nD τ) A.a22 fullShare x) ∗ (∃ x, owns (c : Thread nD τ) A.a23 fullShare x) ∗ (∃ x, owns (c : Thread nD τ) A.a24 fullShare x) ∗ (∃ x, owns (c : Thread nD τ) A.a25 fullShare x) ∗ (∃ x, owns (c : Thread nD τ) A.a26 fullShare x))) := by
  have h' := h σ
  unfold WP at h'
  simp only [fam_own] at h'
  refine h'.trans (wp_mono frame (wpE (defs₀ (F := F)) Variants.none (c : Thread nD τ) none) Set.univ fun _ => ?_)
  iintro ⟨%σ', -, H1, H2, H3, H4, H5, H6, H7, H8, H9, H10, H11, H12, H13, H14, H15, H16, H17, H18, H19, H20, H21, H22, H23, H24, H25, H26⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iexists _; iexact H26

/-- What the body is handed at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ X, owns (c : Thread nD τ) (st0_12 t) fullShare X) ∗ (∃ X, owns (c : Thread nD τ) (st0_13 t) fullShare X))

/-- What it leaves. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ X, owns (c : Thread nD τ) (st0_12 t) fullShare X) ∗ (∃ X, owns (c : Thread nD τ) (st0_13 t) fullShare X))

/-- The scratch buffers as memrefs owned at some contents. -/
theorem scratch_owns (c : Dev nD) : (Pipeline.scopedRest (Ix := Unit) (Name := ℕ) (U := UR sig nD τ) (Lvl := ℕ) (Val := Elt F) spec0 c : sProp 𝕄)
    = iprop((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f) ∗ (∃ f, owns (c : Thread nD τ) (Memref.whole cc0_scratch7) fullShare f) ∗ (∃ f, owns (c : Thread nD τ) (Memref.whole cc0_scratch8) fullShare f) ∗ (∃ f, owns (c : Thread nD τ) (Memref.whole cc0_scratch9) fullShare f) ∗ (∃ f, owns (c : Thread nD τ) (Memref.whole cc0_scratch10) fullShare f) ∗ (∃ f, owns (c : Thread nD τ) (Memref.whole cc0_scratch11) fullShare f)) := by
  rw [scopedRest0_eq]
  simp only [owns_whole]

/-- The body at any point, from any scratch contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scratch_owns]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%X12, H12⟩, ⟨%X13, H13⟩⟩
  have h := run_own (argsAt t) c (inAt m c t) (body_safe (argsAt t) c (inAt m c t) (grid0.coords t)) ⟨X12, X13, f0, f1, f2, f3, f4, f5, f6, f7, f8, f9, f10, f11⟩
  dsimp only [argsAt, inAt] at h
  iapply (wp_wand_r frame (wpE (defs₀ (F := F)) Variants.none (c : Thread nD τ) none) Set.univ)
  isplitl [H0 H1 H2 H3 H4 H5 H6 H7 H8 H9 H10 H11 H12 H13 S0 S1 S2 S3 S4 S5 S6 S7 S8 S9 S10 S11]
  · iapply h
    iframe H0 H1 H2 H3 H4 H5 H6 H7 H8 H9 H10 H11 H12 H13 S0 S1 S2 S3 S4 S5 S6 S7 S8 S9 S10 S11
  · iintro %a ⟨H0, H1, H2, H3, H4, H5, H6, H7, H8, H9, H10, H11, H12, H13, S0, S1, S2, S3, S4, S5, S6, S7, S8, S9, S10, S11⟩
    iframe Hp Ho H0 H1 H2 H3 H4 H5 H6 H7 H8 H9 H10 H11 H12 H13 S0 S1 S2 S3 S4 S5 S6 S7 S8 S9 S10 S11

/-- The windows whose contents are forgotten: the results'. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers the host operations after the region write. -/
def T : Finset (Ref sig .tc) := {main_v30, main_v31, main_v32, main_v33}

theorem sfx_T : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    (simp only [StableHlo.unary_writes, StableHlo.reshape_writes, Finset.mem_singleton] at hb
     have hb' := Proc.devRef_injective _ hb
     subst hb'; decide)

set_option backward.isDefEq.respectTransparency.types false in
set_option maxHeartbeats 800000 in
/-- The launch, with the results forgotten. -/
theorem run_main : θ_run defs (onTc (τ := τ) (main (F := F))) (s₀ m ρ) (fun r => Pipeline.RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl)

/-- The frame: `Cert.quiescent_KernelIdeal`'s statement at any float reading. -/
theorem frame_thm : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c), ((h.1 c).2 main_arg8 (Finset.mem_sdiff.mpr ⟨Pipeline.mem_restRefs_of main_arg8 (by decide) (by decide), by decide⟩)).trans (V_main_arg8 m c), ((h.1 c).2 main_arg9 (Finset.mem_sdiff.mpr ⟨Pipeline.mem_restRefs_of main_arg9 (by decide) (by decide), by decide⟩)).trans (V_main_arg9 m c), ((h.1 c).2 main_arg10 (Finset.mem_sdiff.mpr ⟨Pipeline.mem_restRefs_of main_arg10 (by decide) (by decide), by decide⟩)).trans (V_main_arg10 m c), ((h.1 c).2 main_arg11 (Finset.mem_sdiff.mpr ⟨Pipeline.mem_restRefs_of main_arg11 (by decide) (by decide), by decide⟩)).trans (V_main_arg11 m c)⟩, h.2⟩) (run_main m ρ)

end Cert.Proof.KernelIdeal

end
-- ==== Proof.Rd.lean ====
/-
  Readers: a tensor as a function of natural numbers, zero outside the tensor, so that offsets add up as numbers do.
-/
module

public import proofs.«01_k».proof.Proof.Step
public import Idealize.ShloMosaic.Lib.Pointwise
public import Idealize.ShloMosaic.Lib.VecWindow

@[expose] public section

noncomputable section

namespace Cert.Proof.Rd
open Idealize.ShloMosaic

variable {A B C D : ℕ}

/-- A matrix read at two numbers. -/
def rd2 (x : (⟨2, ![A, B]⟩ : Shape).Idx → EReal) (i j : ℕ) : EReal :=
  if h : i < A ∧ j < B then x (ix2 ⟨i, h.1⟩ ⟨j, h.2⟩) else 0
/-- A tensor of three axes read at three numbers. -/
def rd3 (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0
/-- A tensor of four axes read at four numbers. -/
def rd4 (x : (⟨4, ![A, B, C, D]⟩ : Shape).Idx → EReal) (i j k l : ℕ) : EReal :=
  if h : i < A ∧ j < B ∧ k < C ∧ l < D then x (ix4 ⟨i, h.1⟩ ⟨j, h.2.1⟩ ⟨k, h.2.2.1⟩ ⟨l, h.2.2.2⟩) else 0

theorem rd2_eq {x : (⟨2, ![A, B]⟩ : Shape).Idx → EReal} {i j : ℕ} (hi : i < A) (hj : j < B) :
    rd2 x i j = x (ix2 ⟨i, hi⟩ ⟨j, hj⟩) := dif_pos ⟨hi, hj⟩
theorem rd3_eq {x : (⟨3, ![A, B, C]⟩ : Shape).Idx → EReal} {i j k : ℕ} (hi : i < A) (hj : j < B) (hk : k < C) :
    rd3 x i j k = x (ix3 ⟨i, hi⟩ ⟨j, hj⟩ ⟨k, hk⟩) := dif_pos ⟨hi, hj, hk⟩
theorem rd4_eq {x : (⟨4, ![A, B, C, D]⟩ : Shape).Idx → EReal} {i j k l : ℕ} (hi : i < A) (hj : j < B) (hk : k < C) (hl : l < D) :
    rd4 x i j k l = x (ix4 ⟨i, hi⟩ ⟨j, hj⟩ ⟨k, hk⟩ ⟨l, hl⟩) := dif_pos ⟨hi, hj, hk, hl⟩

theorem fin2 (x : (⟨2, ![A, B]⟩ : Shape).Idx → EReal) (i : Fin A) (j : Fin B) : x (ix2 i j) = rd2 x i j :=
  (rd2_eq i.2 j.2).symm
theorem fin3 (x : (⟨3, ![A, B, C]⟩ : Shape).Idx → EReal) (i : Fin A) (j : Fin B) (k : Fin C) : x (ix3 i j k) = rd3 x i j k :=
  (rd3_eq i.2 j.2 k.2).symm
theorem fin4 (x : (⟨4, ![A, B, C, D]⟩ : Shape).Idx → EReal) (i : Fin A) (j : Fin B) (k : Fin C) (l : Fin D) :
    x (ix4 i j k l) = rd4 x i j k l := (rd4_eq i.2 j.2 k.2 l.2).symm

/-- A window reads the tensor at its offset. -/
theorem rd2_window {P Q : ℕ} (x : (⟨2, ![A, B]⟩ : Shape).Idx → EReal) {off : Fin 2 → ℕ} {inb} {i j a b : ℕ} (hi : i < P) (hj : j < Q)
    (ha : off 0 + i = a) (hb : off 1 + j = b) :
    rd2 (A := P) (B := Q) (VecWindow.window (s := ⟨2, ![A, B]⟩) x off ![P, Q] inb) i j = rd2 x a b := by
  subst ha hb
  have h0 : off 0 + P ≤ A := inb 0
  have h1 : off 1 + Q ≤ B := inb 1
  rw [rd2_eq hi hj, rd2_eq (by omega) (by omega)]
  refine congrArg x (funext fun d => ?_)
  fin_cases d <;> exact Fin.ext (by simp [Rect.emb, Rect.unit, LoadRect.idx, ix2])
theorem rd3_window {P Q R : ℕ} (x : (⟨3, ![A, B, C]⟩ : Shape).Idx → EReal) {off : Fin 3 → ℕ} {inb} {i j k a b c : ℕ}
    (hi : i < P) (hj : j < Q) (hk : k < R) (ha : off 0 + i = a) (hb : off 1 + j = b) (hc : off 2 + k = c) :
    rd3 (A := P) (B := Q) (C := R) (VecWindow.window (s := ⟨3, ![A, B, C]⟩) x off ![P, Q, R] inb) i j k = rd3 x a b c := by
  subst ha hb hc
  have h0 : off 0 + P ≤ A := inb 0
  have h1 : off 1 + Q ≤ B := inb 1
  have h2 : off 2 + R ≤ C := inb 2
  rw [rd3_eq hi hj hk, rd3_eq (by omega) (by omega) (by omega)]
  refine congrArg x (funext fun d => ?_)
  fin_cases d <;> exact Fin.ext (by simp [Rect.emb, Rect.unit, LoadRect.idx, ix3])
theorem rd4_window {P Q R T : ℕ} (x : (⟨4, ![A, B, C, D]⟩ : Shape).Idx → EReal) {off : Fin 4 → ℕ} {inb} {i j k l a b c d : ℕ}
    (hi : i < P) (hj : j < Q) (hk : k < R) (hl : l < T) (ha : off 0 + i = a) (hb : off 1 + j = b) (hc : off 2 + k = c) (hd : off 3 + l = d) :
    rd4 (A := P) (B := Q) (C := R) (D := T) (VecWindow.window (s := ⟨4, ![A, B, C, D]⟩) x off ![P, Q, R, T] inb) i j k l = rd4 x a b c d := by
  subst ha hb hc hd
  have h0 : off 0 + P ≤ A := inb 0
  have h1 : off 1 + Q ≤ B := inb 1
  have h2 : off 2 + R ≤ C := inb 2
  have h3 : off 3 + T ≤ D := inb 3
  rw [rd4_eq hi hj hk hl, rd4_eq (by omega) (by omega) (by omega) (by omega)]
  refine congrArg x (funext fun d => ?_)
  fin_cases d <;> exact Fin.ext (by simp [Rect.emb, Rect.unit, LoadRect.idx, ix4])

/-- A put reads its payload inside the window. -/
theorem rd2_put_in {P Q : ℕ} {x : (⟨2, ![A, B]⟩ : Shape).Idx → EReal} {off : Fin 2 → ℕ} {w : (⟨2, ![P, Q]⟩ : Shape).Idx → EReal} {i j : ℕ} (a b : ℕ)
    (hi : a < P) (hj : b < Q) (hA : i < A) (hB : j < B) (ha : off 0 + a = i) (hb : off 1 + b = j) :
    rd2 (VecWindow.put (s := ⟨2, ![A, B]⟩) x off ![P, Q] w) i j = rd2 w a b := by
  subst ha hb
  rw [rd2_eq hA hB, rd2_eq hi hj]
  have h : ∀ d, off d ≤ ((ix2 ⟨off 0 + a, hA⟩ ⟨off 1 + b, hB⟩ : (⟨2, ![A, B]⟩ : Shape).Idx) d).val ∧
      ((ix2 ⟨off 0 + a, hA⟩ ⟨off 1 + b, hB⟩ : (⟨2, ![A, B]⟩ : Shape).Idx) d).val < off d + (![P, Q] : Fin 2 → ℕ) d := by
    intro d; fin_cases d
    · exact ⟨Nat.le_add_right _ _, Nat.add_lt_add_left hi _⟩
    · exact ⟨Nat.le_add_right _ _, Nat.add_lt_add_left hj _⟩
  refine (dif_pos h).trans (congrArg w (funext fun d => ?_))
  fin_cases d <;> exact Fin.ext (by simp [Rect.unitLocal, ix2])
theorem rd3_put_in {P Q R : ℕ} {x : (⟨3, ![A, B, C]⟩ : Shape).Idx → EReal} {off : Fin 3 → ℕ} {w : (⟨3, ![P, Q, R]⟩ : Shape).Idx → EReal} {i j k : ℕ}
    (a b c : ℕ) (hi : a < P) (hj : b < Q) (hk : c < R) (hA : i < A) (hB : j < B) (hC : k < C)
    (ha : off 0 + a = i) (hb : off 1 + b = j) (hc : off 2 + c = k) :
    rd3 (VecWindow.put (s := ⟨3, ![A, B, C]⟩) x off ![P, Q, R] w) i j k = rd3 w a b c := by
  subst ha hb hc
  rw [rd3_eq hA hB hC, rd3_eq hi hj hk]
  have h : ∀ d, off d ≤ ((ix3 ⟨off 0 + a, hA⟩ ⟨off 1 + b, hB⟩ ⟨off 2 + c, hC⟩ : (⟨3, ![A, B, C]⟩ : Shape).Idx) d).val ∧
      ((ix3 ⟨off 0 + a, hA⟩ ⟨off 1 + b, hB⟩ ⟨off 2 + c, hC⟩ : (⟨3, ![A, B, C]⟩ : Shape).Idx) d).val < off d + (![P, Q, R] : Fin 3 → ℕ) d := by
    intro d; fin_cases d
    · exact ⟨Nat.le_add_right _ _, Nat.add_lt_add_left hi _⟩
    · exact ⟨Nat.le_add_right _ _, Nat.add_lt_add_left hj _⟩
    · exact ⟨Nat.le_add_right _ _, Nat.add_lt_add_left hk _⟩
  refine (dif_pos h).trans (congrArg w (funext fun d => ?_))
  fin_cases d <;> exact Fin.ext (by simp [Rect.unitLocal, ix3])

/-- Outside the window a put leaves the tensor. -/
theorem rd2_put_out {P Q : ℕ} {x : (⟨2, ![A, B]⟩ : Shape).Idx → EReal} {off : Fin 2 → ℕ} {w : (⟨2, ![P, Q]⟩ : Shape).Idx → EReal} {i j : ℕ}
    (h : i < off 0 ∨ off 0 + P ≤ i ∨ j < off 1 ∨ off 1 + Q ≤ j) :
    rd2 (VecWindow.put (s := ⟨2, ![A, B]⟩) x off ![P, Q] w) i j = rd2 x i j := by
  unfold rd2
  split
  · rename_i hh
    refine dif_neg fun hd => ?_
    have h0 : off 0 ≤ i ∧ i < off 0 + P := hd 0
    have h1 : off 1 ≤ j ∧ j < off 1 + Q := hd 1
    omega
  · rfl
theorem rd3_put_out {P Q R : ℕ} {x : (⟨3, ![A, B, C]⟩ : Shape).Idx → EReal} {off : Fin 3 → ℕ} {w : (⟨3, ![P, Q, R]⟩ : Shape).Idx → EReal} {i j k : ℕ}
    (h : i < off 0 ∨ off 0 + P ≤ i ∨ j < off 1 ∨ off 1 + Q ≤ j ∨ k < off 2 ∨ off 2 + R ≤ k) :
    rd3 (VecWindow.put (s := ⟨3, ![A, B, C]⟩) x off ![P, Q, R] w) i j k = rd3 x i j k := by
  unfold rd3
  split
  · rename_i hh
    refine dif_neg fun hd => ?_
    have h0 : off 0 ≤ i ∧ i < off 0 + P := hd 0
    have h1 : off 1 ≤ j ∧ j < off 1 + Q := hd 1
    have h2 : off 2 ≤ k ∧ k < off 2 + R := hd 2
    omega
  · rfl

theorem ext2 {x y : (⟨2, ![A, B]⟩ : Shape).Idx → EReal} (h : ∀ i j, i < A → j < B → rd2 x i j = rd2 y i j) : x = y := by
  funext j; rw [eq_ix2 j]
  exact (fin2 x (j 0) (j 1)).trans ((h _ _ (j 0).2 (j 1).2).trans (fin2 y (j 0) (j 1)).symm)
theorem ext3 {x y : (⟨3, ![A, B, C]⟩ : Shape).Idx → EReal} (h : ∀ i j k, i < A → j < B → k < C → rd3 x i j k = rd3 y i j k) : x = y := by
  funext j; rw [eq_ix3 j]
  exact (fin3 x (j 0) (j 1) (j 2)).trans ((h _ _ _ (j 0).2 (j 1).2 (j 2).2).trans (fin3 y (j 0) (j 1) (j 2)).symm)

/-- On the indices of `P` the tensor is the function `G`. -/
def Holds2 (G : ℕ → ℕ → EReal) (P : ℕ → ℕ → Prop) (x : (⟨2, ![A, B]⟩ : Shape).Idx → EReal) : Prop :=
  ∀ i j, P i j → i < A → j < B → rd2 x i j = G i j
def Holds3 (G : ℕ → ℕ → ℕ → EReal) (P : ℕ → ℕ → ℕ → Prop) (x : (⟨3, ![A, B, C]⟩ : Shape).Idx → EReal) : Prop :=
  ∀ i j k, P i j k → i < A → j < B → k < C → rd3 x i j k = G i j k

/-- After a put whose payload agrees with the function, the tensor agrees with it on the window too. -/
theorem Holds2.put {P Q : ℕ} {G : ℕ → ℕ → EReal} {R : ℕ → ℕ → Prop} {x : (⟨2, ![A, B]⟩ : Shape).Idx → EReal} (hx : Holds2 G R x)
    {off : Fin 2 → ℕ} (a b : ℕ) (ho : off = ![a, b]) {w : (⟨2, ![P, Q]⟩ : Shape).Idx → EReal}
    (hw : ∀ i j, i < P → j < Q → rd2 w i j = G (a + i) (b + j)) :
    Holds2 G (fun i j => (a ≤ i ∧ i < a + P ∧ b ≤ j ∧ j < b + Q) ∨ R i j) (VecWindow.put (s := ⟨2, ![A, B]⟩) x off ![P, Q] w) := by
  subst ho
  intro i j h hi hj
  by_cases hin : a ≤ i ∧ i < a + P ∧ b ≤ j ∧ j < b + Q
  · rw [rd2_put_in (i - a) (j - b) (by omega) (by omega) hi hj (by simp; omega) (by simp; omega), hw _ _ (by omega) (by omega)]
    congr 1 <;> omega
  · rw [rd2_put_out (by simp; omega)]
    exact hx i j (h.resolve_left hin) hi hj
theorem Holds3.put {P Q T : ℕ} {G : ℕ → ℕ → ℕ → EReal} {R : ℕ → ℕ → ℕ → Prop} {x : (⟨3, ![A, B, C]⟩ : Shape).Idx → EReal} (hx : Holds3 G R x)
    {off : Fin 3 → ℕ} (a b c : ℕ) (ho : off = ![a, b, c]) {w : (⟨3, ![P, Q, T]⟩ : Shape).Idx → EReal}
    (hw : ∀ i j k, i < P → j < Q → k < T → rd3 w i j k = G (a + i) (b + j) (c + k)) :
    Holds3 G (fun i j k => (a ≤ i ∧ i < a + P ∧ b ≤ j ∧ j < b + Q ∧ c ≤ k ∧ k < c + T) ∨ R i j k)
      (VecWindow.put (s := ⟨3, ![A, B, C]⟩) x off ![P, Q, T] w) := by
  subst ho
  intro i j k h hi hj hk
  by_cases hin : a ≤ i ∧ i < a + P ∧ b ≤ j ∧ j < b + Q ∧ c ≤ k ∧ k < c + T
  · rw [rd3_put_in (i - a) (j - b) (k - c) (by omega) (by omega) (by omega) hi hj hk (by simp; omega) (by simp; omega) (by simp; omega),
      hw _ _ _ (by omega) (by omega) (by omega)]
    congr 1 <;> omega
  · rw [rd3_put_out (by simp; omega)]
    exact hx i j k (h.resolve_left hin) hi hj hk

/-- A put elsewhere is no matter. -/
theorem Holds3.put_skip {P Q T : ℕ} {G : ℕ → ℕ → ℕ → EReal} {R : ℕ → ℕ → ℕ → Prop} {x : (⟨3, ![A, B, C]⟩ : Shape).Idx → EReal} (hx : Holds3 G R x)
    {off : Fin 3 → ℕ} (a b c : ℕ) (ho : off = ![a, b, c]) {w : (⟨3, ![P, Q, T]⟩ : Shape).Idx → EReal}
    (hd : ∀ i j k, R i j k → i < a ∨ a + P ≤ i ∨ j < b ∨ b + Q ≤ j ∨ k < c ∨ c + T ≤ k) :
    Holds3 G R (VecWindow.put (s := ⟨3, ![A, B, C]⟩) x off ![P, Q, T] w) := by
  subst ho
  intro i j k h hi hj hk
  rw [rd3_put_out (hd i j k h)]
  exact hx i j k h hi hj hk

theorem Holds2.none {G : ℕ → ℕ → EReal} {x : (⟨2, ![A, B]⟩ : Shape).Idx → EReal} : Holds2 G (fun _ _ => False) x :=
  fun _ _ h => h.elim
theorem Holds3.none {G : ℕ → ℕ → ℕ → EReal} {x : (⟨3, ![A, B, C]⟩ : Shape).Idx → EReal} : Holds3 G (fun _ _ _ => False) x :=
  fun _ _ _ h => h.elim
theorem Holds2.mono {G : ℕ → ℕ → EReal} {R R' : ℕ → ℕ → Prop} {x : (⟨2, ![A, B]⟩ : Shape).Idx → EReal} (hx : Holds2 G R x)
    (h : ∀ i j, R' i j → i < A → j < B → R i j) : Holds2 G R' x := fun i j hr hi hj => hx i j (h i j hr hi hj) hi hj
theorem Holds3.mono {G : ℕ → ℕ → ℕ → EReal} {R R' : ℕ → ℕ → ℕ → Prop} {x : (⟨3, ![A, B, C]⟩ : Shape).Idx → EReal} (hx : Holds3 G R x)
    (h : ∀ i j k, R' i j k → i < A → j < B → k < C → R i j k) : Holds3 G R' x :=
  fun i j k hr hi hj hk => hx i j k (h i j k hr hi hj hk) hi hj hk

end Cert.Proof.Rd

namespace Cert.Proof.Step
open Idealize.ShloMosaic Idealize.ShloMosaic.TcCoe
open Idealize.SL Idealize.SL.BI Idealize.SL.Sem Idealize.SL.RA

variable {nD : Nat} {τ : Topo} {sig : RefSig} {Val : EltTy → Type} {U : Type} [URA U] {Λ : Labels} {S α β γ : Type}

section
variable (O : Fam nD τ sig Val U Λ S)
variable {Q : α → S → Prop} {s : S}

/-- Sequencing is associative. -/
theorem WP.assoc {p : Prog (TpuEff nD τ sig Val Λ .tc) β} {q : β → Prog (TpuEff nD τ sig Val Λ .tc) γ} {k : γ → Prog (TpuEff nD τ sig Val Λ .tc) α}
    (h : WP O (p >>= fun b => q b >>= k) Q s) : WP O ((p >>= q) >>= k) Q s := by
  rw [bind_assoc]; exact h

theorem WP.pureBind {a : β} {k : β → Prog (TpuEff nD τ sig Val Λ .tc) α} (h : WP O (k a) Q s) : WP O (Pure.pure a >>= k) Q s := by
  rw [pure_bind]; exact h

/-- A load, of whose value the window is remembered. -/
theorem WP.loadg {sp : CoreSpace} {sh : Shape} {e : EltTy} {m : Memref sig .tc sp sh e} {off size : Fin sh.rank → ℕ} {inb : ∀ a, off a + size a ≤ sh.size a}
    [C : Rd O m] {hl : m.view.LoadsAt (Rect.unit off size inb).toLoadRect}
    {k : ((Rect.unit off size inb).shape.Idx → Val e) → Prog (TpuEff nD τ sig Val Λ .tc) α}
    (h : ∀ v, v = VecWindow.window (C.get s) off size inb → WP O (k v) Q s) :
    WP O (Prog.lift (.load m (Rect.unit off size inb).toLoadRect hl) >>= k) Q s := WP.load O (h _ rfl)

/-- A load of which nothing is used. -/
theorem WP.loadd {sp : CoreSpace} {sh : Shape} {e : EltTy} {m : Memref sig .tc sp sh e} {off size : Fin sh.rank → ℕ} {inb : ∀ a, off a + size a ≤ sh.size a}
    [C : Rd O m] {hl : m.view.LoadsAt (Rect.unit off size inb).toLoadRect}
    {k : ((Rect.unit off size inb).shape.Idx → Val e) → Prog (TpuEff nD τ sig Val Λ .tc) α}
    (h : ∀ v, WP O (k v) Q s) :
    WP O (Prog.lift (.load m (Rect.unit off size inb).toLoadRect hl) >>= k) Q s := WP.load O (h _)

/-- A store, of which the buffer's new contents are remembered. -/
theorem WP.storeg {sp : CoreSpace} {sh : Shape} {e : EltTy} {m : Memref sig .tc sp sh e} {off size : Fin sh.rank → ℕ} {inb : ∀ a, off a + size a ≤ sh.size a}
    [C : Wr O m] {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ .tc) α}
    (h : ∀ x, x = VecWindow.put (C.get s) off size w → WP O (k ⟨⟩) Q (C.set s x)) :
    WP O (Prog.lift (.store m (Rect.unit off size inb) w Finset.univ hx hm) >>= k) Q s := WP.store O (h _ rfl)
end

end Cert.Proof.Step

end

end
-- ==== Proof.Data.lean ====
/-
  The twelve arguments as functions of numbers, and the attention of the reference over them: the scores, the causal mask,
  the softmax and its two results.
-/
module

public import proofs.«01_k».proof.Proof.Rd

@[expose] public section

noncomputable section

namespace Cert.Proof

open Idealize.ShloMosaic Cert.Proof.Rd

/-- The codes and the scales of the six factors: a token, a rank, and a head or a feature. -/
structure Data where
  qa : ℕ → ℕ → ℕ → EReal
  qas : ℕ → ℕ → EReal
  qb : ℕ → ℕ → ℕ → EReal
  qbs : ℕ → ℕ → EReal
  ka : ℕ → ℕ → ℕ → EReal
  kas : ℕ → ℕ → EReal
  kb : ℕ → ℕ → ℕ → EReal
  kbs : ℕ → ℕ → EReal
  va : ℕ → ℕ → ℕ → EReal
  vas : ℕ → ℕ → EReal
  vb : ℕ → ℕ → ℕ → EReal
  vbs : ℕ → ℕ → EReal

/-- They, read from the argument tensors. -/
def Data.of (a0 : (⟨4, ![1, 1536, 6, 32]⟩ : Shape).Idx → EReal) (a1 : (⟨3, ![1, 1536, 6]⟩ : Shape).Idx → EReal)
    (a2 : (⟨4, ![1, 1536, 6, 128]⟩ : Shape).Idx → EReal) (a3 : (⟨3, ![1, 1536, 6]⟩ : Shape).Idx → EReal)
    (a4 : (⟨4, ![1, 1536, 2, 32]⟩ : Shape).Idx → EReal) (a5 : (⟨3, ![1, 1536, 2]⟩ : Shape).Idx → EReal)
    (a6 : (⟨4, ![1, 1536, 2, 128]⟩ : Shape).Idx → EReal) (a7 : (⟨3, ![1, 1536, 2]⟩ : Shape).Idx → EReal)
    (a8 : (⟨4, ![1, 1536, 2, 32]⟩ : Shape).Idx → EReal) (a9 : (⟨3, ![1, 1536, 2]⟩ : Shape).Idx → EReal)
    (a10 : (⟨4, ![1, 1536, 2, 128]⟩ : Shape).Idx → EReal) (a11 : (⟨3, ![1, 1536, 2]⟩ : Shape).Idx → EReal) : Data where
  qa u r d := rd4 a0 0 u r d
  qas u r := rd3 a1 0 u r
  qb u r d := rd4 a2 0 u r d
  qbs u r := rd3 a3 0 u r
  ka u r d := rd4 a4 0 u r d
  kas u r := rd3 a5 0 u r
  kb u r d := rd4 a6 0 u r d
  kbs u r := rd3 a7 0 u r
  va u r d := rd4 a8 0 u r d
  vas u r := rd3 a9 0 u r
  vb u r d := rd4 a10 0 u r d
  vbs u r := rd3 a11 0 u r

/-- The codes and scales of the queries and keys are real numbers. -/
structure Data.Real (D : Data) : Prop where
  qa : ∀ u r d, ∃ x : ℝ, D.qa u r d = x
  qas : ∀ u r, ∃ x : ℝ, D.qas u r = x
  qb : ∀ u r d, ∃ x : ℝ, D.qb u r d = x
  qbs : ∀ u r, ∃ x : ℝ, D.qbs u r = x
  ka : ∀ u r d, ∃ x : ℝ, D.ka u r d = x
  kas : ∀ u r, ∃ x : ℝ, D.kas u r = x
  kb : ∀ u r d, ∃ x : ℝ, D.kb u r d = x
  kbs : ∀ u r, ∃ x : ℝ, D.kbs u r = x

namespace Data
variable (D : Data)

/-- One query rank's part of the score against one key rank. -/
def rk (k t h u r : ℕ) : EReal :=
  D.qa t r h * D.qas t r * ((∑ d : Fin 128, D.qb t r d * D.kb u k d) * (D.qbs t r * D.kbs u k))
/-- The query ranks summed. -/
def rkS (k t h u : ℕ) : EReal := D.rk k t h u 0 + D.rk k t h u 1 + D.rk k t h u 2 + D.rk k t h u 3 + D.rk k t h u 4 + D.rk k t h u 5
/-- The scaled score. -/
def sc (t h u : ℕ) : EReal :=
  Ideal.div (D.rkS 0 t h u * (D.ka u 0 h * D.kas u 0) + D.rkS 1 t h u * (D.ka u 1 h * D.kas u 1))
    (Ideal.sqrt (Ideal.ofBits .f32 0x43000000#32) * Ideal.ofBits .f32 0x41400000#32)
/-- The masked score. -/
def scm (t h u : ℕ) : EReal := if u ≤ t then D.sc t h u else ⊥
/-- The row maximum. -/
def mx (t h : ℕ) : EReal := (Finset.range 1536).sup fun u => D.scm t h u
/-- The weights. -/
def w (t h u : ℕ) : EReal := Ideal.exp (D.scm t h u - D.mx t h)
/-- Their sum. -/
def l (t h : ℕ) : EReal := ∑ u : Fin 1536, D.w t h u
/-- The second result. -/
def lse (t h : ℕ) : EReal := D.mx t h + Ideal.log (D.l t h)
/-- The value factor. -/
def av (k u h : ℕ) : EReal := D.va u k h * D.vas u k * (D.vbs u k * Ideal.ofBits .f32 0x3F000000#32)
/-- The first result. -/
def out (t h d : ℕ) : EReal :=
  (∑ u : Fin 1536, Ideal.div (D.w t h u) (D.l t h) * D.av 0 u h * D.vb u 0 d)
    + ∑ u : Fin 1536, Ideal.div (D.w t h u) (D.l t h) * D.av 1 u h * D.vb u 1 d

end Data

end Cert.Proof

end

end
-- ==== Proof.Spec.lean ====
/-
  What the buffers of the kernel hold, as functions of the staged inputs: the expanded tables, the score matrix of one
  query block with its causal mask, the softmax sums and the two results.
-/
module

public import proofs.«01_k».proof.Proof.CellsI
public import proofs.«01_k».proof.Proof.Gen.KernelIdeal.Skeleton
public import proofs.«01_k».proof.Proof.Rd

@[expose] public section

noncomputable section

namespace Cert.Proof.KernelIdeal

open Cert.KernelIdeal Cert.KernelIdeal.Gen Cert.Proof.Step Cert.Proof.Rd
open Idealize.ShloMosaic

/-- The named factors. -/
def SCALE : EReal := (Named.named κ "scale" 0x3C2E1A93#32 : Ideal .f32)
def LOG2E : EReal := (Named.named κ "log2e" 0x3FB8AA3B#32 : Ideal .f32)
def LN2 : EReal := (Named.named κ "ln2" 0x3F317218#32 : Ideal .f32)
def HALF : EReal := Ideal.ofBits .f32 0x3F000000#32

variable (I : In Ideal) (t : ℕ)

/-- The first key factor over the expanded columns, scaled. -/
def akG (r u col : ℕ) : EReal :=
  rd3 I.x5 r u (col / 8) * (rd4 I.x6 r (u / 128) 0 (u % 128) * rd4 I.x8 r (u / 128) 0 (u % 128) * SCALE)
/-- The first value factor over the expanded columns, scaled. -/
def avG (r u col : ℕ) : EReal :=
  rd3 I.x9 r u (col / 8) * (rd4 I.x10 r (u / 128) 0 (u % 128) * rd4 I.x12 r (u / 128) 0 (u % 128) * HALF)
/-- The second value factor, transposed. -/
def bvG (c d j : ℕ) : EReal := rd3 I.x11 (j / 128) (128 * c + j % 128) d
/-- The causal mask of one diagonal. -/
def maskG (x col : ℕ) : EReal := if 160 + col % 8 < x then ⊥ else 0
/-- The query scales. -/
def csG (row _j : ℕ) : EReal := rd3 I.x2 0 0 row * rd3 I.x4 0 0 row
/-- The first query factor laid out block by block on the diagonal. -/
def bdG (n q col : ℕ) : EReal := if col % 8 = q / 6 then rd2 I.x1 (192 * t + (48 * n + q)) (col / 8) else 0
/-- The product of the second factors, scaled. -/
def fG (q row : ℕ) : EReal := (∑ d : Fin 128, rd2 I.x3 (192 * t + q) d * rd3 I.x7 (row / 256) (row % 256) d) * csG I q 0
/-- It, padded to 128 columns. -/
def ftG (n row q : ℕ) : EReal := if q < 48 then fG I t (48 * n + q) row else 0
/-- The first product contracted over the query rank. -/
def zG (n row col : ℕ) : EReal := ∑ q : Fin 48, fG I t (48 * n + q) row * bdG I t n q col
/-- The scores. -/
def sG (n u col : ℕ) : EReal :=
  zG I t n (256 * (u / 128) + u % 128) col * akG I 0 u col + zG I t n (256 * (u / 128) + 128 + u % 128) col * akG I 1 u col
/-- The masked scores. -/
def smG (n u col : ℕ) : EReal := sG I t n u col + if 32 * t + 8 * n + col % 8 < u then ⊥ else 0
/-- The number of key chunks a query block sees. -/
def nch : ℕ := t / 4 + 1
/-- The row maximum. -/
def mG (n col : ℕ) : EReal := (Finset.range (128 * nch t)).sup fun u => smG I t n u col
/-- The weights. -/
def pG (n u col : ℕ) : EReal := Ideal.exp2 (smG I t n u col - mG I t n col)
/-- The partial sums of the weights. -/
def lP (k n sub col : ℕ) : EReal := ∑ c ∈ Finset.range k, ∑ a : Fin 16, pG I t n (128 * c + (a * 8 + sub)) col
def lG (n col : ℕ) : EReal := ∑ sub : Fin 8, lP I t (nch t) n sub col
/-- The partial outputs. -/
def oP (k n d col : ℕ) : EReal := ∑ c ∈ Finset.range k,
  (∑ x : Fin 128, rd3 I.x11 0 (128 * c + x) d * (pG I t n (128 * c + x) col * avG I 0 (128 * c + x) col)
    + ∑ x : Fin 128, rd3 I.x11 1 (128 * c + x) d * (pG I t n (128 * c + x) col * avG I 1 (128 * c + x) col))
/-- The second result. -/
def lseG (n col : ℕ) : EReal := (mG I t n col + Ideal.log (lG I t n col) * LOG2E) * LN2
/-- The first result. -/
def outG (row col : ℕ) : EReal :=
  oP I t (nch t) (row / 8) (col % 128) (8 * (col / 128) + row % 8) * Ideal.div 1 (lG I t (row / 8) (8 * (col / 128) + row % 8))

/-- The products over one query block are real numbers. -/
def FinF : Prop := ∀ q row, q < 192 → row < 3072 → fG I t q row - fG I t q row = 0

/-- The tables that the first grid point fills and the later ones read. -/
structure Tab (σ : Sc Ideal) : Prop where
  ak : Holds3 (akG I) (fun _ _ _ => True) σ.akt
  av : Holds3 (avG I) (fun _ _ _ => True) σ.avt
  bv : Holds3 (bvG I) (fun _ _ _ => True) σ.bvt
  mask : Holds2 maskG (fun _ _ => True) σ.mask

end Cert.Proof.KernelIdeal

end
-- ==== Proof.Eqn.lean ====
/-
  The kernel's results are the reference's: the scores agree up to the factor that the base-two exponential takes back, the
  masked keys weigh nothing, the partial sums regroup, and the division by the sum moves into it.
-/
module

public import proofs.«01_k».proof.Proof.Data
public import proofs.«01_k».proof.Proof.Spec

@[expose] public section

noncomputable section

namespace Cert.Proof.KernelIdeal

open Cert.KernelIdeal Cert.KernelIdeal.Gen Cert.Proof.Step Cert.Proof.Rd
open Idealize.ShloMosaic

/-! ### Sums and maxima -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} (s : Finset ι) (f : ι → EReal) {x : ℝ} (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, mul_comm, EReal.left_distrib_of_nonneg_of_ne_top (by exact_mod_cast hx) (EReal.coe_ne_top _),
      mul_comm, mul_comm _ (∑ i ∈ s, f i), ih]

theorem sum_blocks {M : Type} [AddCommMonoid M] (b K : ℕ) (f : ℕ → M) :
    ∑ u ∈ Finset.range (b * K), f u = ∑ c ∈ Finset.range K, ∑ x ∈ Finset.range b, f (b * c + x) := by
  induction K with
  | zero => simp
  | succ K ih => rw [Nat.mul_succ, Finset.sum_range_add, ih, Finset.sum_range_succ]

theorem sup_masked {N T : ℕ} (hT : T < N) {f : ℕ → EReal} {g : ℕ → ℝ} (hf : ∀ u < N, f u = if u ≤ T then (g u : EReal) else ⊥) :
    (Finset.range N).sup f = (((Finset.range (T + 1)).sup' ⟨0, by simp⟩ g : ℝ) : EReal) := by
  apply le_antisymm
  · refine Finset.sup_le fun u hu => ?_
    rw [hf u (Finset.mem_range.1 hu)]
    split_ifs with h
    · exact EReal.coe_le_coe_iff.2 (Finset.le_sup' g (Finset.mem_range.2 (by omega)))
    · exact bot_le
  · obtain ⟨u, hu, e⟩ := Finset.exists_mem_eq_sup' (s := Finset.range (T + 1)) ⟨0, by simp⟩ g
    have hu := Finset.mem_range.1 hu
    rw [e]
    have := Finset.le_sup (f := f) (Finset.mem_range.2 (show u < N by omega))
    rwa [hf u (by omega), if_pos (by omega)] at this

theorem sup_scaled {T : ℕ} (g : ℕ → ℝ) {k : ℝ} (hk : 0 ≤ k) :
    (Finset.range (T + 1)).sup' ⟨0, by simp⟩ (fun u => g u * k) = (Finset.range (T + 1)).sup' ⟨0, by simp⟩ g * k := by
  apply le_antisymm
  · exact Finset.sup'_le _ _ fun u hu => mul_le_mul_of_nonneg_right (Finset.le_sup' g hu) hk
  · obtain ⟨u, hu, e⟩ := Finset.exists_mem_eq_sup' (s := Finset.range (T + 1)) ⟨0, by simp⟩ g
    rw [e]
    exact Finset.le_sup' (fun u => g u * k) hu

/-! ### The constants -/

theorem SCALE_eq : SCALE = ((((Real.sqrt 128)⁻¹ * (1 / 12)) * (Real.log 2)⁻¹ : ℝ) : EReal) := rfl
theorem LOG2E_eq : LOG2E = (((Real.log 2)⁻¹ : ℝ) : EReal) := rfl
theorem LN2_eq : LN2 = ((Real.log 2 : ℝ) : EReal) := rfl
theorem c128 : Ideal.ofBits .f32 0x43000000#32 = ((128 : ℝ) : EReal) := by
  simp [Ideal.ofBits, Ideal.ieee, -EReal.coe_mul]; norm_num
theorem c12 : Ideal.ofBits .f32 0x41400000#32 = ((12 : ℝ) : EReal) := by
  simp [Ideal.ofBits, Ideal.ieee, -EReal.coe_mul]; norm_num
theorem denom : Ideal.sqrt (Ideal.ofBits .f32 0x43000000#32) * Ideal.ofBits .f32 0x41400000#32 = ((Real.sqrt 128 * 12 : ℝ) : EReal) := by
  rw [c128, c12, Ideal.sqrt_coe, if_neg (by norm_num), EReal.coe_mul]

/-- The staged inputs at grid point `t` are the arguments' data. -/
structure Reads (I : In Ideal) (t : ℕ) (D : Data) : Prop where
  x1 : ∀ r d, r < 9216 → d < 32 → rd2 I.x1 r d = D.qa (r / 6) (r % 6) d
  x2 : ∀ q, q < 192 → rd3 I.x2 0 0 q = D.qas ((192 * t + q) / 6) ((192 * t + q) % 6)
  x3 : ∀ r d, r < 9216 → d < 128 → rd2 I.x3 r d = D.qb (r / 6) (r % 6) d
  x4 : ∀ q, q < 192 → rd3 I.x4 0 0 q = D.qbs ((192 * t + q) / 6) ((192 * t + q) % 6)
  x5 : ∀ r u d, r < 2 → u < 1536 → d < 32 → rd3 I.x5 r u d = D.ka u r d
  x6 : ∀ r c x, r < 2 → c < 12 → x < 128 → rd4 I.x6 r c 0 x = D.kas (128 * c + x) r
  x7 : ∀ c y d, c < 12 → y < 256 → d < 128 → rd3 I.x7 c y d = D.kb (128 * c + y % 128) (y / 128) d
  x8 : ∀ r c x, r < 2 → c < 12 → x < 128 → rd4 I.x8 r c 0 x = D.kbs (128 * c + x) r
  x9 : ∀ r u d, r < 2 → u < 1536 → d < 32 → rd3 I.x9 r u d = D.va u r d
  x10 : ∀ r c x, r < 2 → c < 12 → x < 128 → rd4 I.x10 r c 0 x = D.vas (128 * c + x) r
  x11 : ∀ r u d, r < 2 → u < 1536 → d < 128 → rd3 I.x11 r u d = D.vb u r d
  x12 : ∀ r c x, r < 2 → c < 12 → x < 128 → rd4 I.x12 r c 0 x = D.vbs (128 * c + x) r

/-- The score as a real number. -/
def scR (D : Data) (t h u : ℕ) : ℝ := (D.sc t h u).toReal

section
variable {I : In Ideal} {t : ℕ} {D : Data} (hR : Reads I t D) (hD : D.Real) (ht : t < 48)

include hR ht in
theorem fG_eq {q k c x : ℕ} (hq : q < 192) (hk : k < 2) (hc : c < 12) (hx : x < 128) :
    fG I t q (256 * c + (128 * k + x)) = (∑ d : Fin 128, D.qb (32 * t + q / 6) (q % 6) d * D.kb (128 * c + x) k d)
      * (D.qas (32 * t + q / 6) (q % 6) * D.qbs (32 * t + q / 6) (q % 6)) := by
  have e1 : (192 * t + q) / 6 = 32 * t + q / 6 := by omega
  have e2 : (192 * t + q) % 6 = q % 6 := by omega
  have e3 : (256 * c + (128 * k + x)) / 256 = c := by omega
  have e4 : (256 * c + (128 * k + x)) % 256 = 128 * k + x := by omega
  unfold fG csG
  rw [hR.x2 q hq, hR.x4 q hq, e1, e2, e3, e4]
  congr 1
  refine Finset.sum_congr rfl fun d _ => ?_
  rw [hR.x3 _ _ (by omega) d.2, hR.x7 _ _ _ hc (by omega) d.2, e1, e2, show (128 * k + x) % 128 = x by omega, show (128 * k + x) / 128 = k by omega]

include hR hD ht in
theorem finF_of : FinF I t := by
  intro q row hq hrow
  obtain ⟨qb, hqb⟩ : ∃ f : ℕ → ℝ, ∀ d, D.qb (32 * t + q / 6) (q % 6) d = f d := ⟨_, fun d => (hD.qb _ _ d).choose_spec⟩
  obtain ⟨kb, hkb⟩ : ∃ f : ℕ → ℝ, ∀ d, D.kb (128 * (row / 256) + row % 128) (row % 256 / 128) d = f d := ⟨_, fun d => (hD.kb _ _ d).choose_spec⟩
  obtain ⟨a, ha⟩ := hD.qas (32 * t + q / 6) (q % 6)
  obtain ⟨b, hb⟩ := hD.qbs (32 * t + q / 6) (q % 6)
  have e := fG_eq hR ht (q := q) (k := row % 256 / 128) (c := row / 256) (x := row % 128) hq (by omega) (by omega) (by omega)
  rw [show 256 * (row / 256) + (128 * (row % 256 / 128) + row % 128) = row by omega] at e
  rw [e]
  simp only [hqb, hkb, ha, hb, ← EReal.coe_mul, ← coe_sum, ← EReal.coe_sub, sub_self, EReal.coe_zero]

include hR ht in
theorem zG_eq {n k c x col : ℕ} (hn : n < 4) (hk : k < 2) (hc : c < 12) (hx : x < 128) (hcol : col < 256) :
    zG I t n (256 * c + (128 * k + x)) col = ∑ r : Fin 6, ((∑ d : Fin 128, D.qb (32 * t + 8 * n + col % 8) r d * D.kb (128 * c + x) k d)
      * (D.qas (32 * t + 8 * n + col % 8) r * D.qbs (32 * t + 8 * n + col % 8) r)) * D.qa (32 * t + 8 * n + col % 8) r (col / 8) := by
  unfold zG
  rw [Fin.sum_univ_eq_sum_range (fun q => fG I t (48 * n + q) (256 * c + (128 * k + x)) * bdG I t n q col) 48, show (48 : ℕ) = 6 * 8 from rfl, sum_blocks,
    Finset.sum_eq_single (col % 8), Finset.sum_range]
  · refine Finset.sum_congr rfl fun r _ => ?_
    have hr := r.2
    rw [fG_eq hR ht (by omega) hk hc hx, bdG, if_pos (by omega), hR.x1 _ _ (by omega) (by omega)]
    rw [show 32 * t + (48 * n + (6 * (col % 8) + r.val)) / 6 = 32 * t + 8 * n + col % 8 by omega,
      show (48 * n + (6 * (col % 8) + r.val)) % 6 = r.val by omega,
      show (192 * t + (48 * n + (6 * (col % 8) + r.val))) / 6 = 32 * t + 8 * n + col % 8 by omega,
      show (192 * t + (48 * n + (6 * (col % 8) + r.val))) % 6 = r.val by omega]
  · intro a _ ha
    refine Finset.sum_eq_zero fun x hx => ?_
    have hx := Finset.mem_range.1 hx
    rw [bdG, if_neg (by omega), mul_zero]
  · intro h
    exact absurd (Finset.mem_range.2 (by omega)) h

include hD in
theorem sc_eq (T h u : ℕ) : D.sc T h u = (scR D T h u : EReal) := by
  choose qa hqa using hD.qa
  choose qas hqas using hD.qas
  choose qb hqb using hD.qb
  choose qbs hqbs using hD.qbs
  choose ka hka using hD.ka
  choose kas hkas using hD.kas
  choose kb hkb using hD.kb
  choose kbs hkbs using hD.kbs
  unfold scR
  rw [Data.sc, denom, Ideal.div_coe (by positivity)]
  simp only [Data.rkS, Data.rk, hqa, hqas, hqb, hqbs, hka, hkas, hkb, hkbs, ← EReal.coe_mul, ← coe_sum, ← EReal.coe_add, EReal.toReal_coe]

include hR hD ht in
theorem sG_eq {n u col : ℕ} (hn : n < 4) (hu : u < 1536) (hcol : col < 256) :
    sG I t n u col = ((scR D (32 * t + 8 * n + col % 8) (col / 8) u * (Real.log 2)⁻¹ : ℝ) : EReal) := by
  rw [EReal.coe_mul, ← sc_eq hD]
  have z0 := zG_eq hR ht (k := 0) (c := u / 128) (x := u % 128) hn (by omega) (by omega) (by omega) hcol
  have z1 := zG_eq hR ht (k := 1) (c := u / 128) (x := u % 128) hn (by omega) (by omega) (by omega) hcol
  rw [show 256 * (u / 128) + (128 * 0 + u % 128) = 256 * (u / 128) + u % 128 by omega] at z0
  rw [show 256 * (u / 128) + (128 * 1 + u % 128) = 256 * (u / 128) + 128 + u % 128 by omega] at z1
  unfold sG akG
  rw [z0, z1, hR.x5 _ _ _ (by omega) hu (by omega), hR.x5 _ _ _ (by omega) hu (by omega), hR.x6 _ _ _ (by omega) (by omega) (by omega),
    hR.x6 _ _ _ (by omega) (by omega) (by omega), hR.x8 _ _ _ (by omega) (by omega) (by omega), hR.x8 _ _ _ (by omega) (by omega) (by omega),
    show 128 * (u / 128) + u % 128 = u by omega]
  generalize 32 * t + 8 * n + col % 8 = T
  generalize col / 8 = h
  choose qa hqa using hD.qa
  choose qas hqas using hD.qas
  choose qb hqb using hD.qb
  choose qbs hqbs using hD.qbs
  choose ka hka using hD.ka
  choose kas hkas using hD.kas
  choose kb hkb using hD.kb
  choose kbs hkbs using hD.kbs
  rw [Data.sc, denom, Ideal.div_coe (by positivity), SCALE_eq]
  simp only [Data.rkS, Data.rk, hqa, hqas, hqb, hqbs, hka, hkas, hkb, hkbs, ← EReal.coe_mul, ← coe_sum, ← EReal.coe_add, Fin.sum_univ_six]
  congr 1
  simp only [Fin.coe_ofNat_eq_mod, Nat.zero_mod]
  norm_num
  ring
end

end Cert.Proof.KernelIdeal

end

end
-- ==== Proof.PayA.lean ====
/-
  The payloads of the score stages, read at an index: the second factors' product in its padded transposed layout, the
  scores of one key chunk and their running maximum.
-/
module

public import proofs.«01_k».proof.Proof.Spec

@[expose] public section

set_option maxRecDepth 16384

noncomputable section

namespace Cert.Proof.KernelIdeal

open Cert.KernelIdeal Cert.KernelIdeal.Gen Cert.Proof.Rd
open Idealize.ShloMosaic

/-- The three parts of a product over one query block. -/
def hiV (x : FVec Ideal S192x128 .f32) : FVec Ideal S192x128 .bf16 := truncf .bf16 (extf .f32 (truncf .bf16 x bitsLt_bf16_f32) bitsLt_bf16_f32) bitsLt_bf16_f32
def restV (x : FVec Ideal S192x128 .f32) : FVec Ideal S192x128 .f32 := subf x (extf .f32 (truncf .bf16 x bitsLt_bf16_f32) bitsLt_bf16_f32)
def midV (x : FVec Ideal S192x128 .f32) : FVec Ideal S192x128 .bf16 := hiV (restV x)
def loV (x : FVec Ideal S192x128 .f32) : FVec Ideal S192x128 .bf16 := truncf .bf16 (restV (restV x)) bitsLt_bf16_f32

/-- The part of one query group, transposed: rows of the first part, then of the others. -/
def ftW (o : ℕ) (h1 : S192x128.Slices ![o, 0] S48x128) (h2 : S192x128.Slices ![o, 0] S32x128) (x : FVec Ideal S192x128 .f32) : FVec Ideal S1x128x128 .bf16 :=
  shapeCast S1x128x128 (transpose S128x128 [1, 0] (concatenate S128x128 0
    [⟨S48x128, extractStridedSlice S48x128 ![o, 0] (hiV x) h1⟩, ⟨S48x128, extractStridedSlice S48x128 ![o, 0] (midV x) h1⟩,
      ⟨S32x128, extractStridedSlice S32x128 ![o, 0] (loV x) h2⟩] concatenates_S48x128_S48x128_S32x128_S128x128_d0) transposes_S128x128_p1_0_S128x128) shapeCasts_S128x128_S1x128x128

/-- The last rows of the third part, of every query group, transposed. -/
def ftR (x : FVec Ideal S192x128 .f32) : FVec Ideal S128x128 .bf16 := k0_pay39 (loV x)

section
variable {x : FVec Ideal S192x128 .f32} (hx : ∀ i j, i < 192 → j < 128 → rd2 x i j - rd2 x i j = 0)

theorem hiV_read {i j : ℕ} (hi : i < 192) (hj : j < 128) : rd2 (hiV x) i j = rd2 x i j := by
  rw [rd2_eq hi hj]; pointwise [hiV]; simp only [fin2]
include hx in
theorem midV_read {i j : ℕ} (hi : i < 192) (hj : j < 128) : rd2 (midV x) i j = 0 := by
  rw [rd2_eq hi hj]; pointwise [midV, hiV, restV]; simp only [fin2]; exact hx _ _ hi hj
include hx in
theorem loV_read {i j : ℕ} (hi : i < 192) (hj : j < 128) : rd2 (loV x) i j = 0 := by
  rw [rd2_eq hi hj]; pointwise [loV, hiV, restV]; simp only [fin2]
  have := hx _ _ hi hj
  simp only [this, sub_zero]

include hx in
theorem ftW_read {o : ℕ} {h1 h2} {j q : ℕ} (ho : o ≤ 144) (hj : j < 128) (hq : q < 128) :
    rd3 (ftW o h1 h2 x) 0 j q = if q < 48 then rd2 x (o + q) j else 0 := by
  rw [rd3_eq (by omega) hj hq]
  have e1 : ∀ i j, i < 192 → j < 128 → rd2 (hiV x) i j = rd2 x i j := fun i j => hiV_read
  have e2 : ∀ i j, i < 192 → j < 128 → rd2 (midV x) i j = 0 := fun i j => midV_read hx
  have e3 : ∀ i j, i < 192 → j < 128 → rd2 (loV x) i j = 0 := fun i j => loV_read hx
  unfold ftW
  generalize hiV x = a at *
  generalize midV x = b at *
  generalize loV x = c at *
  pointwise
  simp only [fin2]
  split_ifs <;> first | (rw [e1] <;> first | rfl | omega) | (rw [e2] <;> omega) | (rw [e3] <;> omega) | rfl

include hx in
theorem ftR_read {j q : ℕ} (hj : j < 128) (hq : q < 128) : rd2 (ftR x) j q = 0 := by
  rw [rd2_eq hj hq]
  have e3 : ∀ i j, i < 192 → j < 128 → rd2 (loV x) i j = 0 := fun i j => loV_read hx
  unfold ftR
  generalize loV x = c at *
  pointwise [k0_pay39]
  simp only [fin2]
  split_ifs <;> first | (rw [e3] <;> omega) | simp
end

/-- The product over one query block and one half of a key chunk. -/
theorem fW_read {o : ℕ} {h1} {v994 : Vec Ideal S192x128 .fp8e4m3} {v997 : Vec Ideal S1x256x128 .fp8e4m3} {v1001 : Vec Ideal S192x128 .f32} {i j : ℕ}
    (hi : i < 192) (hj : j < 128) (ho : o ≤ 128) :
    rd2 (mulf (extractStridedSlice S192x128 ![0, o] (k0_pay11 v994 v997) h1) v1001 : FVec Ideal S192x128 .f32) i j
      = (∑ d : Fin 128, rd2 v994 i d * rd3 v997 0 (o + j) d) * rd2 v1001 i j := by
  rw [rd2_eq hi hj]
  pointwise [k0_pay11]
  simp only [fin2, fin3]
  rfl

/-- The scores of one key chunk from the two buffers' windows. -/
def scW (v1136 : Vec Ideal S1x256x128 .bf16) (v1139 : Vec Ideal S256x128 .bf16) (v1141 : Vec Ideal S1x256x256 .bf16) (v1146 : Vec Ideal S1x128x256 .f32)
    (v1151 : Vec Ideal S1x128x256 .f32) : FVec Ideal S128x256 .f32 := k0_pay40 v1136 v1139 v1141 v1146 v1151

theorem scW_read {v1136 : Vec Ideal S1x256x128 .bf16} {v1139 : Vec Ideal S256x128 .bf16} {v1141 : Vec Ideal S1x256x256 .bf16} {v1146 : Vec Ideal S1x128x256 .f32}
    {v1151 : Vec Ideal S1x128x256 .f32} {f g : ℕ → ℕ → EReal} {a0 a1 : EReal} {b c : ℕ} (hb : b < 128) (hc : c < 256)
    (h1 : ∀ r q, r < 256 → q < 128 → rd3 v1136 0 r q = if q < 48 then f q r else 0)
    (h2 : ∀ r q, r < 256 → q < 128 → rd2 v1139 r q = 0)
    (h3 : ∀ q, q < 48 → rd3 v1141 0 q c = g q c)
    (h4 : rd3 v1146 0 b c = a0) (h5 : rd3 v1151 0 b c = a1) :
    rd2 (scW v1136 v1139 v1141 v1146 v1151) b c = (∑ q : Fin 48, f q b * g q c) * a0 + (∑ q : Fin 48, f q (128 + b) * g q c) * a1 := by
  rw [rd2_eq hb hc]
  pointwise [scW, k0_pay40]
  simp only [fin2, fin3]
  have key : ∀ r, r < 256 → (∑ x : Fin 128, rd3 v1136 0 r x * rd3 v1141 0 x c + ∑ x : Fin 128, rd2 v1139 r x * rd3 v1141 0 (128 + x) c)
      = ∑ q : Fin 48, f q r * g q c := by
    intro r hr
    have z : ∑ x : Fin 128, rd2 v1139 r x * rd3 v1141 0 (128 + x) c = 0 :=
      Finset.sum_eq_zero fun x _ => by rw [h2 _ _ hr x.2, zero_mul]
    rw [z, add_zero]
    have : (∑ x : Fin (48 + 80), rd3 v1136 0 r x * rd3 v1141 0 x c) = ∑ q : Fin 48, f q r * g q c := by
      rw [Fin.sum_univ_add]
      have z2 : ∑ x : Fin 80, rd3 v1136 0 r (Fin.natAdd 48 x : Fin (48 + 80)) * rd3 v1141 0 (Fin.natAdd 48 x : Fin (48 + 80)) c = 0 :=
        Finset.sum_eq_zero fun x _ => by rw [h1 _ _ hr (Fin.natAdd 48 x : Fin (48 + 80)).2, if_neg (by simp), zero_mul]
      rw [z2, add_zero]
      refine Finset.sum_congr rfl fun q _ => ?_
      rw [h1 _ _ hr (Fin.castAdd 80 q : Fin (48 + 80)).2, if_pos (by simp), h3 _ (by simp)]
      rfl
    exact this
  have h0 : ((0 : Fin 1) : ℕ) = 0 := rfl
  simp only [h0]
  rw [key b (by omega), key (128 + b) (by omega), h4, h5]

/-- The chunk's maximum joins the running one. -/
def mxW (s : FVec Ideal S128x256 .f32) (v : Vec Ideal S1x8x256 .f32) : FVec Ideal S8x256 .f32 :=
  maximumf (shapeCast S8x256 v shapeCasts_S1x8x256_S8x256)
    (multiReduction .maximumf [0] S8x256 (shapeCast S16x8x256 s shapeCasts_S128x256_S16x8x256) 0xFF800000#32 reduces_S16x8x256_S8x256 (.inl rfl) rfl)

theorem mxW_le {s : FVec Ideal S128x256 .f32} {v : Vec Ideal S1x8x256 .f32} {b c : ℕ} (hb : b < 8) (hc : c < 256) (x : EReal) :
    rd2 (mxW s v) b c ≤ x ↔ rd3 v 0 b c ≤ x ∧ ∀ a, a < 16 → rd2 s (a * 8 + b) c ≤ x := by
  rw [rd2_eq hb hc]
  pointwise [mxW]
  simp only [fin2, fin3]
  rw [max_le_iff, Finset.fold_max_le]
  refine and_congr Iff.rfl ⟨fun h a ha => h.2 ⟨a, ha⟩ (Finset.mem_univ _), fun h => ⟨?_, fun a _ => h a a.2⟩⟩
  rw [show Ideal.ofBits FTy.f32 4286578688#32 = ⊥ from by simp [Ideal.ofBits, Ideal.ieee]]
  exact bot_le

/-- The maximum over the eight partial rows, in each of them. -/
theorem mxAll_le {v : Vec Ideal S1x8x256 .f32} {b c : ℕ} (hb : b < 8) (hc : c < 256) (x : EReal) :
    rd3 (k0_pay197 v) 0 b c ≤ x ↔ ∀ a, a < 8 → rd3 v 0 a c ≤ x := by
  rw [rd3_eq (by omega) hb hc]
  pointwise [k0_pay197]
  simp only [fin2, fin3]
  rw [Finset.fold_max_le]
  refine ⟨fun h a ha => h.2 ⟨a, ha⟩ (Finset.mem_univ _), fun h => ⟨?_, fun a _ => h a a.2⟩⟩
  rw [show Ideal.ofBits FTy.f32 4286578688#32 = ⊥ from by simp [Ideal.ofBits, Ideal.ieee]]
  exact bot_le

end Cert.Proof.KernelIdeal

end
-- ==== Proof.Offs.lean ====
/-
  Where the kernel's loads and stores lie, in closed form, and how often its loops run.
-/
module

public import proofs.«01_k».proof.Proof.Spec

@[expose] public section

set_option maxRecDepth 16384

namespace Cert.Proof.KernelIdeal

open Cert.KernelIdeal Cert.KernelIdeal.Gen
open Idealize.ShloMosaic

theorem t1_trips : k0_t1_loop.trips = 12 := by decide +kernel
theorem t2_trips : ∀ i : grid0.Coords, (k0_t2_loop i).trips = (i 0).val / 4 := by decide +kernel
theorem t3_trips : ∀ i : grid0.Coords, (k0_t3_loop i).trips = 0 := by decide +kernel
theorem t4_trips : ∀ i : grid0.Coords, (k0_t4_loop i).trips = (i 0).val / 4 + 1 := by decide +kernel
theorem t5_trips : ∀ i : grid0.Coords, (k0_t5_loop i).trips = 0 := by decide +kernel
theorem cond1_iff : ∀ i : grid0.Coords, k0_cond1 i = 1#1 ↔ (i 0).val = 0 := by decide +kernel

theorem off1_eq : ∀ k : Fin k0_t1_loop.trips, k0_off1 k = ![0, k.val, 0, 0] := by decide +kernel
theorem off2_eq : ∀ k : Fin k0_t1_loop.trips, k0_off2 k = ![0, 128 * k.val, 0] := by decide +kernel
theorem off3_eq : ∀ k : Fin k0_t1_loop.trips, k0_off3 k = ![0, 128 * k.val, 0] := by decide +kernel
theorem off4_eq : ∀ k : Fin k0_t1_loop.trips, k0_off4 k = ![1, k.val, 0, 0] := by decide +kernel
theorem off5_eq : ∀ k : Fin k0_t1_loop.trips, k0_off5 k = ![1, 128 * k.val, 0] := by decide +kernel
theorem off6_eq : ∀ k : Fin k0_t1_loop.trips, k0_off6 k = ![1, 128 * k.val, 0] := by decide +kernel
theorem off7_eq : ∀ k : Fin k0_t1_loop.trips, k0_off7 k = ![0, 128 * k.val, 0] := by decide +kernel
theorem off8_eq : ∀ k : Fin k0_t1_loop.trips, k0_off8 k = ![k.val, 0, 0] := by decide +kernel
theorem off9_eq : ∀ k : Fin k0_t1_loop.trips, k0_off9 k = ![1, 128 * k.val, 0] := by decide +kernel
theorem off10_eq : ∀ k : Fin k0_t1_loop.trips, k0_off10 k = ![k.val, 0, 128] := by decide +kernel
theorem off11_eq : ∀ i : grid0.Coords, k0_off11 i = ![192 * (i 0).val, 0] := by decide +kernel
theorem off12_eq : ∀ i : grid0.Coords, k0_off12 i = ![192 * (i 0).val, 0] := by decide +kernel
theorem off13_eq : ∀ (i : grid0.Coords) (k : Fin (k0_t2_loop i).trips), k0_off13 i k = ![k.val, 0, 0] := by decide +kernel
theorem off19_eq : ∀ (i : grid0.Coords) (k : Fin (k0_t2_loop i).trips), k0_off19 i k = ![0, 256 * k.val, 0] := by decide +kernel
theorem off20_eq : ∀ (i : grid0.Coords) (k : Fin (k0_t2_loop i).trips), k0_off20 i k = ![256 * k.val, 0] := by decide +kernel
theorem off21_eq : ∀ (i : grid0.Coords) (k : Fin (k0_t2_loop i).trips), k0_off21 i k = ![0, 128 * k.val, 0] := by decide +kernel
theorem off22_eq : ∀ (i : grid0.Coords) (k : Fin (k0_t2_loop i).trips), k0_off22 i k = ![1, 128 * k.val, 0] := by decide +kernel
theorem off23_eq : ∀ (i : grid0.Coords) (k : Fin (k0_t2_loop i).trips), k0_off23 i k = ![0, 128 * k.val, 0] := by decide +kernel
theorem off24_eq : ∀ (i : grid0.Coords) (k : Fin (k0_t2_loop i).trips), k0_off24 i k = ![1, 256 * k.val, 0] := by decide +kernel
theorem off25_eq : ∀ (i : grid0.Coords) (k : Fin (k0_t2_loop i).trips), k0_off25 i k = ![1, 128 * k.val, 0] := by decide +kernel
theorem off26_eq : ∀ (i : grid0.Coords) (k : Fin (k0_t2_loop i).trips), k0_off26 i k = ![2, 256 * k.val, 0] := by decide +kernel
theorem off27_eq : ∀ (i : grid0.Coords) (k : Fin (k0_t2_loop i).trips), k0_off27 i k = ![2, 128 * k.val, 0] := by decide +kernel
theorem off28_eq : ∀ (i : grid0.Coords) (k : Fin (k0_t2_loop i).trips), k0_off28 i k = ![3, 256 * k.val, 0] := by decide +kernel
theorem off29_eq : ∀ (i : grid0.Coords) (k : Fin (k0_t2_loop i).trips), k0_off29 i k = ![3, 128 * k.val, 0] := by decide +kernel
theorem off14_0 : ∀ (i : grid0.Coords) (k : Fin (k0_t2_loop i).trips), k0_off14 i k 0#32 = ![0, 256 * k.val + 0, 0] := by decide +kernel
theorem off15_0 : ∀ (i : grid0.Coords) (k : Fin (k0_t2_loop i).trips), k0_off15 i k 0#32 = ![1, 256 * k.val + 0, 0] := by decide +kernel
theorem off16_0 : ∀ (i : grid0.Coords) (k : Fin (k0_t2_loop i).trips), k0_off16 i k 0#32 = ![2, 256 * k.val + 0, 0] := by decide +kernel
theorem off17_0 : ∀ (i : grid0.Coords) (k : Fin (k0_t2_loop i).trips), k0_off17 i k 0#32 = ![3, 256 * k.val + 0, 0] := by decide +kernel
theorem off18_0 : ∀ (i : grid0.Coords) (k : Fin (k0_t2_loop i).trips), k0_off18 i k 0#32 = ![256 * k.val + 0, 0] := by decide +kernel
theorem off50_0 : ∀ i : grid0.Coords, k0_off50 i 0#32 = ![0, 256 * ((i 0).val / 4) + 0, 0] := by decide +kernel
theorem off51_0 : ∀ i : grid0.Coords, k0_off51 i 0#32 = ![1, 256 * ((i 0).val / 4) + 0, 0] := by decide +kernel
theorem off52_0 : ∀ i : grid0.Coords, k0_off52 i 0#32 = ![2, 256 * ((i 0).val / 4) + 0, 0] := by decide +kernel
theorem off53_0 : ∀ i : grid0.Coords, k0_off53 i 0#32 = ![3, 256 * ((i 0).val / 4) + 0, 0] := by decide +kernel
theorem off54_0 : ∀ i : grid0.Coords, k0_off54 i 0#32 = ![256 * ((i 0).val / 4) + 0, 0] := by decide +kernel
theorem off14_128 : ∀ (i : grid0.Coords) (k : Fin (k0_t2_loop i).trips), k0_off14 i k 128#32 = ![0, 256 * k.val + 128, 0] := by decide +kernel
theorem off15_128 : ∀ (i : grid0.Coords) (k : Fin (k0_t2_loop i).trips), k0_off15 i k 128#32 = ![1, 256 * k.val + 128, 0] := by decide +kernel
theorem off16_128 : ∀ (i : grid0.Coords) (k : Fin (k0_t2_loop i).trips), k0_off16 i k 128#32 = ![2, 256 * k.val + 128, 0] := by decide +kernel
theorem off17_128 : ∀ (i : grid0.Coords) (k : Fin (k0_t2_loop i).trips), k0_off17 i k 128#32 = ![3, 256 * k.val + 128, 0] := by decide +kernel
theorem off18_128 : ∀ (i : grid0.Coords) (k : Fin (k0_t2_loop i).trips), k0_off18 i k 128#32 = ![256 * k.val + 128, 0] := by decide +kernel
theorem off50_128 : ∀ i : grid0.Coords, k0_off50 i 128#32 = ![0, 256 * ((i 0).val / 4) + 128, 0] := by decide +kernel
theorem off51_128 : ∀ i : grid0.Coords, k0_off51 i 128#32 = ![1, 256 * ((i 0).val / 4) + 128, 0] := by decide +kernel
theorem off52_128 : ∀ i : grid0.Coords, k0_off52 i 128#32 = ![2, 256 * ((i 0).val / 4) + 128, 0] := by decide +kernel
theorem off53_128 : ∀ i : grid0.Coords, k0_off53 i 128#32 = ![3, 256 * ((i 0).val / 4) + 128, 0] := by decide +kernel
theorem off54_128 : ∀ i : grid0.Coords, k0_off54 i 128#32 = ![256 * ((i 0).val / 4) + 128, 0] := by decide +kernel
theorem off48_eq : ∀ i : grid0.Coords, k0_off48 i = ![192 * (i 0).val, 0] := by decide +kernel
theorem off49_eq : ∀ i : grid0.Coords, k0_off49 i = ![((i 0).val / 4), 0, 0] := by decide +kernel
theorem off55_eq : ∀ i : grid0.Coords, k0_off55 i = ![0, 256 * ((i 0).val / 4), 0] := by decide +kernel
theorem off56_eq : ∀ i : grid0.Coords, k0_off56 i = ![256 * ((i 0).val / 4), 0] := by decide +kernel
theorem off57_eq : ∀ i : grid0.Coords, k0_off57 i = ![0, 128 * ((i 0).val / 4), 0] := by decide +kernel
theorem off58_eq : ∀ i : grid0.Coords, k0_off58 i = ![1, 128 * ((i 0).val / 4), 0] := by decide +kernel
theorem off60_eq : ∀ i : grid0.Coords, k0_off60 i = ![0, 128 * ((i 0).val / 4), 0] := by decide +kernel
theorem off61_eq : ∀ i : grid0.Coords, k0_off61 i = ![1, 256 * ((i 0).val / 4), 0] := by decide +kernel
theorem off62_eq : ∀ i : grid0.Coords, k0_off62 i = ![1, 128 * ((i 0).val / 4), 0] := by decide +kernel
theorem off63_eq : ∀ i : grid0.Coords, k0_off63 i = ![2, 256 * ((i 0).val / 4), 0] := by decide +kernel
theorem off64_eq : ∀ i : grid0.Coords, k0_off64 i = ![2, 128 * ((i 0).val / 4), 0] := by decide +kernel
theorem off65_eq : ∀ i : grid0.Coords, k0_off65 i = ![3, 256 * ((i 0).val / 4), 0] := by decide +kernel
theorem off66_eq : ∀ i : grid0.Coords, k0_off66 i = ![3, 128 * ((i 0).val / 4), 0] := by decide +kernel
theorem off59_0 : ∀ i : grid0.Coords, k0_off59 i 0#32 = ![160 + 128 * ((i 0).val / 4) - (32 * (i 0).val + 0), 0] := by decide +kernel
theorem off59_8 : ∀ i : grid0.Coords, k0_off59 i 8#32 = ![160 + 128 * ((i 0).val / 4) - (32 * (i 0).val + 8), 0] := by decide +kernel
theorem off59_16 : ∀ i : grid0.Coords, k0_off59 i 16#32 = ![160 + 128 * ((i 0).val / 4) - (32 * (i 0).val + 16), 0] := by decide +kernel
theorem off59_24 : ∀ i : grid0.Coords, k0_off59 i 24#32 = ![160 + 128 * ((i 0).val / 4) - (32 * (i 0).val + 24), 0] := by decide +kernel
theorem off67_eq : ∀ (i : grid0.Coords) (k : Fin (k0_t4_loop i).trips), k0_off67 i k = ![0, 128 * k.val, 0] := by decide +kernel
theorem off68_eq : ∀ (i : grid0.Coords) (k : Fin (k0_t4_loop i).trips), k0_off68 i k = ![0, 128 * k.val, 0] := by decide +kernel
theorem off69_eq : ∀ (i : grid0.Coords) (k : Fin (k0_t4_loop i).trips), k0_off69 i k = ![1, 128 * k.val, 0] := by decide +kernel
theorem off70_eq : ∀ (i : grid0.Coords) (k : Fin (k0_t4_loop i).trips), k0_off70 i k = ![k.val, 0, 0] := by decide +kernel
theorem off71_eq : ∀ (i : grid0.Coords) (k : Fin (k0_t4_loop i).trips), k0_off71 i k = ![1, 128 * k.val, 0] := by decide +kernel
theorem off72_eq : ∀ (i : grid0.Coords) (k : Fin (k0_t4_loop i).trips), k0_off72 i k = ![2, 128 * k.val, 0] := by decide +kernel
theorem off73_eq : ∀ (i : grid0.Coords) (k : Fin (k0_t4_loop i).trips), k0_off73 i k = ![3, 128 * k.val, 0] := by decide +kernel

end Cert.Proof.KernelIdeal

end
-- ==== Proof.StageA.lean ====
/-
  One trip of the loop over the key chunks that every query of the block sees: the product of the second factors, the
  scores of the four query groups, and their running maxima.
-/
module

public import proofs.«01_k».proof.Proof.PayA
public import proofs.«01_k».proof.Proof.Offs

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

/-- What a block's stages read: the tables, the query scales and the first query factor. -/
structure Hd (t : ℕ) (σ : Sc Ideal) : Prop where
  tab : Tab I σ
  cs : Holds2 (csG I) (fun _ _ => True) σ.csb
  bd : Holds3 (bdG I t) (fun _ q _ => q < 48) σ.bd

/-- The scores, as they are stored. -/
def sbW (s : FVec Ideal S128x256 .f32) : FVec Ideal S1x128x256 .f32 := shapeCast S1x128x256 s shapeCasts_S128x256_S1x128x256
theorem sbW_read {s : FVec Ideal S128x256 .f32} {b c : ℕ} (hb : b < 128) (hc : c < 256) : rd3 (sbW s) 0 b c = rd2 s b c := by
  rw [rd3_eq (by omega) hb hc]; pointwise [sbW]; simp only [fin2]
/-- The maxima, as they are stored. -/
def mbW (s : FVec Ideal S8x256 .f32) : FVec Ideal S1x8x256 .f32 := shapeCast S1x8x256 s shapeCasts_S8x256_S1x8x256
theorem mbW_read {s : FVec Ideal S8x256 .f32} {b c : ℕ} (hb : b < 8) (hc : c < 256) : rd3 (mbW s) 0 b c = rd2 s b c := by
  rw [rd3_eq (by omega) hb hc]; pointwise [mbW]; simp only [fin2]

/-- A running maximum after `k` chunks: the least upper bound of the scores of its row. -/
def MaxQ (t k n b col : ℕ) (y : EReal) : Prop := ∀ x, y ≤ x ↔ ∀ a, a < 16 * k → smG I t n (8 * a + b) col ≤ x

/-- After `k` chunks. -/
structure InvS (t k : ℕ) (σ : Sc Ideal) : Prop where
  hd : Hd I t σ
  sb : Holds3 (smG I t) (fun _ u _ => u < 128 * k) σ.sb
  mb : ∀ n b col, n < 4 → b < 8 → col < 256 → MaxQ I t k n b col (rd3 σ.mb n b col)
  lb : Holds3 (fun _ _ _ => 0) (fun _ _ _ => True) σ.lb
  ob : Holds3 (fun _ _ _ => 0) (fun _ _ _ => True) σ.ob

/-- The rows that one chunk's product fills. -/
def FtOk (t k : ℕ) (σ : Sc Ideal) : Prop :=
  Holds3 (ftG I t) (fun _ r _ => 256 * k ≤ r ∧ r < 256 * k + 256) σ.fta ∧ Holds2 (fun _ _ => 0) (fun r _ => 256 * k ≤ r ∧ r < 256 * k + 256) σ.ftb

section
variable {I} {t : ℕ} (hf : FinF I t)

/-- The product over the block and one half `o` of chunk `k`, from its windows. -/
theorem f_at {k o : ℕ} {h1} {v994 : Vec Ideal S192x128 .fp8e4m3} {v997 : Vec Ideal S1x256x128 .fp8e4m3} {v1001 : Vec Ideal S192x128 .f32}
    (ho : o ≤ 128)
    (hq : ∀ a b, a < 192 → b < 128 → rd2 v994 a b = rd2 I.x3 (192 * t + a) b)
    (hk : ∀ a b, a < 256 → b < 128 → rd3 v997 0 a b = rd3 I.x7 k a b)
    (hs : ∀ a b, a < 192 → b < 128 → rd2 v1001 a b = csG I a b) {a b : ℕ} (ha : a < 192) (hb : b < 128) :
    rd2 (mulf (extractStridedSlice S192x128 ![0, o] (k0_pay11 v994 v997) h1) v1001 : FVec Ideal S192x128 .f32) a b = fG I t a (256 * k + o + b) := by
  rw [fW_read ha hb ho, hs _ _ ha hb]
  unfold fG
  refine congrArg₂ (· * ·) (Finset.sum_congr rfl fun d _ => ?_) rfl
  rw [hq _ _ ha d.2, hk _ _ (by omega) d.2, show (256 * k + o + b) / 256 = k by omega, show (256 * k + o + b) % 256 = o + b by omega]

include hf in
/-- A store of one query group's half chunk. -/
theorem ftW_ok {k o m n w : ℕ} {h1 h2} {x : FVec Ideal S192x128 .f32} (hw : w = 256 * k + o) (hm : m = 48 * n) (hn : n < 4) (ho : o = 0 ∨ o = 128) (hk : k < 12)
    (hx : ∀ a b, a < 192 → b < 128 → rd2 x a b = fG I t a (256 * k + o + b)) (i' j q : ℕ) (hi : i' < 1) (hj : j < 128) (hq : q < 128) :
    rd3 (ftW m h1 h2 x) i' j q = ftG I t (n + i') (w + j) (0 + q) := by
  subst hw hm
  obtain rfl : i' = 0 := by omega
  have hx0 : ∀ i j, i < 192 → j < 128 → rd2 x i j - rd2 x i j = 0 := fun a b ha hb => by
    rw [hx a b ha hb]; exact hf _ _ ha (by omega)
  rw [ftW_read hx0 (by omega) hj hq]
  unfold ftG
  rw [Nat.zero_add, Nat.add_zero]
  split_ifs with h
  · exact hx _ _ (by omega) hj
  · rfl

include hf in
theorem ftR_ok {k o : ℕ} {x : FVec Ideal S192x128 .f32} (ho : o = 0 ∨ o = 128) (hk : k < 12)
    (hx : ∀ a b, a < 192 → b < 128 → rd2 x a b = fG I t a (256 * k + o + b)) (j q : ℕ) (hj : j < 128) (hq : q < 128) :
    rd2 (ftR x) j q = 0 :=
  ftR_read (fun a b ha hb => by rw [hx a b ha hb]; exact hf _ _ ha (by omega)) hj hq

/-- The scores of a chunk. -/
theorem sc_ok {k n : ℕ} (hn : n < 4) {v1136 : Vec Ideal S1x256x128 .bf16} {v1139 : Vec Ideal S256x128 .bf16} {v1141 : Vec Ideal S1x256x256 .bf16} {v1146 : Vec Ideal S1x128x256 .f32}
    {v1151 : Vec Ideal S1x128x256 .f32}
    (h1 : ∀ r q, r < 256 → q < 128 → rd3 v1136 0 r q = ftG I t n (256 * k + r) q)
    (h2 : ∀ r q, r < 256 → q < 128 → rd2 v1139 r q = 0)
    (h3 : ∀ q c, q < 48 → c < 256 → rd3 v1141 0 q c = bdG I t n q c)
    (h4 : ∀ b c, b < 128 → c < 256 → rd3 v1146 0 b c = akG I 0 (128 * k + b) c)
    (h5 : ∀ b c, b < 128 → c < 256 → rd3 v1151 0 b c = akG I 1 (128 * k + b) c) {b c : ℕ} (hb : b < 128) (hc : c < 256) :
    rd2 (scW v1136 v1139 v1141 v1146 v1151) b c = sG I t n (128 * k + b) c := by
  rw [scW_read (f := fun q r => fG I t (48 * n + q) (256 * k + r)) (g := fun q c => bdG I t n q c) hb hc (fun r q hr hq => h1 r q hr hq) h2
    (fun q hq => h3 q c hq hc) (h4 b c hb hc) (h5 b c hb hc)]
  unfold sG zG
  rw [show (128 * k + b) / 128 = k by omega, show (128 * k + b) % 128 = b by omega]
  simp only [Nat.add_assoc]

end

/-- The running maximum after one more chunk. -/
theorem MaxQ.step {t n k b col : ℕ} {y z : EReal} (hy : MaxQ I t k n b col y)
    (hz : ∀ x, z ≤ x ↔ y ≤ x ∧ ∀ a, a < 16 → smG I t n (128 * k + (a * 8 + b)) col ≤ x) : MaxQ I t (k + 1) n b col z := by
  intro x
  rw [hz x, hy x]
  constructor
  · rintro ⟨h1, h2⟩ a ha
    by_cases h : a < 16 * k
    · exact h1 a h
    · have := h2 (a - 16 * k) (by omega)
      rwa [show 128 * k + ((a - 16 * k) * 8 + b) = 8 * a + b by omega] at this
  · intro h
    refine ⟨fun a ha => h a (by omega), fun a ha => ?_⟩
    have := h (16 * k + a) (by omega)
    rwa [show 8 * (16 * k + a) + b = 128 * k + (a * 8 + b) by omega] at this

/-- Within chunk `k`, with the query groups below `n` done: `Q` is what their maxima satisfy. -/
structure InvM (Q : ℕ → ℕ → ℕ → EReal → Prop) (t k n : ℕ) (σ : Sc Ideal) : Prop where
  hd : Hd I t σ
  ft : FtOk I t k σ
  sb : Holds3 (smG I t) (fun m u _ => u < 128 * k ∨ (m < n ∧ u < 128 * (k + 1))) σ.sb
  mb : ∀ m b col, n ≤ m → m < 4 → b < 8 → col < 256 → MaxQ I t k m b col (rd3 σ.mb m b col)
  mbd : ∀ m b col, m < n → b < 8 → col < 256 → Q m b col (rd3 σ.mb m b col)
  lb : Holds3 (fun _ _ _ => 0) (fun _ _ _ => True) σ.lb
  ob : Holds3 (fun _ _ _ => 0) (fun _ _ _ => True) σ.ob

section
variable {I} {t k n : ℕ} {Q : ℕ → ℕ → ℕ → EReal → Prop} {σ : Sc Ideal}

theorem InvM.ofS (h : InvS I t k σ) {x y} (hx : FtOk I t k { σ with fta := x, ftb := y }) : InvM I Q t k 0 { σ with fta := x, ftb := y } :=
  ⟨⟨⟨h.hd.tab.ak, h.hd.tab.av, h.hd.tab.bv, h.hd.tab.mask⟩, h.hd.cs, h.hd.bd⟩, hx, h.sb.mono fun _ _ _ h _ _ _ => by omega,
    fun m b col _ h1 h2 h3 => h.mb m b col h1 h2 h3, fun _ _ _ h => absurd h (by omega), h.lb, h.ob⟩

theorem InvM.toS (h : InvM I (MaxQ I t (k + 1)) t k 4 σ) : InvS I t (k + 1) σ :=
  ⟨h.hd, h.sb.mono fun _ _ _ h _ _ _ => by omega, fun m b col h1 h2 h3 => h.mbd m b col h1 h2 h3, h.lb, h.ob⟩

/-- The scores of a chunk from the buffers. -/
theorem InvM.sc (h : InvM I Q t k n σ) (hn : n < 4) (hk : k < 12) {o1 o2 o3 o4 o5 p1 p2 p3 p4 p5}
    (e1 : o1 = ![n, 256 * k, 0]) (e2 : o2 = ![256 * k, 0]) (e3 : o3 = ![n, 0, 0]) (e4 : o4 = ![0, 128 * k, 0]) (e5 : o5 = ![1, 128 * k, 0]) {b c : ℕ} (hb : b < 128) (hc : c < 256) :
    rd2 (scW (VecWindow.window σ.fta o1 ![1, 256, 128] p1) (VecWindow.window σ.ftb o2 ![256, 128] p2) (VecWindow.window σ.bd o3 ![1, 256, 256] p3)
      (VecWindow.window σ.akt o4 ![1, 128, 256] p4) (VecWindow.window σ.akt o5 ![1, 128, 256] p5)) b c = sG I t n (128 * k + b) c := by
  subst e1 e2 e3 e4 e5
  refine sc_ok hn (fun r q hr hq => ?_) (fun r q hr hq => ?_) (fun q c hq hc => ?_) (fun b c hb hc => ?_) (fun b c hb hc => ?_) hb hc
  · exact (rd3_window _ (by omega) hr hq (a := n) (b := 256 * k + r) (c := q) rfl rfl (Nat.zero_add q)).trans (h.ft.1 _ _ _ (by omega) (by omega) (by omega) (by omega))
  · exact (rd2_window _ hr hq (a := 256 * k + r) (b := q) rfl (Nat.zero_add q)).trans (h.ft.2 _ _ (by omega) (by omega) (by omega))
  · exact (rd3_window _ (by omega) (by omega) hc (a := n) (b := q) (c := c) rfl (Nat.zero_add q) (Nat.zero_add c)).trans (h.hd.bd _ _ _ hq (by omega) (by omega) (by omega))
  · exact (rd3_window _ (by omega) hb hc (a := 0) (b := 128 * k + b) (c := c) rfl rfl (Nat.zero_add c)).trans (h.hd.tab.ak _ _ _ trivial (by omega) (by omega) (by omega))
  · exact (rd3_window _ (by omega) hb hc (a := 1) (b := 128 * k + b) (c := c) rfl rfl (Nat.zero_add c)).trans (h.hd.tab.ak _ _ _ trivial (by omega) (by omega) (by omega))

/-- One query group's scores and maxima are stored. -/
theorem InvM.step (h : InvM I Q t k n σ) (hn : n < 4) (hk : k < 12) {x y o} {w : Vec Ideal S1x128x256 .f32}
    (hx : x = VecWindow.put σ.sb o ![1, 128, 256] w) (ho : o = ![n, 128 * k, 0]) (hw : ∀ b c, b < 128 → c < 256 → rd3 w 0 b c = smG I t n (128 * k + b) c)
    (hy : ∀ m b col, m < 4 → m ≠ n → b < 8 → col < 256 → rd3 y m b col = rd3 σ.mb m b col)
    (hQ : ∀ b col, b < 8 → col < 256 → Q n b col (rd3 y n b col)) : InvM I Q t k (n + 1) { σ with sb := x, mb := y } := by
  refine ⟨⟨⟨h.hd.tab.ak, h.hd.tab.av, h.hd.tab.bv, h.hd.tab.mask⟩, h.hd.cs, h.hd.bd⟩, h.ft, ?_, fun m b col h1 h2 h3 h4 => ?_, fun m b col h1 h2 h3 => ?_, h.lb, h.ob⟩
  · subst hx
    refine (h.sb.put n (128 * k) 0 ho ?_).mono ?_
    · intro a b c ha hb hc
      obtain rfl : a = 0 := by omega
      rw [hw _ _ hb hc, Nat.add_zero, Nat.zero_add]
    · intro a b c hr ha hb hc
      omega
  · rw [hy _ _ _ h2 (by omega) h3 h4]; exact h.mb _ _ _ (by omega) h2 h3 h4
  · by_cases e : m = n
    · subst e; exact hQ _ _ h2 h3
    · rw [hy _ _ _ (by omega) e h2 h3]; exact h.mbd _ _ _ (by omega) h2 h3

/-- One query group below the diagonal. -/
theorem InvM.step2 (h : InvM I (MaxQ I t (k + 1)) t k n σ) (hn : n < 4) (hk : k < t / 4) (hk12 : k < 12) {v1136 v1139 v1141 v1146 v1151 v1159 x y} {o1 o2 o3 o4 o5 o6 p1 p2 p3 p4 p5 p6}
    (e1 : o1 = ![n, 256 * k, 0]) (e2 : o2 = ![256 * k, 0]) (e4 : o4 = ![0, 128 * k, 0]) (e5 : o5 = ![1, 128 * k, 0]) (e6 : o6 = ![n, 128 * k, 0]) (e3 : o3 = ![n, 0, 0])
    (h1 : v1136 = VecWindow.window σ.fta o1 ![1, 256, 128] p1) (h2 : v1139 = VecWindow.window σ.ftb o2 ![256, 128] p2)
    (h3 : v1141 = VecWindow.window σ.bd o3 ![1, 256, 256] p3) (h4 : v1146 = VecWindow.window σ.akt o4 ![1, 128, 256] p4)
    (h5 : v1151 = VecWindow.window σ.akt o5 ![1, 128, 256] p5) (h6 : v1159 = VecWindow.window σ.mb o3 ![1, 8, 256] p6)
    (hx : x = VecWindow.put σ.sb o6 ![1, 128, 256] (sbW (scW v1136 v1139 v1141 v1146 v1151)))
    (hy : y = VecWindow.put σ.mb o3 ![1, 8, 256] (mbW (mxW (scW v1136 v1139 v1141 v1146 v1151) v1159))) :
    InvM I (MaxQ I t (k + 1)) t k (n + 1) { σ with sb := x, mb := y } := by
  have hs : ∀ b c, b < 128 → c < 256 → rd2 (scW v1136 v1139 v1141 v1146 v1151) b c = smG I t n (128 * k + b) c := by
    intro b c hb hc
    subst h1 h2 h3 h4 h5
    rw [h.sc hn hk12 e1 e2 e3 e4 e5 hb hc]
    unfold smG
    rw [if_neg (by omega), add_zero]
  subst e3
  refine h.step hn hk12 hx e6 (fun b c hb hc => ?_) (fun m b col h1 h2 h3 h4 => ?_) (fun b col hb hc => (h.mb n b col (le_refl n) hn hb hc).step I fun z => ?_)
  · rw [sbW_read hb hc, hs b c hb hc]
  · rw [hy, rd3_put_out (by simp; omega)]
  · rw [hy, rd3_put_in 0 b col (by omega) hb hc hn hb hc (Nat.add_zero n) (Nat.zero_add b) (Nat.zero_add col)]
    have := mxW_le (s := scW v1136 v1139 v1141 v1146 v1151) (v := v1159) hb hc z
    rw [show rd3 v1159 0 b col = rd3 σ.mb n b col by rw [h6]; exact rd3_window _ (by omega) hb hc rfl (Nat.zero_add b) (Nat.zero_add col)] at this
    rw [mbW_read hb hc]
    rw [this]
    refine and_congr Iff.rfl (forall_congr' fun a => forall_congr' fun ha => ?_)
    rw [hs _ _ (by omega) hc]
end

theorem part7_spec (k : Fin (k0_t2_loop i).trips) (a) (σ : Sc Ideal) (h : InvM I (MaxQ I (i 0).val (k.val + 1)) (i 0).val k.val 0 σ) :
    WP (fam A c I) (A.app (k0_part7 (F := Ideal) i) k a) (fun _ σ' => InvM I (MaxQ I (i 0).val (k.val + 1)) (i 0).val k.val 1 σ') σ := by
  have hk : k.val < (i 0).val / 4 := by rw [← t2_trips i]; exact k.2
  have hk12 : k.val < 12 := by have : (i 0).val < 48 := (i 0).2; omega
  rw [k0_part7_eq_skeleton]; unfold k0_part7_skel
  with_reducible refine WP.loadg _ fun v1136 h1 => WP.loadg _ fun v1139 h2 => WP.loadg _ fun v1141 h3 => WP.loadg _ fun v1146 h4 => WP.loadg _ fun v1151 h5 =>
                    WP.loadd _ fun _ => WP.storeg _ fun x hx => WP.loadg _ fun v1159 h6 => WP.loadd _ fun _ => WP.storeg _ fun y hy => WP.pure _ ?_
  exact h.step2 (by omega) hk hk12 (off19_eq i k) (off20_eq i k) (off21_eq i k) (off22_eq i k) (off23_eq i k) rfl h1 h2 h3 h4 h5 h6 hx hy

theorem part8_spec (k : Fin (k0_t2_loop i).trips) (a) (σ : Sc Ideal) (h : InvM I (MaxQ I (i 0).val (k.val + 1)) (i 0).val k.val 1 σ) :
    WP (fam A c I) (A.app (k0_part8 (F := Ideal) i) k a) (fun _ σ' => InvM I (MaxQ I (i 0).val (k.val + 1)) (i 0).val k.val 2 σ') σ := by
  have hk : k.val < (i 0).val / 4 := by rw [← t2_trips i]; exact k.2
  have hk12 : k.val < 12 := by have : (i 0).val < 48 := (i 0).2; omega
  rw [k0_part8_eq_skeleton]; unfold k0_part8_skel
  with_reducible refine WP.loadg _ fun v1136 h1 => WP.loadg _ fun v1139 h2 => WP.loadg _ fun v1141 h3 => WP.loadg _ fun v1146 h4 => WP.loadg _ fun v1151 h5 =>
                    WP.loadd _ fun _ => WP.storeg _ fun x hx => WP.loadg _ fun v1159 h6 => WP.loadd _ fun _ => WP.storeg _ fun y hy => WP.pure _ ?_
  exact h.step2 (by omega) hk hk12 (off24_eq i k) (off20_eq i k) (off21_eq i k) (off22_eq i k) (off25_eq i k) rfl h1 h2 h3 h4 h5 h6 hx hy

theorem part9_spec (k : Fin (k0_t2_loop i).trips) (a) (σ : Sc Ideal) (h : InvM I (MaxQ I (i 0).val (k.val + 1)) (i 0).val k.val 2 σ) :
    WP (fam A c I) (A.app (k0_part9 (F := Ideal) i) k a) (fun _ σ' => InvM I (MaxQ I (i 0).val (k.val + 1)) (i 0).val k.val 3 σ') σ := by
  have hk : k.val < (i 0).val / 4 := by rw [← t2_trips i]; exact k.2
  have hk12 : k.val < 12 := by have : (i 0).val < 48 := (i 0).2; omega
  rw [k0_part9_eq_skeleton]; unfold k0_part9_skel
  with_reducible refine WP.loadg _ fun v1136 h1 => WP.loadg _ fun v1139 h2 => WP.loadg _ fun v1141 h3 => WP.loadg _ fun v1146 h4 => WP.loadg _ fun v1151 h5 =>
                    WP.loadd _ fun _ => WP.storeg _ fun x hx => WP.loadg _ fun v1159 h6 => WP.loadd _ fun _ => WP.storeg _ fun y hy => WP.pure _ ?_
  exact h.step2 (by omega) hk hk12 (off26_eq i k) (off20_eq i k) (off21_eq i k) (off22_eq i k) (off27_eq i k) rfl h1 h2 h3 h4 h5 h6 hx hy

theorem part10_spec (k : Fin (k0_t2_loop i).trips) (a) (σ : Sc Ideal) (h : InvM I (MaxQ I (i 0).val (k.val + 1)) (i 0).val k.val 3 σ) :
    WP (fam A c I) (A.app (k0_part10 (F := Ideal) i) k a) (fun _ σ' => InvM I (MaxQ I (i 0).val (k.val + 1)) (i 0).val k.val 4 σ') σ := by
  have hk : k.val < (i 0).val / 4 := by rw [← t2_trips i]; exact k.2
  have hk12 : k.val < 12 := by have : (i 0).val < 48 := (i 0).2; omega
  rw [k0_part10_eq_skeleton]; unfold k0_part10_skel
  with_reducible refine WP.loadg _ fun v1136 h1 => WP.loadg _ fun v1139 h2 => WP.loadg _ fun v1141 h3 => WP.loadg _ fun v1146 h4 => WP.loadg _ fun v1151 h5 =>
                    WP.loadd _ fun _ => WP.storeg _ fun x hx => WP.loadg _ fun v1159 h6 => WP.loadd _ fun _ => WP.storeg _ fun y hy => WP.pure _ ?_
  exact h.step2 (by omega) hk hk12 (off28_eq i k) (off20_eq i k) (off21_eq i k) (off22_eq i k) (off29_eq i k) rfl h1 h2 h3 h4 h5 h6 hx hy

/-- The product's first half chunk. -/
def fW0 (v994 : Vec Ideal S192x128 .fp8e4m3) (v997 : Vec Ideal S1x256x128 .fp8e4m3) (v1001 : Vec Ideal S192x128 .f32) : FVec Ideal S192x128 .f32 :=
  mulf (extractStridedSlice S192x128 ![0, 0] (k0_pay11 v994 v997) slices_S192x256_o0_0_S192x128) v1001
/-- The product's second half chunk. -/
def fW1 (v994 : Vec Ideal S192x128 .fp8e4m3) (v997 : Vec Ideal S1x256x128 .fp8e4m3) (v1001 : Vec Ideal S192x128 .f32) : FVec Ideal S192x128 .f32 :=
  mulf (extractStridedSlice S192x128 ![0, 128] (k0_pay11 v994 v997) slices_S192x256_o0_128_S192x128) v1001

section
variable {I} {t k : ℕ} (hf : FinF I t)

/-- The four query groups' and the rest's stores of one half chunk. -/
structure Half (o : ℕ) (a0 a1 : Vec Ideal S4x3072x128 .bf16) (b0 b1 : Vec Ideal S3072x128 .bf16) : Prop where
  fta : ∀ R, Holds3 (ftG I t) R a0 → Holds3 (ftG I t) (fun n r q => (256 * k + o ≤ r ∧ r < 256 * k + o + 128) ∨ R n r q) a1
  ftb : ∀ R, Holds2 (fun _ _ => 0) R b0 → Holds2 (fun _ _ => 0) (fun r q => (256 * k + o ≤ r ∧ r < 256 * k + o + 128) ∨ R r q) b1

include hf in
theorem half_ok {o : ℕ} (ho : o = 0 ∨ o = 128) (hk : k < 12) {x : FVec Ideal S192x128 .f32} (hx : ∀ a b, a < 192 → b < 128 → rd2 x a b = fG I t a (256 * k + o + b))
    {a0 a1 a2 a3 a4 : Vec Ideal S4x3072x128 .bf16} {b0 b1 : Vec Ideal S3072x128 .bf16} {o0 o1 o2 o3 o4}
    (e0 : o0 = ![0, 256 * k + o, 0]) (e1 : o1 = ![1, 256 * k + o, 0]) (e2 : o2 = ![2, 256 * k + o, 0]) (e3 : o3 = ![3, 256 * k + o, 0]) (e4 : o4 = ![256 * k + o, 0])
    (g0 : a1 = VecWindow.put a0 o0 ![1, 128, 128] (ftW 0 slices_S192x128_o0_0_S48x128 slices_S192x128_o0_0_S32x128 x)) (g1 : a2 = VecWindow.put a1 o1 ![1, 128, 128] (ftW 48 slices_S192x128_o48_0_S48x128 slices_S192x128_o48_0_S32x128 x))
    (g2 : a3 = VecWindow.put a2 o2 ![1, 128, 128] (ftW 96 slices_S192x128_o96_0_S48x128 slices_S192x128_o96_0_S32x128 x)) (g3 : a4 = VecWindow.put a3 o3 ![1, 128, 128] (ftW 144 slices_S192x128_o144_0_S48x128 slices_S192x128_o144_0_S32x128 x))
    (g4 : b1 = VecWindow.put b0 o4 ![128, 128] (ftR x)) : Half (I := I) (t := t) (k := k) o a0 a4 b0 b1 := by
  refine ⟨fun R h => ?_, fun R h => ?_⟩
  · subst g0 g1 g2 g3
    refine ((((h.put 0 _ 0 e0 (ftW_ok hf rfl rfl (by omega) ho hk hx)).put 1 _ 0 e1 (ftW_ok hf rfl rfl (by omega) ho hk hx)).put 2 _ 0 e2
      (ftW_ok hf rfl rfl (by omega) ho hk hx)).put 3 _ 0 e3 (ftW_ok hf rfl rfl (by omega) ho hk hx)).mono ?_
    intro n r q hr hn hr' hq
    by_cases hR : R n r q
    · simp only [hR, or_true]
    · simp only [hR, or_false] at hr ⊢
      omega
  · subst g4
    refine (h.put _ 0 e4 (fun a b ha hb => ftR_ok hf ho hk hx a b ha hb)).mono ?_
    intro r q hr _ hq
    by_cases hR : R r q
    · simp only [hR, or_true]
    · simp only [hR, or_false] at hr ⊢
      omega

theorem ft_ok {x0 x1 x2 : Vec Ideal S4x3072x128 .bf16} {y0 y1 y2 : Vec Ideal S3072x128 .bf16} {σ : Sc Ideal}
    (h0 : Half (I := I) (t := t) (k := k) 0 x0 x1 y0 y1) (h1 : Half (I := I) (t := t) (k := k) 128 x1 x2 y1 y2) : FtOk I t k { σ with fta := x2, ftb := y2 } :=
  ⟨(h1.fta _ (h0.fta _ Holds3.none)).mono fun _ _ _ h _ _ _ => by omega, (h1.ftb _ (h0.ftb _ Holds2.none)).mono fun _ _ h _ _ => by omega⟩

theorem fW_ok {σ : Sc Ideal} (h : Hd I t σ) {o1 o2 p1 p2 p3} (e1 : o1 = ![192 * t, 0]) (e2 : o2 = ![k, 0, 0]) {v994 v997 v1001}
    (h1 : v994 = VecWindow.window I.x3 o1 ![192, 128] p1) (h2 : v997 = VecWindow.window I.x7 o2 ![1, 256, 128] p2)
    (h3 : v1001 = VecWindow.window σ.csb ![0, 0] ![192, 128] p3) :
    (∀ a b, a < 192 → b < 128 → rd2 (fW0 v994 v997 v1001) a b = fG I t a (256 * k + 0 + b))
      ∧ (∀ a b, a < 192 → b < 128 → rd2 (fW1 v994 v997 v1001) a b = fG I t a (256 * k + 128 + b)) := by
  have q1 : ∀ a b, a < 192 → b < 128 → rd2 v994 a b = rd2 I.x3 (192 * t + a) b := fun a b ha hb => by
    subst h1 e1; exact rd2_window _ ha hb rfl (Nat.zero_add b)
  have q2 : ∀ a b, a < 256 → b < 128 → rd3 v997 0 a b = rd3 I.x7 k a b := fun a b ha hb => by
    subst h2 e2; exact rd3_window _ (by omega) ha hb rfl (Nat.zero_add a) (Nat.zero_add b)
  have q3 : ∀ a b, a < 192 → b < 128 → rd2 v1001 a b = csG I a b := fun a b ha hb => by
    subst h3; exact (rd2_window _ ha hb (Nat.zero_add a) (Nat.zero_add b)).trans (h.cs _ _ trivial ha hb)
  exact ⟨fun a b ha hb => f_at (by omega) q1 q2 q3 ha hb, fun a b ha hb => f_at (by omega) q1 q2 q3 ha hb⟩
end

theorem t2_body_spec (hf : FinF I (i 0).val) (v34 v201 c128 v202 v207 v209 v210) (k : Fin (k0_t2_loop i).trips) (acc) (σ : Sc Ideal) (h : InvS I (i 0).val k.val σ) :
    WP (fam A c I) (A.app (k0_t2_body (F := Ideal) i) v34 v201 c128 v202 v207 v209 v210 k acc) (fun _ σ' => InvS I (i 0).val (k.val + 1) σ') σ := by
  have hk : k.val < (i 0).val / 4 := by rw [← t2_trips i]; exact k.2
  have hk12 : k.val < 12 := by have : (i 0).val < 48 := (i 0).2; omega
  unfold k0_t2_body
  dsimp only [Args.app]
  rw [k0_part4_eq_skeleton, k0_part5_eq_skeleton, k0_part6_eq_skeleton]
  unfold k0_part4_skel k0_part5_skel k0_part6_skel
  with_reducible refine WP.assoc _ (WP.loadg _ fun v994 h994 => ?_)
  with_reducible refine WP.assoc _ (WP.loadg _ fun v997 h997 => ?_)
  with_reducible refine WP.assoc _ (WP.loadg _ fun v1001 h1001 => ?_)
  with_reducible refine WP.assoc _ (WP.loadd _ fun _ => ?_)
  with_reducible refine WP.assoc _ (WP.storeg _ fun x1 g1 => ?_)
  with_reducible refine WP.assoc _ (WP.loadd _ fun _ => ?_)
  with_reducible refine WP.assoc _ (WP.storeg _ fun x2 g2 => ?_)
  with_reducible refine WP.pureBind _ ?_
  dsimp only
  with_reducible refine WP.assoc _ (WP.loadd _ fun _ => ?_)
  with_reducible refine WP.assoc _ (WP.storeg _ fun x3 g3 => ?_)
  with_reducible refine WP.assoc _ (WP.loadd _ fun _ => ?_)
  with_reducible refine WP.assoc _ (WP.storeg _ fun x4 g4 => ?_)
  with_reducible refine WP.assoc _ (WP.loadd _ fun _ => ?_)
  with_reducible refine WP.assoc _ (WP.storeg _ fun y1 g5 => ?_)
  with_reducible refine WP.assoc _ (WP.loadg _ fun v1067 h1067 => ?_)
  with_reducible refine WP.pureBind _ ?_
  dsimp only
  with_reducible refine WP.assoc _ (WP.loadd _ fun _ => ?_)
  with_reducible refine WP.assoc _ (WP.storeg _ fun x5 g6 => ?_)
  with_reducible refine WP.assoc _ (WP.loadd _ fun _ => ?_)
  with_reducible refine WP.assoc _ (WP.storeg _ fun x6 g7 => ?_)
  with_reducible refine WP.assoc _ (WP.loadd _ fun _ => ?_)
  with_reducible refine WP.assoc _ (WP.storeg _ fun x7 g8 => ?_)
  with_reducible refine WP.assoc _ (WP.loadd _ fun _ => ?_)
  with_reducible refine WP.assoc _ (WP.storeg _ fun x8 g9 => ?_)
  with_reducible refine WP.assoc _ (WP.loadd _ fun _ => ?_)
  with_reducible refine WP.assoc _ (WP.storeg _ fun y2 g10 => ?_)
  with_reducible refine WP.pureBind _ ?_
  have e0 := fW_ok h.hd (off12_eq i) (off13_eq i k) h994 h997 h1001
  have e1 := fW_ok h.hd (off12_eq i) (off13_eq i k) h994 h997 h1067
  have f0 := half_ok hf (Or.inl rfl) hk12 e0.1 (off14_0 i k) (off15_0 i k) (off16_0 i k) (off17_0 i k) (off18_0 i k) g1 g2 g3 g4 g5
  have f1 := half_ok (k := k.val) (o := 128) hf (Or.inr rfl) hk12 e1.2 (off14_128 i k) (off15_128 i k) (off16_128 i k) (off17_128 i k) (off18_128 i k) (g6 : x5 = VecWindow.put x4 _ _ _) (g7 : x6 = VecWindow.put x5 _ _ _) (g8 : x7 = VecWindow.put x6 _ _ _) (g9 : x8 = VecWindow.put x7 _ _ _) (g10 : y2 = VecWindow.put y1 _ _ _)
  have hM := InvM.ofS (Q := MaxQ I (i 0).val (k.val + 1)) h (ft_ok (σ := σ) f0 f1)
  refine WP.bind _ (part7_spec A c I i k _ _ hM) fun _ _ h => ?_
  refine WP.bind _ (part8_spec A c I i k _ _ h) fun _ _ h => ?_
  refine WP.bind _ (part9_spec A c I i k _ _ h) fun _ _ h => ?_
  refine WP.bind _ (part10_spec A c I i k _ _ h) fun _ _ h => ?_
  exact WP.pure _ h.toS

end Cert.Proof.KernelIdeal

end
-- ==== Proof.StageB.lean ====
/-
  The chunk on the diagonal: its scores are masked, and the maxima are completed over the partial rows.
-/
module

public import proofs.«01_k».proof.Proof.StageA

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

/-- The completed maxima. -/
def MQ (t : ℕ) (m _b col : ℕ) (y : EReal) : Prop := y = mG I t m col

/-- The masked scores. -/
def smW (s m : FVec Ideal S128x256 .f32) : FVec Ideal S128x256 .f32 := addf s m
theorem smW_read {s m : FVec Ideal S128x256 .f32} {b c : ℕ} (hb : b < 128) (hc : c < 256) : rd2 (smW s m) b c = rd2 s b c + rd2 m b c := by
  rw [rd2_eq hb hc]; pointwise [smW]; simp only [fin2]

/-- The completed maximum is the least upper bound of all scores. -/
theorem mG_eq {t n col : ℕ} {y : EReal} {z : ℕ → EReal} (hz : ∀ b, b < 8 → MaxQ I t (t / 4 + 1) n b col (z b)) (hy : ∀ x, y ≤ x ↔ ∀ a, a < 8 → z a ≤ x) :
    y = mG I t n col := by
  refine eq_of_forall_ge_iff fun x => ?_
  rw [hy x, mG, Finset.sup_le_iff]
  constructor
  · intro h u hu
    rw [Finset.mem_range, nch] at hu
    have := (hz (u % 8) (by omega) x).1 (h _ (by omega)) (u / 8) (by omega)
    rwa [show 8 * (u / 8) + u % 8 = u by omega] at this
  · intro h a ha
    refine (hz a ha x).2 fun j hj => h _ ?_
    rw [Finset.mem_range, nch]; omega

section
variable {I} {t n : ℕ} {σ : Sc Ideal}

/-- One query group on the diagonal. -/
theorem InvM.stepM (h : InvM I (MQ I t) t (t / 4) n σ) (hn : n < 4) (ht : t < 48) {v1136 v1139 v1141 v1146 v1151 v1159 v395 v409 x y z}
    {o1 o2 o3 o4 o5 o6 o7 p1 p2 p3 p4 p5 p6 p7 p8}
    (e1 : o1 = ![n, 256 * (t / 4), 0]) (e2 : o2 = ![256 * (t / 4), 0]) (e4 : o4 = ![0, 128 * (t / 4), 0]) (e5 : o5 = ![1, 128 * (t / 4), 0]) (e6 : o6 = ![n, 128 * (t / 4), 0])
    (e7 : o7 = ![160 + 128 * (t / 4) - (32 * t + 8 * n), 0]) (e3 : o3 = ![n, 0, 0])
    (h1 : v1136 = VecWindow.window σ.fta o1 ![1, 256, 128] p1) (h2 : v1139 = VecWindow.window σ.ftb o2 ![256, 128] p2)
    (h3 : v1141 = VecWindow.window σ.bd o3 ![1, 256, 256] p3) (h4 : v1146 = VecWindow.window σ.akt o4 ![1, 128, 256] p4)
    (h5 : v1151 = VecWindow.window σ.akt o5 ![1, 128, 256] p5) (h7 : v395 = VecWindow.window σ.mask o7 ![128, 256] p7)
    (hx : x = VecWindow.put σ.sb o6 ![1, 128, 256] (sbW (smW (scW v1136 v1139 v1141 v1146 v1151) v395)))
    (h6 : v1159 = VecWindow.window σ.mb o3 ![1, 8, 256] p6)
    (hy : y = VecWindow.put σ.mb o3 ![1, 8, 256] (mbW (mxW (smW (scW v1136 v1139 v1141 v1146 v1151) v395) v1159)))
    (h8 : v409 = VecWindow.window y o3 ![1, 8, 256] p8) (hz : z = VecWindow.put y o3 ![1, 8, 256] (k0_pay197 (F := Ideal) v409)) :
    InvM I (MQ I t) t (t / 4) (n + 1) { σ with sb := x, mb := z } := by
  have hk12 : t / 4 < 12 := by omega
  have hs : ∀ b c, b < 128 → c < 256 → rd2 (smW (scW v1136 v1139 v1141 v1146 v1151) v395) b c = smG I t n (128 * (t / 4) + b) c := by
    intro b c hb hc
    subst h1 h2 h3 h4 h5 h7 e7
    rw [smW_read hb hc, h.sc hn hk12 e1 e2 e3 e4 e5 hb hc,
      (rd2_window _ hb hc rfl (Nat.zero_add c) : rd2 (A := 128) (B := 256) (VecWindow.window σ.mask _ ![128, 256] p7) b c = _)]
    unfold smG
    refine congrArg₂ (· + ·) rfl ((h.hd.tab.mask _ _ trivial (by simp; omega) hc).trans ?_)
    unfold maskG
    refine if_congr ?_ rfl rfl
    simp
    omega
  subst e3
  have hy' : ∀ b col, b < 8 → col < 256 → MaxQ I t (t / 4 + 1) n b col (rd3 y n b col) := by
    intro b col hb hc
    refine (h.mb n b col (le_refl n) hn hb hc).step I fun z => ?_
    rw [hy, rd3_put_in 0 b col (by omega) hb hc hn hb hc (Nat.add_zero n) (Nat.zero_add b) (Nat.zero_add col)]
    have := mxW_le (s := smW (scW v1136 v1139 v1141 v1146 v1151) v395) (v := v1159) hb hc z
    rw [show rd3 v1159 0 b col = rd3 σ.mb n b col by rw [h6]; exact rd3_window _ (by omega) hb hc rfl (Nat.zero_add b) (Nat.zero_add col)] at this
    rw [mbW_read hb hc]
    rw [this]
    refine and_congr Iff.rfl (forall_congr' fun a => forall_congr' fun ha => ?_)
    rw [hs _ _ (by omega) hc]
  refine h.step hn hk12 hx e6 (fun b c hb hc => ?_) (fun m b col h1 h2 h3 h4 => ?_) (fun b col hb hc => ?_)
  · rw [sbW_read hb hc, hs b c hb hc]
  · rw [hz, rd3_put_out (by simp; omega), hy, rd3_put_out (by simp; omega)]
  · refine mG_eq I (z := fun b => rd3 y n b col) (fun b hb => hy' b col hb hc) fun w => ?_
    rw [hz, rd3_put_in 0 b col (by omega) hb hc hn hb hc (Nat.add_zero n) (Nat.zero_add b) (Nat.zero_add col), mxAll_le hb hc]
    refine forall_congr' fun a => forall_congr' fun ha => ?_
    rw [h8, (rd3_window _ (by omega) ha hc rfl (Nat.zero_add a) (Nat.zero_add col) : rd3 (A := 1) (B := 8) (C := 256) (VecWindow.window y _ ![1, 8, 256] p8) 0 a col = _)]
    rfl
end

/-- The loops over the chunks below the diagonal, and the reads for the chunk on it. -/
theorem part32_spec (hf : FinF I (i 0).val) (v34 v201 c128 v202 v207 v209 v210) (σ : Sc Ideal) (h : InvS I (i 0).val 0 σ) :
    WP (fam A c I) (A.app (k0_part32 (F := Ideal) i) v34 v201 c128 v202 v207 v209 v210)
      (fun r σ' => InvS I (i 0).val ((i 0).val / 4) σ' ∧ ∃ a b v227 v230 v234,
        v227 = VecWindow.window I.x3 (k0_off48 i) ![192, 128] (k0_off48_inb i) ∧ v230 = VecWindow.window I.x7 (k0_off49 i) ![1, 256, 128] (k0_off49_inb i)
          ∧ v234 = VecWindow.window σ'.csb ![0, 0] ![192, 128] inb_S192x128_S192x128_0_0
          ∧ r = ⟨a, k0_pay161 v227 v230, k0_pay166 v227 v230 v234, k0_pay167 v227 v230 v234, k0_pay168 v227 v230 v234, b, k0_pay169 v227 v230 v234⟩) σ := by
  rw [k0_part32_eq_skeleton]; unfold k0_part32_skel
  refine WP.loop _ (fun n _ σ' => InvS I (i 0).val n σ') h (fun k acc σ' h' => t2_body_spec A c I i hf _ _ _ _ _ _ _ k acc σ' h') fun _ σ' h' => ?_
  refine WP.loop _ (fun _ _ σ' => InvS I (i 0).val ((i 0).val / 4) σ') (by rw [← t2_trips i]; exact h')
    (fun k => absurd (lt_of_lt_of_eq k.2 (t3_trips i)) (Nat.not_lt_zero _)) fun _ σ' h' => ?_
  with_reducible refine WP.loadg _ fun v227 h227 => ?_
  with_reducible refine WP.loadg _ fun v230 h230 => ?_
  with_reducible refine WP.loadg _ fun v234 h234 => ?_
  exact WP.pure _ ⟨h', _, _, v227, v230, v234, h227, h230, h234, rfl⟩

end Cert.Proof.KernelIdeal

end
-- ==== Proof.PayC.lean ====
/-
  The payloads of the first grid point's tables and of a block's preparation, read at an index.
-/
module
public import proofs.«01_k».proof.Proof.Spec
@[expose] public section
set_option maxRecDepth 16384
noncomputable section
namespace Cert.Proof.KernelIdeal
open Cert.KernelIdeal Cert.KernelIdeal.Gen Cert.Proof.Rd
open Idealize.ShloMosaic

/-- A one-bit comparison of small numbers. -/
theorem cmp_eq {a b : ℕ} (ha : a < 256) (hb : b < 256) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases e : a = b
  · simp [IntOp.cmpi, e]
  · rw [if_neg e]
    show BitVec.ofBool (BitVec.ofNat 32 a == BitVec.ofNat 32 b) = 0#1
    rw [beq_eq_false_iff_ne.mpr (mt h.mp e)]
    rfl

/-- The remainder of a small number by 8, and its quotient, as the words compute them. -/
def rem8 (w : BitVec 32) : BitVec 32 :=
  Scalar.select (IntOp.andi (IntOp.xori (IntOp.cmpi .slt (IntOp.remsi .vector w (Scalar.select (Scalar.cmpi .eq 8#32 0#32) 1#32 8#32)) 0#32)
      (Scalar.cmpi .slt (Scalar.select (Scalar.cmpi .eq 8#32 0#32) 1#32 8#32) 0#32))
    (IntOp.cmpi .ne (IntOp.remsi .vector w (Scalar.select (Scalar.cmpi .eq 8#32 0#32) 1#32 8#32)) 0#32))
    (IntOp.addi (IntOp.remsi .vector w (Scalar.select (Scalar.cmpi .eq 8#32 0#32) 1#32 8#32)) (Scalar.select (Scalar.cmpi .eq 8#32 0#32) 1#32 8#32))
    (IntOp.remsi .vector w (Scalar.select (Scalar.cmpi .eq 8#32 0#32) 1#32 8#32))
def quo8 (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 8#32 0#32)) (Scalar.extui (Scalar.cmpi .slt 8#32 0#32))))
    (IntOp.cmpi .ne (IntOp.remsi .vector w 8#32) 0#32)) (IntOp.subi (IntOp.divsi .vector w 8#32) 1#32) (IntOp.divsi .vector w 8#32)
theorem rem8_eq : ∀ c : Fin 256, rem8 (BitVec.ofNat 32 c) = BitVec.ofNat 32 (c.val % 8) := by decide +kernel
theorem quo8_eq : ∀ c : Fin 256, quo8 (BitVec.ofNat 32 c) = BitVec.ofNat 32 (c.val / 8) := by decide +kernel

/-- The matrix that repeats each column eight times. -/
theorem e_read {h col : ℕ} (hh : h < 32) (hc : col < 256) : rd2 (k0_pay125 (F := Ideal)) h col = if col / 8 = h then 1 else 0 := by
  rw [rd2_eq hh hc]
  pointwise [k0_pay125]
  refine (congrArg (fun w => FloatOps.sitofp FTy.f32 (BitVec.setWidth 32 (IntOp.cmpi .eq w (BitVec.ofNat 32 h)))) (quo8_eq ⟨col, hc⟩)).trans ?_
  beta_reduce
  rw [cmp_eq (a := col / 8) (by omega) (by omega)]
  show (((BitVec.setWidth 32 (if col / 8 = h then 1#1 else 0#1)).toInt : ℝ) : EReal) = _
  split_ifs <;> simp

/-- A sum against it keeps one term. -/
theorem e_sum (f : ℕ → EReal) {col : ℕ} (hc : col < 256) : ∑ h : Fin 32, f h * rd2 (k0_pay125 (F := Ideal)) h col = f (col / 8) := by
  rw [Finset.sum_eq_single (⟨col / 8, by omega⟩ : Fin 32)]
  · rw [e_read (h := col / 8) (by omega) hc, if_pos rfl, mul_one]
  · intro b _ hb
    rw [e_read b.2 hc, if_neg (fun e => hb (Fin.ext e.symm)), mul_zero]
  · intro h; exact absurd (Finset.mem_univ _) h

theorem mask_bit : ∀ (h : Fin 288) (c : Fin 8), IntOp.cmpi .sgt (IntOp.subi (BitVec.ofNat 32 h) 160#32) (BitVec.ofNat 32 c) = if 160 + c.val < h.val then 1#1 else 0#1 := by
  decide +kernel

theorem m_read {h col : ℕ} (hh : h < 288) (hc : col < 256) : rd2 (k0_pay126 (F := Ideal)) h col = maskG h col := by
  rw [rd2_eq hh hc]
  pointwise [k0_pay126]
  refine (congrArg (fun w => Scalar.select (IntOp.cmpi .sgt (IntOp.subi (BitVec.ofNat 32 h) 160#32) w) (Ideal.ofBits FTy.f32 4286578688#32) 0) (rem8_eq ⟨col, hc⟩)).trans ?_
  beta_reduce
  rw [mask_bit ⟨h, hh⟩ ⟨col % 8, by omega⟩, maskG, show Ideal.ofBits FTy.f32 4286578688#32 = ⊥ from by simp [Ideal.ofBits, Ideal.ieee]]
  dsimp only
  split_ifs <;> rfl

/-- The column's remainder by 8. -/
def remV : IVec S192x256 32 := k0_pay128 (iota .tc S192x256 32 [1] iota_S192x256_d1_w32) 8#32 (Scalar.cmpi .eq 8#32 0#32) 1#32
theorem w128 (i : Fin 192) (j : Fin 256) : remV (ix2 i j) = BitVec.ofNat 32 (j.val % 8) := by
  pointwise [remV, k0_pay128]
  exact rem8_eq j
theorem w129 (i : Fin 192) (j : Fin 256) : k0_pay129 (ix2 i j) = BitVec.ofNat 32 (i.val % 48) := by
  pointwise [k0_pay129]
  revert i; decide +kernel
theorem w130 (i : Fin 192) (j : Fin 256) : k0_pay130 (ix2 i j) = IntOp.divsi .vector (BitVec.ofNat 32 (i.val % 48)) 6#32 := by
  rw [← w129 i j]; rfl
theorem w131 (i : Fin 192) (j : Fin 256) : k0_pay131 (ix2 i j) = IntOp.subi (BitVec.setWidth 32 (IntOp.cmpi .sgt (BitVec.ofNat 32 (i.val % 48)) 0#32)) (BitVec.setWidth 32 (IntOp.cmpi .slt (BitVec.ofNat 32 (i.val % 48)) 0#32)) := by
  rw [← w129 i j]; rfl
theorem quo6_eq : ∀ q : Fin 48, Scalar.select (IntOp.andi (IntOp.cmpi .ne (IntOp.subi (BitVec.setWidth 32 (IntOp.cmpi .sgt (BitVec.ofNat 32 q) 0#32))
      (BitVec.setWidth 32 (IntOp.cmpi .slt (BitVec.ofNat 32 q) 0#32))) 1#32) (IntOp.cmpi .ne (IntOp.remsi .vector (BitVec.ofNat 32 q) 6#32) 0#32))
    (IntOp.subi (IntOp.divsi .vector (BitVec.ofNat 32 q) 6#32) 1#32) (IntOp.divsi .vector (BitVec.ofNat 32 q) 6#32) = BitVec.ofNat 32 (q.val / 6) := by decide +kernel

/-- The queries' first factor, kept on the block diagonal. -/
def bdV (v39 : FVec Ideal S192x256 .f32) : FVec Ideal S192x256 .bf16 :=
  k0_pay132 v39 remV k0_pay129 6#32 k0_pay130 k0_pay131 1#32

theorem bd_read {v39 : FVec Ideal S192x256 .f32} {h col : ℕ} (hh : h < 192) (hc : col < 256) :
    rd2 (bdV v39) h col = if col % 8 = (h % 48) / 6 then rd2 v39 h col else 0 := by
  rw [rd2_eq hh hc]
  pointwise [bdV, k0_pay132]
  simp only [fin2, w128, w129, w130, w131]
  rw [quo6_eq ⟨h % 48, by omega⟩, cmp_eq (by omega) (by dsimp only; omega)]
  dsimp only
  split_ifs <;> rfl

theorem cs_read {v178 : Vec Ideal S1x1x192 .f32} {v180 : Vec Ideal S1x1x192 .f32} {q j} (hq : q < 192) (hj : j < 128) :
   rd2 (k0_pay157 v178 v180) q j = rd3 v178 0 0 q * rd3 v180 0 0 q := by
  rw [rd2_eq hq hj]
  pointwise [k0_pay157]
  simp only [fin3]
  rfl
theorem p3_read {v29 : FVec Ideal S32x256 .bf16} {v1023 : Vec Ideal S1x1x1x128 .f32} {v1026 : Vec Ideal S1x1x1x128 .f32} {v1036 : Vec Ideal S1x128x32 .fp8e4m3} {b c} (hb : b < 128) (hc : c < 256) :
   rd3 (k0_pay3 v29 v1023 v1026 v1036) 0 b c = (∑ h : Fin 32, rd3 v1036 0 b h * rd2 v29 h c) * (rd4 v1023 0 0 0 b * rd4 v1026 0 0 0 b * SCALE) := by
  rw [rd3_eq (by omega) hb hc]
  pointwise [k0_pay3]
  simp only [fin2, fin3, fin4]
  rfl
theorem p5_read {v29 : FVec Ideal S32x256 .bf16} {v1023 : Vec Ideal S1x1x1x128 .f32} {v1026 : Vec Ideal S1x1x1x128 .f32} {v1036 : Vec Ideal S1x128x32 .fp8e4m3} {b c} (hb : b < 128) (hc : c < 256) :
   rd3 (k0_pay5 v29 (k0_pay4 v1023 v1026) v1036) 0 b c = (∑ h : Fin 32, rd3 v1036 0 b h * rd2 v29 h c) * (rd4 v1023 0 0 0 b * rd4 v1026 0 0 0 b * SCALE) := by
  rw [rd3_eq (by omega) hb hc]
  pointwise [k0_pay5, k0_pay4]
  simp only [fin2, fin3, fin4]
  rfl
theorem p6_read {v29 : FVec Ideal S32x256 .bf16} {v1023 : Vec Ideal S1x1x1x128 .f32} {v1026 : Vec Ideal S1x1x1x128 .f32} {v1036 : Vec Ideal S1x128x32 .fp8e4m3} {b c} (hb : b < 128) (hc : c < 256) :
   rd3 (k0_pay6 v29 v1023 v1026 v1036) 0 b c = (∑ h : Fin 32, rd3 v1036 0 b h * rd2 v29 h c) * (rd4 v1023 0 0 0 b * rd4 v1026 0 0 0 b * HALF) := by
  rw [rd3_eq (by omega) hb hc]
  pointwise [k0_pay6]
  simp only [fin2, fin3, fin4]
  rfl
theorem p8_read {v : Vec Ideal S1x128x128 .fp8e4m3} {b c} (hb : b < 128) (hc : c < 128) :
   rd3 (k0_pay8 (k0_pay7 v)) 0 b c = rd3 v 0 c b := by
  rw [rd3_eq (by omega) hb hc]
  pointwise [k0_pay8, k0_pay7]
  simp only [fin3]
  rfl
theorem p127_read {v : Vec Ideal S192x32 .fp8e4m3} {q c} (hb : q < 192) (hc : c < 256) :
   rd2 (k0_pay127 v) q c = ∑ h : Fin 32, rd2 v q h * rd2 (k0_pay125 (F := Ideal)) h c := by
  rw [rd2_eq hb hc]
  pointwise [k0_pay127]
  simp only [fin2]
end Cert.Proof.KernelIdeal
end
end
-- ==== Proof.StageC.lean ====
/-
  The preparation: the tables of the first grid point, and at every grid point the query factor on its block diagonal, the
  query scales and the running softmax at its start.
-/
module

public import proofs.«01_k».proof.Proof.StageA
public import proofs.«01_k».proof.Proof.PayC

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

section
variable {I}

/-- The rows of a chunk's scaled factor over the expanded columns. -/
theorem tab_piece {x5 : Vec Ideal S2x1536x32 .fp8e4m3} {x6 x8 : Vec Ideal S2x12x1x128 .f32} {C : EReal} {r k : ℕ} (hr : r < 2) (hk : k < 12)
    {o1 o2 p1 p2 p3} (e1 : o1 = ![r, k, 0, 0]) (e2 : o2 = ![r, 128 * k, 0]) {v1023 v1026 v1036}
    (h1 : v1023 = VecWindow.window x6 o1 ![1, 1, 1, 128] p1) (h2 : v1026 = VecWindow.window x8 o1 ![1, 1, 1, 128] p2)
    (h3 : v1036 = VecWindow.window x5 o2 ![1, 128, 32] p3) {w : FVec Ideal S1x128x256 .f32}
    (hw : ∀ b col, b < 128 → col < 256 → rd3 w 0 b col
      = (∑ h : Fin 32, rd3 (A := 1) (B := 128) (C := 32) v1036 0 b h * rd2 (k0_pay125 (F := Ideal)) h col)
        * (rd4 (A := 1) (B := 1) (C := 1) (D := 128) v1023 0 0 0 b * rd4 (A := 1) (B := 1) (C := 1) (D := 128) v1026 0 0 0 b * C)) :
    ∀ a b col, a < 1 → b < 128 → col < 256 → rd3 w a b col
      = rd3 x5 (r + a) (128 * k + b) ((0 + col) / 8)
        * (rd4 x6 (r + a) ((128 * k + b) / 128) 0 ((128 * k + b) % 128) * rd4 x8 (r + a) ((128 * k + b) / 128) 0 ((128 * k + b) % 128) * C) := by
  intro a b col ha hb hc
  obtain rfl : a = 0 := by omega
  rw [hw b col hb hc, e_sum (fun h => rd3 (A := 1) (B := 128) (C := 32) v1036 0 b h) hc]
  subst h1 h2 h3 e1 e2
  rw [rd4_window x6 (a := r) (b := k) (c := 0) (d := b) (by omega) (by omega) (by omega) hb rfl rfl rfl (Nat.zero_add b),
    rd4_window x8 (a := r) (b := k) (c := 0) (d := b) (by omega) (by omega) (by omega) hb rfl rfl rfl (Nat.zero_add b),
    rd3_window x5 (a := r) (b := 128 * k + b) (c := col / 8) (by omega) hb (by omega) rfl rfl (Nat.zero_add _),
    show (128 * k + b) / 128 = k by omega, show (128 * k + b) % 128 = b by omega, Nat.add_zero, Nat.zero_add]

/-- The transposed rows of a chunk's second value factor. -/
theorem bv_piece {r k : ℕ} (hr : r < 2) (hk : k < 12) {o p} (e : o = ![r, 128 * k, 0]) {v} (h : v = VecWindow.window I.x11 o ![1, 128, 128] p)
    {w : FVec Ideal S1x128x128 .bf16} (hw : ∀ b j, b < 128 → j < 128 → rd3 w 0 b j = rd3 (A := 1) (B := 128) (C := 128) v 0 j b) :
    ∀ a b j, a < 1 → b < 128 → j < 128 → rd3 w a b j = bvG I (k + a) (0 + b) (128 * r + j) := by
  intro a b j ha hb hj
  obtain rfl : a = 0 := by omega
  rw [hw b j hb hj]
  subst h e
  rw [rd3_window I.x11 (a := r) (b := 128 * k + j) (c := b) (by omega) hj hb rfl rfl (Nat.zero_add b), bvG, show (128 * r + j) / 128 = r by omega,
    show (128 * r + j) % 128 = j by omega, Nat.add_zero, Nat.zero_add]

theorem tab_put {G : ℕ → ℕ → ℕ → EReal} {k : ℕ} {x0 x1 x2 : Vec Ideal S2x1536x256 .f32} (h : Holds3 G (fun _ u _ => u < 128 * k) x0) {o1 o2}
    (e1 : o1 = ![0, 128 * k, 0]) (e2 : o2 = ![1, 128 * k, 0]) {w1 w2 : FVec Ideal S1x128x256 .f32} (g1 : x1 = VecWindow.put x0 o1 ![1, 128, 256] w1)
    (g2 : x2 = VecWindow.put x1 o2 ![1, 128, 256] w2)
    (a1 : ∀ a b col, a < 1 → b < 128 → col < 256 → rd3 w1 a b col = G (0 + a) (128 * k + b) (0 + col))
    (a2 : ∀ a b col, a < 1 → b < 128 → col < 256 → rd3 w2 a b col = G (1 + a) (128 * k + b) (0 + col)) :
    Holds3 G (fun _ u _ => u < 128 * (k + 1)) x2 := by
  subst g1 g2
  exact ((h.put 0 _ 0 e1 a1).put 1 _ 0 e2 a2).mono fun a b d h ha hb hd => by omega

theorem bv_put {k : ℕ} {x0 x1 x2 : Vec Ideal S12x128x256 .bf16} (h : Holds3 (bvG I) (fun n _ _ => n < k) x0) {o1 o2}
    (e1 : o1 = ![k, 0, 0]) (e2 : o2 = ![k, 0, 128]) {w1 w2 : FVec Ideal S1x128x128 .bf16} (g1 : x1 = VecWindow.put x0 o1 ![1, 128, 128] w1)
    (g2 : x2 = VecWindow.put x1 o2 ![1, 128, 128] w2)
    (a1 : ∀ a b j, a < 1 → b < 128 → j < 128 → rd3 w1 a b j = bvG I (k + a) (0 + b) (0 + j))
    (a2 : ∀ a b j, a < 1 → b < 128 → j < 128 → rd3 w2 a b j = bvG I (k + a) (0 + b) (128 + j)) :
    Holds3 (bvG I) (fun n _ _ => n < k + 1) x2 := by
  subst g1 g2
  exact ((h.put k 0 0 e1 a1).put k 0 128 e2 a2).mono fun a b d h ha hb hd => by omega
end

/-- The tables, filled up to key chunk `k`. -/
structure InvT (k : ℕ) (σ : Sc Ideal) : Prop where
  ak : Holds3 (akG I) (fun _ u _ => u < 128 * k) σ.akt
  av : Holds3 (avG I) (fun _ u _ => u < 128 * k) σ.avt
  bv : Holds3 (bvG I) (fun n _ _ => n < k) σ.bvt
  mask : Holds2 maskG (fun _ _ => True) σ.mask

theorem t1_body_spec (h1 : k0_cond1 i = 1#1) (k : Fin k0_t1_loop.trips) (acc) (σ : Sc Ideal) (h : InvT I k.val σ) :
    WP (fam A c I) (A.app (k0_t1_body (F := Ideal) i) h1 k acc) (fun _ σ' => InvT I (k.val + 1) σ') σ := by
  have hk12 : k.val < 12 := lt_of_lt_of_eq k.2 t1_trips
  unfold k0_t1_body
  dsimp only [Args.app]
  rw [k0_part3_eq_skeleton]
  unfold k0_part3_skel
  rw [k0_part1_eq_skeleton, k0_part2_eq_skeleton]
  unfold k0_part1_skel k0_part2_skel
  with_reducible refine WP.assoc _ (WP.assoc _ (WP.loadg _ fun v1 f1 => ?_))
  with_reducible refine WP.assoc _ (WP.loadg _ fun v2 f2 => ?_)
  with_reducible refine WP.assoc _ (WP.loadg _ fun v3 f3 => ?_)
  with_reducible refine WP.assoc _ (WP.loadd _ fun _ => ?_)
  with_reducible refine WP.assoc _ (WP.storeg _ fun x1 g1 => ?_)
  with_reducible refine WP.assoc _ (WP.loadg _ fun v4 f4 => ?_)
  with_reducible refine WP.assoc _ (WP.loadg _ fun v5 f5 => ?_)
  with_reducible refine WP.pureBind _ ?_
  dsimp only
  with_reducible refine WP.assoc _ (WP.assoc _ (WP.loadg _ fun v6 f6 => ?_))
  with_reducible refine WP.assoc _ (WP.loadd _ fun _ => ?_)
  with_reducible refine WP.assoc _ (WP.storeg _ fun x2 g2 => ?_)
  with_reducible refine WP.assoc _ (WP.loadg _ fun v7 f7 => ?_)
  with_reducible refine WP.assoc _ (WP.loadg _ fun v8 f8 => ?_)
  with_reducible refine WP.assoc _ (WP.loadg _ fun v9 f9 => ?_)
  with_reducible refine WP.assoc _ (WP.loadd _ fun _ => ?_)
  with_reducible refine WP.assoc _ (WP.storeg _ fun x3 g3 => ?_)
  with_reducible refine WP.assoc _ (WP.loadg _ fun v10 f10 => ?_)
  with_reducible refine WP.pureBind _ ?_
  with_reducible refine WP.assoc _ (WP.loadd _ fun _ => ?_)
  with_reducible refine WP.assoc _ (WP.storeg _ fun x4 g4 => ?_)
  with_reducible refine WP.assoc _ (WP.loadg _ fun v11 f11 => ?_)
  with_reducible refine WP.assoc _ (WP.loadg _ fun v12 f12 => ?_)
  with_reducible refine WP.assoc _ (WP.loadg _ fun v13 f13 => ?_)
  with_reducible refine WP.assoc _ (WP.loadd _ fun _ => ?_)
  with_reducible refine WP.assoc _ (WP.storeg _ fun x5 g5 => ?_)
  with_reducible refine WP.assoc _ (WP.loadg _ fun v14 f14 => ?_)
  with_reducible refine WP.assoc _ (WP.loadd _ fun _ => ?_)
  with_reducible refine WP.pureBind _ ?_
  with_reducible refine WP.storeg _ fun x6 g6 => ?_
  refine WP.pure _ (show InvT I (k.val + 1) { σ with akt := x2, avt := x5, bvt := x6 } from ⟨?_, ?_, ?_, h.mask⟩)
  · exact tab_put (G := akG I) h.ak (off3_eq k) (off6_eq k) g1 g2
      (tab_piece (C := SCALE) (by omega) hk12 (off1_eq k) (off2_eq k) f1 f2 f3 (fun b col hb hc => p3_read hb hc))
      (tab_piece (C := SCALE) (by omega) hk12 (off4_eq k) (off5_eq k) f4 f5 f6 (fun b col hb hc => p5_read hb hc))
  · exact tab_put (G := avG I) h.av (off3_eq k) (off6_eq k) g3 g5
      (tab_piece (C := HALF) (by omega) hk12 (off1_eq k) (off2_eq k) f7 f8 f9 (fun b col hb hc => p6_read hb hc))
      (tab_piece (C := HALF) (by omega) hk12 (off4_eq k) (off5_eq k) f11 f12 f13 (fun b col hb hc => p6_read hb hc))
  · exact bv_put h.bv (off8_eq k) (off10_eq k) g4 g6
      (bv_piece (by omega) hk12 (off7_eq k) f10 (fun b j hb hj => p8_read hb hj))
      (bv_piece (by omega) hk12 (off9_eq k) f14 (fun b j hb hj => p8_read hb hj))

/-- The values that the first part hands on. -/
def Out26 (r : Σ' (_ : BitVec 32) (_ : BitVec 32) (_ : FVec Ideal S192x256 .f32) (_ : IVec S192x256 32) (_ : BitVec 32) (_ : BitVec 1), BitVec 32) : Prop :=
  ∃ a b v36, (∀ q h, q < 192 → h < 32 → rd2 v36 q h = rd2 I.x1 (192 * (i 0).val + q) h)
    ∧ r = ⟨a, b, k0_pay127 v36, iota .tc S192x256 32 [1] iota_S192x256_d1_w32, 8#32, Scalar.cmpi .eq 8#32 0#32, 1#32⟩

theorem part26_spec (σ : Sc Ideal) (h : (i 0).val = 0 ∨ Tab I σ) :
    WP (fam A c I) (A.app (k0_part26 (F := Ideal) i)) (fun r σ' => Tab I σ' ∧ Out26 I i r) σ := by
  have hq : ∀ v36, v36 = VecWindow.window I.x1 (k0_off11 i) S192x32.size (k0_off11_inb i) →
      ∀ q h, q < 192 → h < 32 → rd2 (A := 192) (B := 32) v36 q h = rd2 I.x1 (192 * (i 0).val + q) h := fun v36 e q h hq hh => by
    subst e
    exact rd2_window _ hq hh (by rw [off11_eq i]; rfl) (by rw [off11_eq i]; exact Nat.zero_add h)
  rw [k0_part26_eq_skeleton]; unfold k0_part26_skel
  dsimp only [Args.app]
  split
  next h1 =>
    with_reducible refine WP.loadd _ fun _ => ?_
    with_reducible refine WP.storeg _ fun x g => ?_
    refine WP.loop _ (fun n _ σ' => InvT I n σ') ⟨fun _ _ _ h => absurd h (by omega), fun _ _ _ h => absurd h (by omega), fun _ _ _ h => absurd h (by omega), ?_⟩
      (fun k acc σ' h' => t1_body_spec A c I i h1 k acc σ' h') fun _ σ' h' => ?_
    · intro a b _ ha hb
      show rd2 x a b = _
      rw [g, rd2_put_in a b ha hb ha hb (Nat.zero_add a) (Nat.zero_add b), m_read ha hb]
    · with_reducible refine WP.loadg _ fun v36 h36 => ?_
      refine WP.pure _ ⟨?_, _, _, v36, hq v36 h36, rfl⟩
      rw [t1_trips] at h'
      exact ⟨h'.ak.mono fun _ _ _ _ _ _ _ => by omega, h'.av.mono fun _ _ _ _ _ _ _ => by omega, h'.bv.mono fun _ _ _ _ _ _ _ => by omega, h'.mask⟩
  next h1 =>
    with_reducible refine WP.loadg _ fun v36 h36 => ?_
    exact WP.pure _ ⟨h.resolve_left fun e => h1 ((cond1_iff i).mpr e), _, _, v36, hq v36 h36, rfl⟩

theorem part27_spec {Q : Sc Ideal → Prop} (σ : Sc Ideal) (h : Q σ) :
    WP (fam A c I) (A.app (k0_part27 (F := Ideal) i) (iota .tc S192x256 32 [1] iota_S192x256_d1_w32) 8#32 (Scalar.cmpi .eq 8#32 0#32) 1#32)
      (fun r σ' => Q σ' ∧ r = ⟨remV, k0_pay129, 6#32, k0_pay130, k0_pay131, 1#32⟩) σ := by
  rw [k0_part27_eq_skeleton]; unfold k0_part27_skel
  exact WP.pure _ ⟨h, rfl⟩

/-- The block-diagonal factor, up to query group `n`. -/
structure InvB (t n : ℕ) (σ : Sc Ideal) : Prop where
  tab : Tab I σ
  bd : Holds3 (bdG I t) (fun m q _ => m < n ∧ q < 48) σ.bd

section
variable {I} {t n : ℕ} {σ : Sc Ideal}

/-- The expanded query factor of the block. -/
def BdOk (I : In Ideal) (t : ℕ) (v : FVec Ideal S192x256 .bf16) : Prop :=
  ∀ m q col, m < 4 → q < 48 → col < 256 → rd2 v (48 * m + q) col = bdG I t m q col

theorem bdV_ok {v36 : Vec Ideal S192x32 .fp8e4m3} (h : ∀ q h, q < 192 → h < 32 → rd2 v36 q h = rd2 I.x1 (192 * t + q) h) : BdOk I t (bdV (k0_pay127 v36)) := by
  intro m q col hm hq hc
  rw [bd_read (by omega) hc, p127_read (by omega) hc, e_sum (fun h => rd2 v36 (48 * m + q) h) hc, bdG, show (48 * m + q) % 48 = q by omega, h _ _ (by omega) (by omega)]

/-- The 48 rows that matter are stored. -/
theorem InvB.step (h : InvB I t n σ) (hn : n < 4) {v : FVec Ideal S192x256 .bf16} (hv : BdOk I t v) {w : FVec Ideal S1x48x256 .bf16}
    (hw : ∀ q col, q < 48 → col < 256 → rd3 w 0 q col = rd2 v (48 * n + q) col) {o x} (e : o = ![n, 0, 0])
    (hx : x = VecWindow.put σ.bd o ![1, 48, 256] w) : InvB I t (n + 1) { σ with bd := x } := by
  subst hx
  refine ⟨⟨h.tab.ak, h.tab.av, h.tab.bv, h.tab.mask⟩, (h.bd.put n 0 0 e fun a q col ha hq hc => ?_).mono fun a b d h ha hb hd => by omega⟩
  obtain rfl : a = 0 := by omega
  rw [hw q col hq hc, hv n q col hn hq hc, Nat.add_zero, Nat.zero_add, Nat.zero_add]

/-- The other rows are of no matter. -/
theorem InvB.skip (h : InvB I t n σ) {q : ℕ} {P : ℕ} {w : (⟨3, ![1, P, 256]⟩ : Shape).Idx → EReal} {o x} (m : ℕ) (e : o = ![m, q, 0]) (hq : 48 ≤ q)
    (hx : x = VecWindow.put σ.bd o ![1, P, 256] w) : InvB I t n { σ with bd := x } := by
  subst hx
  exact ⟨⟨h.tab.ak, h.tab.av, h.tab.bv, h.tab.mask⟩, h.bd.put_skip m q 0 e fun a b d h => by omega⟩

theorem bd0 {v39 : FVec Ideal S192x256 .f32} : ∀ q col, q < 48 → col < 256 → rd3 (k0_pay134 v39 remV k0_pay129 6#32 k0_pay130 k0_pay131 1#32) 0 q col = rd2 (bdV v39) (48 * 0 + q) col := by
  intro q col hq hc
  show rd3 (shapeCast S1x48x256 (extractStridedSlice S48x256 ![0, 0] (bdV v39) slices_S192x256_o0_0_S48x256) shapeCasts_S48x256_S1x48x256 : FVec Ideal S1x48x256 .bf16) 0 q col = _
  generalize bdV v39 = v
  rw [rd3_eq (by omega) hq hc]; pointwise; simp only [fin2]
theorem bd1 {v39 : FVec Ideal S192x256 .f32} : ∀ q col, q < 48 → col < 256 → rd3 (k0_pay140 (k0_pay139 v39 remV k0_pay129 6#32 k0_pay130 k0_pay131 1#32)) 0 q col = rd2 (bdV v39) (48 * 1 + q) col := by
  intro q col hq hc
  show rd3 (shapeCast S1x48x256 (extractStridedSlice S48x256 ![48, 0] (bdV v39) slices_S192x256_o48_0_S48x256) shapeCasts_S48x256_S1x48x256 : FVec Ideal S1x48x256 .bf16) 0 q col = _
  generalize bdV v39 = v
  rw [rd3_eq (by omega) hq hc]; pointwise; simp only [fin2]
theorem bd2 {v : FVec Ideal S192x256 .bf16} : ∀ q col, q < 48 → col < 256 → rd3 (k0_pay146 v) 0 q col = rd2 v (48 * 2 + q) col := by
  intro q col hq hc
  rw [rd3_eq (by omega) hq hc]; pointwise [k0_pay146, k0_pay145]; simp only [fin2]
theorem bd3 {v : FVec Ideal S192x256 .bf16} : ∀ q col, q < 48 → col < 256 → rd3 (k0_pay152 v) 0 q col = rd2 v (48 * 3 + q) col := by
  intro q col hq hc
  rw [rd3_eq (by omega) hq hc]; pointwise [k0_pay152, k0_pay151]; simp only [fin2]

theorem part28_spec {v39 : FVec Ideal S192x256 .f32} (hv : BdOk I t (bdV v39)) (h : InvB I t 0 σ) :
    WP (fam A c I) (A.app (k0_part28 (F := Ideal) i) v39 remV k0_pay129 6#32 k0_pay130 k0_pay131 1#32)
      (fun r σ' => InvB I t 1 σ' ∧ r = ⟨bdV v39, k0_pay139 v39 remV k0_pay129 6#32 k0_pay130 k0_pay131 1#32⟩) σ := by
  rw [k0_part28_eq_skeleton]; unfold k0_part28_skel
  with_reducible refine WP.loadd _ fun _ => ?_
  with_reducible refine WP.storeg _ fun x g => ?_
  replace h := h.step (by omega) hv bd0 rfl g
  iterate 4
    with_reducible refine WP.loadd _ fun _ => ?_
    with_reducible refine WP.storeg _ fun x g => ?_
    replace h := h.skip 0 rfl (by omega) g
  exact WP.pure _ ⟨h, rfl⟩

theorem part29_spec {v39 : FVec Ideal S192x256 .f32} (hv : BdOk I t (bdV v39)) (h : InvB I t 1 σ) :
    WP (fam A c I) (A.app (k0_part29 (F := Ideal) i) (bdV v39) (k0_pay139 v39 remV k0_pay129 6#32 k0_pay130 k0_pay131 1#32)) (fun _ σ' => InvB I t 3 σ') σ := by
  rw [k0_part29_eq_skeleton]; unfold k0_part29_skel
  with_reducible refine WP.loadd _ fun _ => ?_
  with_reducible refine WP.storeg _ fun x g => ?_
  replace h := h.step (by omega) hv bd1 rfl g
  iterate 4
    with_reducible refine WP.loadd _ fun _ => ?_
    with_reducible refine WP.storeg _ fun x g => ?_
    replace h := h.skip 1 rfl (by omega) g
  with_reducible refine WP.loadd _ fun _ => ?_
  with_reducible refine WP.storeg _ fun x g => ?_
  replace h := h.step (by omega) hv bd2 rfl g
  iterate 2
    with_reducible refine WP.loadd _ fun _ => ?_
    with_reducible refine WP.storeg _ fun x g => ?_
    replace h := h.skip 2 rfl (by omega) g
  exact WP.pure _ h

theorem part30_spec {v : FVec Ideal S192x256 .bf16} {u : FVec Ideal S48x256 .bf16} (hv : BdOk I t v) (h : InvB I t 3 σ) :
    WP (fam A c I) (A.app (k0_part30 (F := Ideal) i) v u) (fun _ σ' => InvB I t 4 σ') σ := by
  rw [k0_part30_eq_skeleton]; unfold k0_part30_skel
  iterate 2
    with_reducible refine WP.loadd _ fun _ => ?_
    with_reducible refine WP.storeg _ fun x g => ?_
    replace h := h.skip 2 rfl (by omega) g
  with_reducible refine WP.loadd _ fun _ => ?_
  with_reducible refine WP.storeg _ fun x g => ?_
  replace h := h.step (by omega) hv bd3 rfl g
  iterate 4
    with_reducible refine WP.loadd _ fun _ => ?_
    with_reducible refine WP.storeg _ fun x g => ?_
    replace h := h.skip 3 rfl (by omega) g
  exact WP.pure _ h

theorem bot_read {a b col : ℕ} (ha : a < 4) (hb : b < 8) (hc : col < 256) : rd3 (k0_pay158 (F := Ideal)) a b col = ⊥ := by
  rw [rd3_eq ha hb hc]; pointwise [k0_pay158]; simp [Ideal.ofBits, Ideal.ieee]
theorem zero_read {a b col : ℕ} (ha : a < 4) (hb : b < 8) (hc : col < 256) : rd3 (k0_pay159 (F := Ideal)) a b col = 0 := by
  rw [rd3_eq ha hb hc]; pointwise [k0_pay159]
theorem zero_read' {a b col : ℕ} (ha : a < 4) (hb : b < 128) (hc : col < 256) : rd3 (k0_pay160 (F := Ideal)) a b col = 0 := by
  rw [rd3_eq ha hb hc]; pointwise [k0_pay160]

theorem part31_spec (arg0) (h : InvB I t 4 σ) :
    WP (fam A c I) (A.app (k0_part31 (F := Ideal) i) arg0) (fun _ σ' => InvS I t 0 σ') σ := by
  rw [k0_part31_eq_skeleton]; unfold k0_part31_skel
  with_reducible refine WP.loadg _ fun v178 h178 => ?_
  with_reducible refine WP.loadg _ fun v180 h180 => ?_
  with_reducible refine WP.loadd _ fun _ => ?_
  with_reducible refine WP.storeg _ fun x1 g1 => ?_
  with_reducible refine WP.loadd _ fun _ => ?_
  with_reducible refine WP.storeg _ fun x2 g2 => ?_
  with_reducible refine WP.loadd _ fun _ => ?_
  with_reducible refine WP.storeg _ fun x3 g3 => ?_
  with_reducible refine WP.loadd _ fun _ => ?_
  with_reducible refine WP.storeg _ fun x4 g4 => ?_
  refine WP.pure _ (show InvS I t 0 { σ with csb := x1, mb := x2, lb := x3, ob := x4 } from
    ⟨⟨⟨h.tab.ak, h.tab.av, h.tab.bv, h.tab.mask⟩, ?_, h.bd.mono fun _ _ _ h1 h2 _ _ => ⟨h2, h1⟩⟩, fun _ _ _ h => absurd h (by omega), ?_, ?_, ?_⟩)
  · intro q j _ hq hj
    replace h178 : v178 = VecWindow.window I.x2 ![0, 0, 0] ![1, 1, 192] inb_S1x1x192_S1x1x192_0_0_0 := h178
    replace h180 : v180 = VecWindow.window I.x4 ![0, 0, 0] ![1, 1, 192] inb_S1x1x192_S1x1x192_0_0_0 := h180
    rw [g1, rd2_put_in q j hq hj hq hj (Nat.zero_add q) (Nat.zero_add j), cs_read hq hj, csG]
    subst h178 h180
    rw [rd3_window I.x2 (a := 0) (b := 0) (c := q) (by omega) (by omega) hq rfl rfl (Nat.zero_add q),
      rd3_window I.x4 (a := 0) (b := 0) (c := q) (by omega) (by omega) hq rfl rfl (Nat.zero_add q)]
  · intro a b col ha hb hc
    have e : rd3 x2 a b col = ⊥ := by
      rw [g2, rd3_put_in a b col ha hb hc ha hb hc (Nat.zero_add a) (Nat.zero_add b) (Nat.zero_add col), bot_read ha hb hc]
    show MaxQ I t 0 a b col (rd3 x2 a b col)
    rw [e]
    intro y
    exact ⟨fun _ u h1 => absurd h1 (by omega), fun _ => bot_le⟩
  · intro a b col _ ha hb hc
    rw [g3, rd3_put_in a b col ha hb hc ha hb hc (Nat.zero_add a) (Nat.zero_add b) (Nat.zero_add col), zero_read ha hb hc]
  · intro a b col _ ha hb hc
    rw [g4, rd3_put_in a b col ha hb hc ha hb hc (Nat.zero_add a) (Nat.zero_add b) (Nat.zero_add col), zero_read' ha hb hc]
end

end Cert.Proof.KernelIdeal

end

end
-- ==== Proof.StageD.lean ====
/-
  One trip of the loop over the key chunks that accumulates the weights and the outputs.
-/
module

public import proofs.«01_k».proof.Proof.PayA
public import proofs.«01_k».proof.Proof.Offs

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

/-- The running sums after one chunk. -/
def lbW (s : Vec Ideal S1x128x256 .f32) (m : Vec Ideal S1x1x256 .f32) (v : Vec Ideal S1x8x256 .f32) : FVec Ideal S1x8x256 .f32 := k0_pay94 s m v
theorem lbW_read {s : Vec Ideal S1x128x256 .f32} {m : Vec Ideal S1x1x256 .f32} {v : Vec Ideal S1x8x256 .f32} {b c : ℕ} (hb : b < 8) (hc : c < 256) :
    rd3 (lbW s m v) 0 b c = rd3 v 0 b c + ∑ a : Fin 16, Ideal.exp2 (rd3 s 0 (a * 8 + b) c - rd3 m 0 0 c) := by
  rw [rd3_eq (by omega) hb hc]
  pointwise [lbW, k0_pay94, k0_pay93]
  simp only [fin2, fin3]
  rfl

/-- The running outputs after one chunk. -/
def obW (s : Vec Ideal S1x128x256 .f32) (m : Vec Ideal S1x1x256 .f32) (a0 a1 : Vec Ideal S1x128x256 .f32) (o : Vec Ideal S1x128x256 .f32) (w : Vec Ideal S1x128x256 .bf16) :
    FVec Ideal S1x128x256 .f32 := k0_pay96 (k0_pay95 s m a0 a1 o w)
theorem obW_read {s : Vec Ideal S1x128x256 .f32} {m : Vec Ideal S1x1x256 .f32} {a0 a1 : Vec Ideal S1x128x256 .f32} {o : Vec Ideal S1x128x256 .f32} {w : Vec Ideal S1x128x256 .bf16}
    {b c : ℕ} (hb : b < 128) (hc : c < 256) :
    rd3 (obW s m a0 a1 o w) 0 b c = rd3 o 0 b c
      + (∑ x : Fin 128, rd3 w 0 b x * (Ideal.exp2 (rd3 s 0 x c - rd3 m 0 0 c) * rd3 a0 0 x c)
        + ∑ x : Fin 128, rd3 w 0 b (128 + x) * (Ideal.exp2 (rd3 s 0 x c - rd3 m 0 0 c) * rd3 a1 0 x c)) := by
  rw [rd3_eq (by omega) hb hc]
  pointwise [obW, k0_pay96, k0_pay95, k0_pay93]
  simp only [fin2, fin3]
  rfl

/-- In trip `k`, with the query groups below `n` done. -/
structure InvO (t k n : ℕ) (σ : Sc Ideal) : Prop where
  tab : Tab I σ
  sb : Holds3 (smG I t) (fun _ u _ => u < 128 * nch t) σ.sb
  mb : Holds3 (fun m _ col => mG I t m col) (fun _ _ _ => True) σ.mb
  lb : Holds3 (fun m b col => lP I t (if m < n then k + 1 else k) m b col) (fun _ _ _ => True) σ.lb
  ob : Holds3 (fun m d col => oP I t (if m < n then k + 1 else k) m d col) (fun _ _ _ => True) σ.ob

section
variable {I} {t k n : ℕ} {σ : Sc Ideal}

theorem InvO.next (h : InvO I t k 4 σ) : InvO I t (k + 1) 0 σ :=
  ⟨h.tab, h.sb, h.mb, fun m b col _ h1 h2 h3 => by rw [h.lb m b col trivial h1 h2 h3]; beta_reduce; rw [if_pos h1, if_neg (by omega)],
    fun m b col _ h1 h2 h3 => by rw [h.ob m b col trivial h1 h2 h3]; beta_reduce; rw [if_pos h1, if_neg (by omega)]⟩

/-- One query group advances. -/
theorem InvO.step (h : InvO I t k n σ) (hn : n < 4) (hk : k < nch t) (hk12 : k < 12) {v995 v997 v1002 v1011 v1016 v1021 v1024 x y}
    {o1 o2 o4 o5 o6 p1 p2 p3 p4 p5 p6 p7}
    (e1 : o1 = ![n, 128 * k, 0]) (e2 : o2 = ![n, 0, 0]) (e4 : o4 = ![0, 128 * k, 0]) (e5 : o5 = ![1, 128 * k, 0]) (e6 : o6 = ![k, 0, 0])
    (h1 : v995 = VecWindow.window σ.sb o1 ![1, 128, 256] p1) (h2 : v997 = VecWindow.window σ.mb o2 ![1, 1, 256] p2)
    (h3 : v1002 = VecWindow.window σ.lb o2 ![1, 8, 256] p3) (h4 : v1011 = VecWindow.window σ.avt o4 ![1, 128, 256] p4)
    (h5 : v1016 = VecWindow.window σ.avt o5 ![1, 128, 256] p5) (h6 : v1021 = VecWindow.window σ.ob o2 ![1, 128, 256] p6)
    (h7 : v1024 = VecWindow.window σ.bvt o6 ![1, 128, 256] p7)
    (hx : x = VecWindow.put σ.lb o2 ![1, 8, 256] (lbW v995 v997 v1002))
    (hy : y = VecWindow.put σ.ob o2 ![1, 128, 256] (obW v995 v997 v1011 v1016 v1021 v1024)) :
    InvO I t k (n + 1) { σ with lb := x, ob := y } := by
  subst e2
  have hp : ∀ x c, x < 128 → c < 256 → Ideal.exp2 (rd3 v995 0 x c - rd3 v997 0 0 c) = pG I t n (128 * k + x) c := fun x c hx' hc => by
    have a1 : rd3 v995 0 x c = smG I t n (128 * k + x) c := by
      subst h1 e1
      exact (rd3_window _ (by omega) hx' hc (a := n) (b := 128 * k + x) (c := c) rfl rfl (Nat.zero_add c)).trans (h.sb _ _ _ (by omega) (by omega) (by omega) hc)
    have a2 : rd3 v997 0 0 c = mG I t n c := by
      subst h2
      exact (rd3_window _ (by omega) (by omega) hc (a := n) (b := 0) (c := c) rfl rfl (Nat.zero_add c)).trans (h.mb _ _ _ trivial (by omega) (by omega) hc)
    rw [a1, a2, pG]
  refine ⟨⟨h.tab.ak, h.tab.av, h.tab.bv, h.tab.mask⟩, h.sb, h.mb, fun m b col _ hm hb hc => ?_, fun m d col _ hm hd hc => ?_⟩
  · by_cases e : m = n
    · subst e
      show rd3 x m b col = lP I t (if m < m + 1 then k + 1 else k) m b col
      rw [if_pos (by omega)]
      rw [hx, rd3_put_in 0 b col (by omega) hb hc hm hb hc (Nat.add_zero m) (Nat.zero_add b) (Nat.zero_add col), lbW_read hb hc,
        show rd3 v1002 0 b col = lP I t k m b col by
          subst h3
          refine (rd3_window _ (by omega) hb hc (a := m) (b := b) (c := col) rfl (Nat.zero_add b) (Nat.zero_add col)).trans ?_
          rw [h.lb _ _ _ trivial hm hb hc]
          beta_reduce
          rw [if_neg (by omega)]]
      unfold lP
      rw [Finset.sum_range_succ]
      refine congrArg₂ (· + ·) rfl (Finset.sum_congr rfl fun a _ => ?_)
      rw [hp _ _ (by omega) hc]
    · show rd3 x m b col = _
      rw [hx, rd3_put_out (by simp; omega)]
      refine (h.lb m b col trivial hm hb hc).trans ?_
      beta_reduce
      have e' : m < n + 1 ↔ m < n := by omega
      simp only [e']
  · by_cases e : m = n
    · subst e
      show rd3 y m d col = oP I t (if m < m + 1 then k + 1 else k) m d col
      rw [if_pos (by omega)]
      rw [hy, rd3_put_in 0 d col (by omega) hd hc hm hd hc (Nat.add_zero m) (Nat.zero_add d) (Nat.zero_add col), obW_read hd hc,
        show rd3 v1021 0 d col = oP I t k m d col by
          subst h6
          refine (rd3_window _ (by omega) hd hc (a := m) (b := d) (c := col) rfl (Nat.zero_add d) (Nat.zero_add col)).trans ?_
          rw [h.ob _ _ _ trivial hm hd hc]
          beta_reduce
          rw [if_neg (by omega)]]
      have w : ∀ j, j < 256 → rd3 v1024 0 d j = bvG I k d j := fun j hj => by
        subst h7 e6
        exact (rd3_window _ (by omega) hd hj (a := k) (b := d) (c := j) rfl (Nat.zero_add d) (Nat.zero_add j)).trans (h.tab.bv _ _ _ trivial (by omega) hd hj)
      have a0 : ∀ j, j < 128 → rd3 v1011 0 j col = avG I 0 (128 * k + j) col := fun j hj => by
        subst h4 e4
        exact (rd3_window _ (by omega) hj hc (a := 0) (b := 128 * k + j) (c := col) rfl rfl (Nat.zero_add col)).trans (h.tab.av _ _ _ trivial (by omega) (by omega) hc)
      have a1 : ∀ j, j < 128 → rd3 v1016 0 j col = avG I 1 (128 * k + j) col := fun j hj => by
        subst h5 e5
        exact (rd3_window _ (by omega) hj hc (a := 1) (b := 128 * k + j) (c := col) rfl rfl (Nat.zero_add col)).trans (h.tab.av _ _ _ trivial (by omega) (by omega) hc)
      unfold oP
      rw [Finset.sum_range_succ]
      refine congrArg₂ (· + ·) rfl (congrArg₂ (· + ·) (Finset.sum_congr rfl fun j _ => ?_) (Finset.sum_congr rfl fun j _ => ?_))
      · rw [w _ (by omega), hp _ _ j.2 hc, a0 _ j.2, bvG, show (j : ℕ) / 128 = 0 by omega, show (j : ℕ) % 128 = j by omega]
      · rw [w _ (by omega), hp _ _ j.2 hc, a1 _ j.2, bvG, show (128 + (j : ℕ)) / 128 = 1 by omega, show (128 + (j : ℕ)) % 128 = j by omega]
    · show rd3 y m d col = _
      rw [hy, rd3_put_out (by simp; omega)]
      refine (h.ob m d col trivial hm hd hc).trans ?_
      beta_reduce
      have e' : m < n + 1 ↔ m < n := by omega
      simp only [e']
end

theorem t4_body_spec (v218 v561 v563) (k : Fin (k0_t4_loop i).trips) (acc) (σ : Sc Ideal) (h : InvO I (i 0).val k.val 0 σ) :
    WP (fam A c I) (A.app (k0_t4_body (F := Ideal) i) v218 v561 v563 k acc) (fun _ σ' => InvO I (i 0).val (k.val + 1) 0 σ') σ := by
  have hk : k.val < nch (i 0).val := by unfold nch; rw [← t4_trips i]; exact k.2
  have hk12 : k.val < 12 := by have : (i 0).val < 48 := (i 0).2; unfold nch at hk; omega
  unfold k0_t4_body
  dsimp only [Args.app]
  rw [k0_part18_eq_skeleton, k0_part19_eq_skeleton, k0_part20_eq_skeleton, k0_part21_eq_skeleton]
  unfold k0_part18_skel k0_part19_skel k0_part20_skel k0_part21_skel
  with_reducible refine WP.assoc _ (WP.loadg _ fun v995 h1 => ?_)
  with_reducible refine WP.assoc _ (WP.loadg _ fun v997 h2 => ?_)
  with_reducible refine WP.assoc _ (WP.loadg _ fun v1002 h3 => ?_)
  with_reducible refine WP.assoc _ (WP.loadd _ fun _ => ?_)
  with_reducible refine WP.assoc _ (WP.storeg _ fun x0 hx0 => ?_)
  with_reducible refine WP.assoc _ (WP.loadg _ fun v1011 h4 => ?_)
  with_reducible refine WP.assoc _ (WP.loadg _ fun v1016 h5 => ?_)
  with_reducible refine WP.assoc _ (WP.loadg _ fun v1021 h6 => ?_)
  with_reducible refine WP.assoc _ (WP.loadg _ fun v1024 h7 => ?_)
  with_reducible refine WP.pureBind _ ?_
  dsimp only
  with_reducible refine WP.assoc _ (WP.loadd _ fun _ => ?_)
  with_reducible refine WP.assoc _ (WP.storeg _ fun y0 hy0 => ?_)
  have H1 := h.step (by omega) hk hk12 (off67_eq i k) rfl (off68_eq i k) (off69_eq i k) (off70_eq i k) h1 h2 h3 h4 h5 h6 h7 hx0 hy0
  with_reducible refine WP.assoc _ (WP.loadg _ fun v1033 g1 => ?_)
  with_reducible refine WP.assoc _ (WP.loadg _ fun v1035 g2 => ?_)
  with_reducible refine WP.assoc _ (WP.loadg _ fun v1040 g3 => ?_)
  with_reducible refine WP.assoc _ (WP.loadd _ fun _ => ?_)
  with_reducible refine WP.assoc _ (WP.storeg _ fun x1 hx1 => ?_)
  with_reducible refine WP.assoc _ (WP.loadg _ fun v1049 g4 => ?_)
  with_reducible refine WP.assoc _ (WP.loadg _ fun v1054 g5 => ?_)
  with_reducible refine WP.assoc _ (WP.loadg _ fun v1059 g6 => ?_)
  with_reducible refine WP.pureBind _ ?_
  dsimp only
  with_reducible refine WP.assoc _ (WP.loadg _ fun v1062 g7 => ?_)
  with_reducible refine WP.assoc _ (WP.loadd _ fun _ => ?_)
  with_reducible refine WP.assoc _ (WP.storeg _ fun y1 hy1 => ?_)
  have H2 := H1.step (by omega) hk hk12 (off71_eq i k) rfl (off68_eq i k) (off69_eq i k) (off70_eq i k) g1 g2 g3 g4 g5 g6 g7 hx1 hy1
  with_reducible refine WP.assoc _ (WP.loadg _ fun v1071 f1 => ?_)
  with_reducible refine WP.assoc _ (WP.loadg _ fun v1073 f2 => ?_)
  with_reducible refine WP.assoc _ (WP.loadg _ fun v1078 f3 => ?_)
  with_reducible refine WP.assoc _ (WP.loadd _ fun _ => ?_)
  with_reducible refine WP.assoc _ (WP.storeg _ fun x2 hx2 => ?_)
  with_reducible refine WP.assoc _ (WP.loadg _ fun v1087 f4 => ?_)
  with_reducible refine WP.assoc _ (WP.loadg _ fun v1092 f5 => ?_)
  with_reducible refine WP.pureBind _ ?_
  with_reducible refine WP.assoc _ (WP.loadg _ fun v1097 f6 => ?_)
  with_reducible refine WP.assoc _ (WP.loadg _ fun v1100 f7 => ?_)
  with_reducible refine WP.assoc _ (WP.loadd _ fun _ => ?_)
  with_reducible refine WP.assoc _ (WP.storeg _ fun y2 hy2 => ?_)
  have H3 := H2.step (by omega) hk hk12 (off72_eq i k) rfl (off68_eq i k) (off69_eq i k) (off70_eq i k) f1 f2 f3 f4 f5 f6 f7 hx2 hy2
  with_reducible refine WP.assoc _ (WP.loadg _ fun v1109 d1 => ?_)
  with_reducible refine WP.assoc _ (WP.loadg _ fun v1111 d2 => ?_)
  with_reducible refine WP.assoc _ (WP.loadg _ fun v1116 d3 => ?_)
  with_reducible refine WP.assoc _ (WP.loadd _ fun _ => ?_)
  with_reducible refine WP.assoc _ (WP.storeg _ fun x3 hx3 => ?_)
  with_reducible refine WP.assoc _ (WP.loadg _ fun v1125 d4 => ?_)
  with_reducible refine WP.pureBind _ ?_
  dsimp only
  with_reducible refine WP.loadg _ fun v1130 d5 => ?_
  with_reducible refine WP.loadg _ fun v1135 d6 => ?_
  with_reducible refine WP.loadg _ fun v1138 d7 => ?_
  with_reducible refine WP.loadd _ fun _ => ?_
  with_reducible refine WP.storeg _ fun y3 hy3 => WP.pure _ ?_
  have H4 := H3.step (by omega) hk hk12 (off73_eq i k) rfl (off68_eq i k) (off69_eq i k) (off70_eq i k) d1 d2 d3 d4 d5 d6 d7 hx3 hy3
  exact H4.next

end Cert.Proof.KernelIdeal

end
-- ==== Proof.StageE.lean ====
/-
  The last stage: the normalised outputs and the logarithms of the sums, stored piece by piece.
-/
module

public import proofs.«01_k».proof.Proof.StageD

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

theorem pcs : ∀ n : ℕ, S256x128.Slices ![8 * (n % 32), 0] S8x128 := fun n =>
  (by decide : ∀ m : Fin 32, S256x128.Slices ![8 * m.val, 0] S8x128) ⟨n % 32, Nat.mod_lt _ (by decide)⟩

/-- Eight rows of one matrix above eight rows of another. -/
def pcW (n : ℕ) (x y : FVec Ideal S256x128 .f32) : FVec Ideal S16x128 .bf16 :=
  truncf .bf16 (concatenate S16x128 0 [⟨S8x128, extractStridedSlice S8x128 ![8 * (n % 32), 0] x (pcs n)⟩,
    ⟨S8x128, extractStridedSlice S8x128 ![8 * (n % 32), 0] y (pcs n)⟩] concatenates_S8x128_S8x128_S16x128_d0) bitsLt_bf16_f32

theorem pcW_read {n : ℕ} {x y : FVec Ideal S256x128 .f32} {a b : ℕ} (ha : a < 16) (hb : b < 128) :
    rd2 (pcW n x y) a b = if a < 8 then rd2 x (8 * (n % 32) + a) b else rd2 y (8 * (n % 32) + (a - 8)) b := by
  rw [rd2_eq ha hb]
  have hm : n % 32 < 32 := Nat.mod_lt _ (by decide)
  unfold pcW
  generalize pcs n = hs
  revert hs
  generalize n % 32 = m at *
  intro hs
  pointwise
  simp only [fin2]
  rfl

theorem lsS_read {v : Vec Ideal S1x8x256 .f32} {col : ℕ} (hc : col < 256) :
    rd2 (k0_pay216 v) 0 col = ∑ a : Fin 8, rd3 v 0 a col := by
  rw [rd2_eq (by omega) hc]
  pointwise [k0_pay216]
  simp only [fin3]
  rfl

theorem one_bits : Ideal.ofBits FTy.f32 1065353216#32 = 1 := by
  simp [Ideal.ofBits, Ideal.ieee, -EReal.coe_mul]; norm_num

theorem otW_read {v : Vec Ideal S1x8x256 .f32} {w : Vec Ideal S1x128x256 .f32} {r j : ℕ} (hr : r < 256) (hj : j < 128) :
    rd2 (k0_pay217 v w) r j = rd3 w 0 j r * Ideal.div 1 (∑ a : Fin 8, rd3 v 0 a r) := by
  rw [rd2_eq hr hj]
  pointwise [k0_pay217, k0_pay216]
  simp only [fin3]
  rfl

theorem lsW_read {s : FVec Ideal S1x256 .f32} {v : Vec Ideal S1x1x256 .f32} {col : ℕ} (hc : col < 256) :
    rd3 (k0_pay218 s v) 0 0 col = (rd3 v 0 0 col + Ideal.log (rd2 s 0 col) * LOG2E) * LN2 := by
  rw [rd3_eq (by omega) (by omega) hc]
  pointwise [k0_pay218]
  simp only [fin2, fin3]
  rfl

/-- The normalised output of one query group. -/
def outN (t m r j : ℕ) : EReal := oP I t (nch t) m j r * Ideal.div 1 (lG I t m r)
def Ox (t m : ℕ) (x : FVec Ideal S256x128 .f32) : Prop := ∀ r j, r < 256 → j < 128 → rd2 x r j = outN I t m r j

/-- With `nl` rows of the second result and `n` pieces of the first one stored. -/
structure InvZ (t nl n : ℕ) (σ : Sc Ideal) : Prop where
  tab : Tab I σ
  mb : Holds3 (fun m _ col => mG I t m col) (fun _ _ _ => True) σ.mb
  lb : Holds3 (fun m b col => lP I t (nch t) m b col) (fun _ _ _ => True) σ.lb
  ob : Holds3 (fun m d col => oP I t (nch t) m d col) (fun _ _ _ => True) σ.ob
  lse : Holds3 (fun _ m col => lseG I t m col) (fun _ m _ => m < nl) σ.lse
  out : Holds2 (outG I t) (fun row col => row / 16 * 32 + col / 128 < n) σ.out

section
variable {I} {t nl n : ℕ} {σ : Sc Ideal}

theorem InvZ.ofO (h : InvO I t (nch t) 0 σ) : InvZ I t 0 0 σ :=
  ⟨h.tab, h.mb, fun m b col _ h1 h2 h3 => (h.lb m b col trivial h1 h2 h3).trans (by beta_reduce; rw [if_neg (by omega)]),
    fun m b col _ h1 h2 h3 => (h.ob m b col trivial h1 h2 h3).trans (by beta_reduce; rw [if_neg (by omega)]),
    fun _ _ _ h => absurd h (by omega), fun _ _ h => absurd h (by omega)⟩

/-- One piece is stored. -/
theorem InvZ.step (h : InvZ I t nl n σ) {a b : FVec Ideal S256x128 .f32} {o : Fin 2 → ℕ} {x : Vec Ideal S32x4096 .bf16}
    (e : o = ![16 * (n / 32), 128 * (n % 32)]) (hx : x = VecWindow.put σ.out o ![16, 128] (pcW n a b))
    (ha : Ox I t (2 * (n / 32)) a) (hb : Ox I t (2 * (n / 32) + 1) b) : InvZ I t nl (n + 1) { σ with out := x } := by
  refine ⟨⟨h.tab.ak, h.tab.av, h.tab.bv, h.tab.mask⟩, h.mb, h.lb, h.ob, h.lse, fun row col hrc hr hc => ?_⟩
  subst hx
  subst e
  show rd2 (VecWindow.put σ.out ![16 * (n / 32), 128 * (n % 32)] ![16, 128] (pcW n a b)) row col = _
  by_cases hin : row / 16 * 32 + col / 128 = n
  · have h1 : n / 32 = row / 16 := by omega
    have h2 : n % 32 = col / 128 := by omega
    rw [rd2_put_in (row % 16) (col % 128) (by omega) (by omega) hr hc (by simp; omega) (by simp; omega), pcW_read (by omega) (by omega), outG]
    split_ifs with h8
    · rw [ha _ _ (by omega) (by omega), outN, h1, h2, show 2 * (row / 16) = row / 8 by omega, show 8 * (col / 128) + row % 16 = 8 * (col / 128) + row % 8 by omega]
    · rw [hb _ _ (by omega) (by omega), outN, h1, h2, show 2 * (row / 16) + 1 = row / 8 by omega,
        show 8 * (col / 128) + (row % 16 - 8) = 8 * (col / 128) + row % 8 by omega]
  · rw [rd2_put_out (by simp; omega)]
    exact h.out row col (by omega) hr hc

/-- One row of the second result is stored. -/
theorem InvZ.lstep (h : InvZ I t nl n σ) {s : FVec Ideal S1x256 .f32} {v : Vec Ideal S1x1x256 .f32} {o : Fin 3 → ℕ} {x : Vec Ideal S1x4x256 .f32}
    (e : o = ![0, nl, 0]) (hx : x = VecWindow.put σ.lse o ![1, 1, 256] (k0_pay218 s v))
    (hs : ∀ col, col < 256 → rd2 s 0 col = lG I t nl col) (hv : ∀ col, col < 256 → rd3 v 0 0 col = mG I t nl col) :
    InvZ I t (nl + 1) n { σ with lse := x } := by
  refine ⟨⟨h.tab.ak, h.tab.av, h.tab.bv, h.tab.mask⟩, h.mb, h.lb, h.ob, fun z m col hm hz hm4 hc => ?_, h.out⟩
  subst hx
  subst e
  show rd3 (VecWindow.put σ.lse ![0, nl, 0] ![1, 1, 256] (k0_pay218 s v)) z m col = _
  obtain rfl : z = 0 := by omega
  by_cases hin : m = nl
  · subst hin
    rw [rd3_put_in 0 0 col (by omega) (by omega) hc hz hm4 hc (Nat.add_zero 0) (Nat.add_zero m) (Nat.zero_add col), lsW_read hc, hs _ hc, hv _ hc]
    rfl
  · rw [rd3_put_out (by simp; omega)]
    exact h.lse 0 m col (by omega) hz hm4 hc

theorem InvZ.sum (h : InvZ I t nl n σ) {m : ℕ} (hm : m < 4) {o v p} (e : o = ![m, 0, 0]) (hv : v = VecWindow.window σ.lb o ![1, 8, 256] p) :
    ∀ col, col < 256 → ∑ a : Fin 8, rd3 v 0 a col = lG I t m col := fun col hc => by
  subst hv e
  refine Finset.sum_congr rfl fun a _ => ?_
  exact (rd3_window _ (by omega) a.2 hc (a := m) (b := a) (c := col) rfl (Nat.zero_add _) (Nat.zero_add col)).trans (h.lb _ _ _ trivial hm a.2 hc)

theorem InvZ.sum' (h : InvZ I t nl n σ) {m : ℕ} (hm : m < 4) {o v p} (e : o = ![m, 0, 0]) (hv : v = VecWindow.window σ.lb o ![1, 8, 256] p) :
    ∀ col, col < 256 → rd2 (k0_pay216 v) 0 col = lG I t m col := fun col hc => by
  rw [lsS_read hc, h.sum hm e hv col hc]

theorem InvZ.ox (h : InvZ I t nl n σ) {m : ℕ} (hm : m < 4) {o v w p q} (e : o = ![m, 0, 0]) (hv : v = VecWindow.window σ.lb o ![1, 8, 256] p)
    (hw : w = VecWindow.window σ.ob o ![1, 128, 256] q) : Ox I t m (k0_pay217 v w) := fun r j hr hj => by
  rw [otW_read hr hj, h.sum hm e hv r hr, outN]
  subst hw e
  refine congrArg (· * _) ?_
  exact (rd3_window _ (by omega) hj hr (a := m) (b := j) (c := r) rfl (Nat.zero_add _) (Nat.zero_add r)).trans (h.ob _ _ _ trivial hm hj hr)

theorem InvZ.mx (h : InvZ I t nl n σ) {m : ℕ} (hm : m < 4) {o v p} (e : o = ![m, 0, 0]) (hv : v = VecWindow.window σ.mb o ![1, 1, 256] p) :
    ∀ col, col < 256 → rd3 v 0 0 col = mG I t m col := fun col hc => by
  subst hv e
  exact (rd3_window _ (by omega) (by omega) hc (a := m) (b := 0) (c := col) rfl (Nat.zero_add _) (Nat.zero_add col)).trans (h.mb _ _ _ trivial hm (by omega) hc)
end

section
variable {I} {t : ℕ} {a b x y : FVec Ideal S256x128 .f32} {s u : FVec Ideal S1x256 .f32} {σ : Sc Ideal}

theorem part42_spec (h : InvZ I t 0 0 σ) (hs : ∀ col, col < 256 → rd2 s 0 col = lG I t 0 col) :
    WP (fam A c I) (A.app (k0_part42 (F := Ideal) i) s) (fun r σ' => InvZ I t 2 0 σ' ∧ Ox I t 1 r) σ := by
  rw [k0_part42_eq_skeleton]; unfold k0_part42_skel
  with_reducible refine WP.loadg _ fun v596 h596 => ?_
  with_reducible refine WP.loadd _ fun _ => ?_
  with_reducible refine WP.storeg _ fun x0 hx0 => ?_
  replace h := h.lstep rfl hx0 hs (h.mx (by omega) rfl h596)
  with_reducible refine WP.loadg _ fun v607 h607 => ?_
  with_reducible refine WP.loadg _ fun v611 h611 => ?_
  with_reducible refine WP.loadg _ fun v618 h618 => ?_
  with_reducible refine WP.loadd _ fun _ => ?_
  with_reducible refine WP.storeg _ fun x1 hx1 => ?_
  have hox := h.ox (m := 1) (by omega) rfl h607 h611
  replace h := h.lstep rfl hx1 (h.sum' (by omega) rfl h607) (h.mx (by omega) rfl h618)
  exact WP.pure _ ⟨h, hox⟩

theorem part43_spec (h : InvZ I t 2 0 σ) :
    WP (fam A c I) (A.app (k0_part43 (F := Ideal) i)) (fun r σ' => InvZ I t 3 0 σ' ∧ Ox I t 2 r.1 ∧ (∀ col, col < 256 → rd2 r.2.1 0 col = lG I t 3 col) ∧
      Ox I t 3 r.2.2.1 ∧ ∃ v : Vec Ideal S1x1x256 .f32, (∀ col, col < 256 → rd3 v 0 0 col = mG I t 3 col) ∧ r.2.2.2 = k0_pay227 v) σ := by
  rw [k0_part43_eq_skeleton]; unfold k0_part43_skel
  with_reducible refine WP.loadg _ fun v607 h607 => ?_
  with_reducible refine WP.loadg _ fun v611 h611 => ?_
  with_reducible refine WP.loadg _ fun v618 h618 => ?_
  with_reducible refine WP.loadd _ fun _ => ?_
  with_reducible refine WP.storeg _ fun x1 hx1 => ?_
  have hox := h.ox (m := 2) (by omega) rfl h607 h611
  replace h := h.lstep rfl hx1 (h.sum' (by omega) rfl h607) (h.mx (by omega) rfl h618)
  with_reducible refine WP.loadg _ fun v651 h651 => ?_
  with_reducible refine WP.loadg _ fun v655 h655 => ?_
  with_reducible refine WP.loadg _ fun v662 h662 => ?_
  exact WP.pure _ ⟨h, hox, h.sum' (by omega) rfl h651, h.ox (m := 3) (by omega) rfl h651 h655, _, h.mx (by omega) rfl h662, rfl⟩

theorem part44_spec {v : Vec Ideal S1x1x256 .f32} (h : InvZ I t 3 0 σ) (ha : Ox I t 0 a) (hb : Ox I t 1 b) (hs : ∀ col, col < 256 → rd2 s 0 col = lG I t 3 col)
    (hv : ∀ col, col < 256 → rd3 v 0 0 col = mG I t 3 col) :
    WP (fam A c I) (A.app (k0_part44 (F := Ideal) i) a b s (k0_pay227 v)) (fun r σ' => InvZ I t 4 5 σ' ∧ r = k0_pay234 a b) σ := by
  rw [k0_part44_eq_skeleton]; unfold k0_part44_skel
  with_reducible refine WP.loadd _ fun _ => ?_
  with_reducible refine WP.storeg _ fun x1 hx1 => ?_
  replace h := h.lstep rfl hx1 hs hv
  iterate 5
    with_reducible refine WP.loadd _ fun _ => ?_
    with_reducible refine WP.storeg _ fun x hx => ?_
    replace h := h.step rfl hx ha hb
  exact WP.pure _ ⟨h, rfl⟩

theorem part45_spec (h : InvZ I t 4 5 σ) (ha : Ox I t 0 a) (hb : Ox I t 1 b) :
    WP (fam A c I) (A.app (k0_part45 (F := Ideal) i) a b (k0_pay234 a b)) (fun r σ' => InvZ I t 4 13 σ' ∧ r = k0_pay242 a) σ := by
  rw [k0_part45_eq_skeleton]; unfold k0_part45_skel
  iterate 8
    with_reducible refine WP.loadd _ fun _ => ?_
    with_reducible refine WP.storeg _ fun x hx => ?_
    replace h := h.step rfl hx ha hb
  exact WP.pure _ ⟨h, rfl⟩

theorem part46_spec (h : InvZ I t 4 13 σ) (ha : Ox I t 0 a) (hb : Ox I t 1 b) :
    WP (fam A c I) (A.app (k0_part46 (F := Ideal) i) a b (k0_pay242 a)) (fun r σ' => InvZ I t 4 20 σ' ∧ r = k0_pay250 a b) σ := by
  rw [k0_part46_eq_skeleton]; unfold k0_part46_skel
  iterate 7
    with_reducible refine WP.loadd _ fun _ => ?_
    with_reducible refine WP.storeg _ fun x hx => ?_
    replace h := h.step rfl hx ha hb
  exact WP.pure _ ⟨h, rfl⟩

theorem part47_spec (h : InvZ I t 4 20 σ) (ha : Ox I t 0 a) (hb : Ox I t 1 b) :
    WP (fam A c I) (A.app (k0_part47 (F := Ideal) i) a b (k0_pay250 a b)) (fun r σ' => InvZ I t 4 28 σ' ∧ r = k0_pay258 a) σ := by
  rw [k0_part47_eq_skeleton]; unfold k0_part47_skel
  iterate 8
    with_reducible refine WP.loadd _ fun _ => ?_
    with_reducible refine WP.storeg _ fun x hx => ?_
    replace h := h.step rfl hx ha hb
  exact WP.pure _ ⟨h, rfl⟩

theorem part48_spec (h : InvZ I t 4 28 σ) (ha : Ox I t 0 a) (hb : Ox I t 1 b) (hx : Ox I t 2 x) (hy : Ox I t 3 y) :
    WP (fam A c I) (A.app (k0_part48 (F := Ideal) i) a b x y (k0_pay258 a)) (fun r σ' => InvZ I t 4 35 σ' ∧ r = k0_pay266 x y) σ := by
  rw [k0_part48_eq_skeleton]; unfold k0_part48_skel
  iterate 4
    with_reducible refine WP.loadd _ fun _ => ?_
    with_reducible refine WP.storeg _ fun z hz => ?_
    replace h := h.step rfl hz ha hb
  iterate 3
    with_reducible refine WP.loadd _ fun _ => ?_
    with_reducible refine WP.storeg _ fun z hz => ?_
    replace h := h.step rfl hz hx hy
  exact WP.pure _ ⟨h, rfl⟩

theorem part49_spec (h : InvZ I t 4 35 σ) (ha : Ox I t 2 a) (hb : Ox I t 3 b) :
    WP (fam A c I) (A.app (k0_part49 (F := Ideal) i) a b (k0_pay266 a b)) (fun r σ' => InvZ I t 4 43 σ' ∧ r = k0_pay274 a) σ := by
  rw [k0_part49_eq_skeleton]; unfold k0_part49_skel
  iterate 8
    with_reducible refine WP.loadd _ fun _ => ?_
    with_reducible refine WP.storeg _ fun x hx => ?_
    replace h := h.step rfl hx ha hb
  exact WP.pure _ ⟨h, rfl⟩

theorem part50_spec (h : InvZ I t 4 43 σ) (ha : Ox I t 2 a) (hb : Ox I t 3 b) :
    WP (fam A c I) (A.app (k0_part50 (F := Ideal) i) a b (k0_pay274 a)) (fun r σ' => InvZ I t 4 50 σ' ∧ r = k0_pay282 a b) σ := by
  rw [k0_part50_eq_skeleton]; unfold k0_part50_skel
  iterate 7
    with_reducible refine WP.loadd _ fun _ => ?_
    with_reducible refine WP.storeg _ fun x hx => ?_
    replace h := h.step rfl hx ha hb
  exact WP.pure _ ⟨h, rfl⟩

theorem part51_spec (h : InvZ I t 4 50 σ) (ha : Ox I t 2 a) (hb : Ox I t 3 b) :
    WP (fam A c I) (A.app (k0_part51 (F := Ideal) i) a b (k0_pay282 a b)) (fun r σ' => InvZ I t 4 58 σ' ∧ r = k0_pay290 a) σ := by
  rw [k0_part51_eq_skeleton]; unfold k0_part51_skel
  iterate 8
    with_reducible refine WP.loadd _ fun _ => ?_
    with_reducible refine WP.storeg _ fun x hx => ?_
    replace h := h.step rfl hx ha hb
  exact WP.pure _ ⟨h, rfl⟩
end

end Cert.Proof.KernelIdeal

end

end
-- ==== Proof.StageF.lean ====
/-
  The chunk on the diagonal, and with it the whole body.
-/
module

public import proofs.«01_k».proof.Proof.StageB
public import proofs.«01_k».proof.Proof.StageC
public import proofs.«01_k».proof.Proof.StageE

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe
open Idealize.SL Idealize.SL.BI Idealize.SL.Sem

variable (A : Args) (c : Dev nD) (I : In Ideal) (i : grid0.Coords)

section
variable {I}

/-- The scores are complete: the sums may start. -/
theorem InvM.toO {t : ℕ} {σ : Sc Ideal} (h : InvM I (MQ I t) t (t / 4) 4 σ) : InvO I t 0 0 σ :=
  ⟨h.hd.tab, h.sb.mono fun _ _ _ h _ _ _ => by unfold nch at h; omega, fun m b col _ h1 h2 h3 => h.mbd m b col h1 h2 h3,
    fun m b col _ h1 h2 h3 => (h.lb m b col trivial h1 h2 h3).trans (by simp [lP]), fun m b col _ h1 h2 h3 => (h.ob m b col trivial h1 h2 h3).trans (by simp [oP])⟩

theorem masked_ft (hf : FinF I (i 0).val) {k : ℕ} {σ : Sc Ideal} (h : InvS I (i 0).val k σ) {v227 v230 v234 v300 x1 x2 x3 x4 x5 x6 x7 x8 y1 y2}
    (h227 : v227 = VecWindow.window I.x3 (k0_off48 i) ![192, 128] (k0_off48_inb i)) (h230 : v230 = VecWindow.window I.x7 (k0_off49 i) ![1, 256, 128] (k0_off49_inb i))
    (h234 : v234 = VecWindow.window σ.csb ![0, 0] ![192, 128] inb_S192x128_S192x128_0_0)
    (h300 : v300 = VecWindow.window σ.csb ![0, 0] ![192, 128] inb_S192x128_S192x128_0_0)
    (g1 : x1 = VecWindow.put σ.fta (k0_off50 i 0#32) ![1, 128, 128] (ftW 0 slices_S192x128_o0_0_S48x128 slices_S192x128_o0_0_S32x128 (fW0 v227 v230 v234)))
    (g2 : x2 = VecWindow.put x1 (k0_off51 i 0#32) ![1, 128, 128] (ftW 48 slices_S192x128_o48_0_S48x128 slices_S192x128_o48_0_S32x128 (fW0 v227 v230 v234)))
    (g3 : x3 = VecWindow.put x2 (k0_off52 i 0#32) ![1, 128, 128] (ftW 96 slices_S192x128_o96_0_S48x128 slices_S192x128_o96_0_S32x128 (fW0 v227 v230 v234)))
    (g4 : x4 = VecWindow.put x3 (k0_off53 i 0#32) ![1, 128, 128] (ftW 144 slices_S192x128_o144_0_S48x128 slices_S192x128_o144_0_S32x128 (fW0 v227 v230 v234)))
    (g5 : y1 = VecWindow.put σ.ftb (k0_off54 i 0#32) ![128, 128] (ftR (fW0 v227 v230 v234)))
    (g6 : x5 = VecWindow.put x4 (k0_off50 i 128#32) ![1, 128, 128] (ftW 0 slices_S192x128_o0_0_S48x128 slices_S192x128_o0_0_S32x128 (fW1 v227 v230 v300)))
    (g7 : x6 = VecWindow.put x5 (k0_off51 i 128#32) ![1, 128, 128] (ftW 48 slices_S192x128_o48_0_S48x128 slices_S192x128_o48_0_S32x128 (fW1 v227 v230 v300)))
    (g8 : x7 = VecWindow.put x6 (k0_off52 i 128#32) ![1, 128, 128] (ftW 96 slices_S192x128_o96_0_S48x128 slices_S192x128_o96_0_S32x128 (fW1 v227 v230 v300)))
    (g9 : x8 = VecWindow.put x7 (k0_off53 i 128#32) ![1, 128, 128] (ftW 144 slices_S192x128_o144_0_S48x128 slices_S192x128_o144_0_S32x128 (fW1 v227 v230 v300)))
    (g10 : y2 = VecWindow.put y1 (k0_off54 i 128#32) ![128, 128] (ftR (fW1 v227 v230 v300))) :
    FtOk I (i 0).val ((i 0).val / 4) { σ with fta := x8, ftb := y2 } := by
  have ht : (i 0).val < 48 := (i 0).2
  have hk12 : (i 0).val / 4 < 12 := by omega
  have e0 := fW_ok h.hd (off48_eq i) (off49_eq i) h227 h230 h234
  have e1 := fW_ok h.hd (off48_eq i) (off49_eq i) h227 h230 h300
  have f0 := half_ok (o := 0) hf (Or.inl rfl) hk12 e0.1 (off50_0 i) (off51_0 i) (off52_0 i) (off53_0 i) (off54_0 i) g1 g2 g3 g4 g5
  have f1 := half_ok (o := 128) hf (Or.inr rfl) hk12 e1.2 (off50_128 i) (off51_128 i) (off52_128 i) (off53_128 i) (off54_128 i) g6 g7 g8 g9 g10
  exact ft_ok (σ := σ) f0 f1
end

set_option maxHeartbeats 4000000 in
theorem part52_spec (hf : FinF I (i 0).val) (σ : Sc Ideal) (h : (i 0).val = 0 ∨ Tab I σ) :
    WP (fam A c I) (A.app (k0_part52 (F := Ideal) i)) (fun r σ' => InvZ I (i 0).val 4 62 σ' ∧ ∃ a b, Ox I (i 0).val 2 a ∧ Ox I (i 0).val 3 b ∧ r = ⟨a, b, k0_pay295 a b⟩) σ := by
  have ht : (i 0).val < 48 := (i 0).2
  rw [k0_part52_eq_skeleton]; unfold k0_part52_skel
  refine WP.bind _ (part26_spec A c I i σ h) fun r σ h => ?_
  obtain ⟨h, a, b, v36, hv, rfl⟩ := h
  refine WP.bind _ (part27_spec A c I i σ h) fun r σ h => ?_
  obtain ⟨h, rfl⟩ := h
  have hb := bdV_ok (t := (i 0).val) hv
  have h0 : InvB I (i 0).val 0 σ := ⟨h, fun _ _ _ h => absurd h (by omega)⟩
  refine WP.bind _ (part28_spec A c i hb h0) fun r σ h => ?_
  obtain ⟨h, rfl⟩ := h
  refine WP.bind _ (part29_spec A c i hb h) fun _ σ h => ?_
  refine WP.bind _ (part30_spec A c i hb h) fun _ σ h => ?_
  refine WP.bind _ (part31_spec A c i _ h) fun r σ h => ?_
  obtain ⟨_, _, _, _, _, _⟩ := r
  refine WP.bind _ (part32_spec A c I i hf _ _ _ _ _ _ _ σ h) fun r σ h => ?_
  obtain ⟨h, a, b, v227, v230, v234, h227, h230, h234, rfl⟩ := h
  dsimp only [Args.app]
  rw [k0_part33_eq_skeleton]; unfold k0_part33_skel
  with_reducible refine WP.assoc _ (WP.loadd _ fun _ => ?_)
  with_reducible refine WP.assoc _ (WP.storeg _ fun x1 g1 => ?_)
  with_reducible refine WP.assoc _ (WP.loadd _ fun _ => ?_)
  with_reducible refine WP.assoc _ (WP.storeg _ fun x2 g2 => ?_)
  with_reducible refine WP.assoc _ (WP.loadd _ fun _ => ?_)
  with_reducible refine WP.assoc _ (WP.storeg _ fun x3 g3 => ?_)
  with_reducible refine WP.assoc _ (WP.loadd _ fun _ => ?_)
  with_reducible refine WP.assoc _ (WP.storeg _ fun x4 g4 => ?_)
  with_reducible refine WP.assoc _ (WP.loadd _ fun _ => ?_)
  with_reducible refine WP.assoc _ (WP.storeg _ fun y1 g5 => ?_)
  with_reducible refine WP.pureBind _ ?_
  rw [k0_part34_eq_skeleton]; unfold k0_part34_skel
  with_reducible refine WP.assoc _ (WP.loadg _ fun v300 h300 => ?_)
  with_reducible refine WP.assoc _ (WP.loadd _ fun _ => ?_)
  with_reducible refine WP.assoc _ (WP.storeg _ fun x5 g6 => ?_)
  with_reducible refine WP.assoc _ (WP.loadd _ fun _ => ?_)
  with_reducible refine WP.assoc _ (WP.storeg _ fun x6 g7 => ?_)
  with_reducible refine WP.assoc _ (WP.loadd _ fun _ => ?_)
  with_reducible refine WP.assoc _ (WP.storeg _ fun x7 g8 => ?_)
  with_reducible refine WP.pureBind _ ?_
  try dsimp only
  rw [k0_part35_eq_skeleton]; unfold k0_part35_skel
  with_reducible refine WP.assoc _ (WP.loadd _ fun _ => ?_)
  with_reducible refine WP.assoc _ (WP.storeg _ fun x8 g9 => ?_)
  with_reducible refine WP.assoc _ (WP.loadd _ fun _ => ?_)
  with_reducible refine WP.assoc _ (WP.storeg _ fun y2 g10 => ?_)
  have ft : FtOk I (i 0).val ((i 0).val / 4) { σ with fta := x8, ftb := y2 } := masked_ft i hf h h227 h230 h234 h300 g1 g2 g3 g4 g5 g6 g7 g8 g9 g10
  replace h := InvM.ofS (Q := MQ I (i 0).val) h ft
  with_reducible refine WP.assoc _ (WP.loadg _ fun v1 h1 => ?_)
  with_reducible refine WP.assoc _ (WP.loadg _ fun v2 h2 => ?_)
  with_reducible refine WP.assoc _ (WP.loadg _ fun v3 h3 => ?_)
  with_reducible refine WP.assoc _ (WP.loadg _ fun v4 h4 => ?_)
  with_reducible refine WP.assoc _ (WP.loadg _ fun v5 h5 => ?_)
  with_reducible refine WP.pureBind _ ?_
  try dsimp only
  rw [k0_part36_eq_skeleton]; unfold k0_part36_skel
  with_reducible refine WP.assoc _ (WP.loadg _ fun v7 h7 => ?_)
  with_reducible refine WP.assoc _ (WP.loadd _ fun _ => ?_)
  with_reducible refine WP.assoc _ (WP.storeg _ fun x hx => ?_)
  with_reducible refine WP.assoc _ (WP.loadg _ fun v6 h6 => ?_)
  with_reducible refine WP.assoc _ (WP.loadd _ fun _ => ?_)
  with_reducible refine WP.assoc _ (WP.storeg _ fun y hy => ?_)
  with_reducible refine WP.assoc _ (WP.loadg _ fun v8 h8 => ?_)
  with_reducible refine WP.assoc _ (WP.loadd _ fun _ => ?_)
  with_reducible refine WP.assoc _ (WP.storeg _ fun z hz => ?_)
  replace h := h.stepM (n := 0) (by omega) ht (off55_eq i) (off56_eq i) (off57_eq i) (off58_eq i) (off60_eq i) (off59_0 i) rfl h1 h2 h3 h4 h5 h7 hx h6 hy h8 hz
  with_reducible refine WP.pureBind _ ?_
  try dsimp only
  rw [k0_part37_eq_skeleton]; unfold k0_part37_skel
  with_reducible refine WP.assoc _ (WP.loadg _ fun v1 h1 => ?_)
  with_reducible refine WP.assoc _ (WP.loadg _ fun v2 h2 => ?_)
  with_reducible refine WP.assoc _ (WP.loadg _ fun v3 h3 => ?_)
  with_reducible refine WP.assoc _ (WP.loadg _ fun v4 h4 => ?_)
  with_reducible refine WP.assoc _ (WP.loadg _ fun v5 h5 => ?_)
  with_reducible refine WP.assoc _ (WP.loadg _ fun v7 h7 => ?_)
  with_reducible refine WP.assoc _ (WP.loadd _ fun _ => ?_)
  with_reducible refine WP.assoc _ (WP.storeg _ fun x hx => ?_)
  with_reducible refine WP.assoc _ (WP.loadg _ fun v6 h6 => ?_)
  with_reducible refine WP.pureBind _ ?_
  try dsimp only
  rw [k0_part38_eq_skeleton]; unfold k0_part38_skel
  with_reducible refine WP.assoc _ (WP.loadd _ fun _ => ?_)
  with_reducible refine WP.assoc _ (WP.storeg _ fun y hy => ?_)
  with_reducible refine WP.assoc _ (WP.loadg _ fun v8 h8 => ?_)
  with_reducible refine WP.assoc _ (WP.loadd _ fun _ => ?_)
  with_reducible refine WP.assoc _ (WP.storeg _ fun z hz => ?_)
  replace h := h.stepM (n := 1) (by omega) ht (off61_eq i) (off56_eq i) (off57_eq i) (off58_eq i) (off62_eq i) (off59_8 i) rfl h1 h2 h3 h4 h5 h7 hx h6 hy h8 hz
  with_reducible refine WP.assoc _ (WP.loadg _ fun v1 h1 => ?_)
  with_reducible refine WP.assoc _ (WP.loadg _ fun v2 h2 => ?_)
  with_reducible refine WP.assoc _ (WP.loadg _ fun v3 h3 => ?_)
  with_reducible refine WP.assoc _ (WP.loadg _ fun v4 h4 => ?_)
  with_reducible refine WP.assoc _ (WP.loadg _ fun v5 h5 => ?_)
  with_reducible refine WP.pureBind _ ?_
  try dsimp only
  rw [k0_part39_eq_skeleton]; unfold k0_part39_skel
  with_reducible refine WP.assoc _ (WP.loadg _ fun v7 h7 => ?_)
  with_reducible refine WP.assoc _ (WP.loadd _ fun _ => ?_)
  with_reducible refine WP.assoc _ (WP.storeg _ fun x hx => ?_)
  with_reducible refine WP.assoc _ (WP.loadg _ fun v6 h6 => ?_)
  with_reducible refine WP.assoc _ (WP.loadd _ fun _ => ?_)
  with_reducible refine WP.assoc _ (WP.storeg _ fun y hy => ?_)
  with_reducible refine WP.assoc _ (WP.loadg _ fun v8 h8 => ?_)
  with_reducible refine WP.assoc _ (WP.loadd _ fun _ => ?_)
  with_reducible refine WP.assoc _ (WP.storeg _ fun z hz => ?_)
  replace h := h.stepM (n := 2) (by omega) ht (off63_eq i) (off56_eq i) (off57_eq i) (off58_eq i) (off64_eq i) (off59_16 i) rfl h1 h2 h3 h4 h5 h7 hx h6 hy h8 hz
  with_reducible refine WP.pureBind _ ?_
  try dsimp only
  rw [k0_part40_eq_skeleton]; unfold k0_part40_skel
  with_reducible refine WP.assoc _ (WP.loadg _ fun v1 h1 => ?_)
  with_reducible refine WP.assoc _ (WP.loadg _ fun v2 h2 => ?_)
  with_reducible refine WP.assoc _ (WP.loadg _ fun v3 h3 => ?_)
  with_reducible refine WP.assoc _ (WP.loadg _ fun v4 h4 => ?_)
  with_reducible refine WP.assoc _ (WP.loadg _ fun v5 h5 => ?_)
  with_reducible refine WP.assoc _ (WP.loadg _ fun v7 h7 => ?_)
  with_reducible refine WP.assoc _ (WP.loadd _ fun _ => ?_)
  with_reducible refine WP.assoc _ (WP.storeg _ fun x hx => ?_)
  with_reducible refine WP.assoc _ (WP.loadg _ fun v6 h6 => ?_)
  with_reducible refine WP.pureBind _ ?_
  try dsimp only
  rw [k0_part41_eq_skeleton]; unfold k0_part41_skel
  with_reducible refine WP.assoc _ (WP.loadd _ fun _ => ?_)
  with_reducible refine WP.assoc _ (WP.storeg _ fun y hy => ?_)
  with_reducible refine WP.assoc _ (WP.loadg _ fun v8 h8 => ?_)
  with_reducible refine WP.assoc _ (WP.loadd _ fun _ => ?_)
  with_reducible refine WP.assoc _ (WP.storeg _ fun z hz => ?_)
  replace h := h.stepM (n := 3) (by omega) ht (off65_eq i) (off56_eq i) (off57_eq i) (off58_eq i) (off66_eq i) (off59_24 i) rfl h1 h2 h3 h4 h5 h7 hx h6 hy h8 hz
  have hO : InvO I (i 0).val 0 0 _ := h.toO
  with_reducible refine WP.assoc _ ?_
  refine WP.loop _ (fun n _ σ' => InvO I (i 0).val n 0 σ') hO (fun k acc σ' h' => t4_body_spec A c I i _ _ _ k acc σ' h') fun _ σ1 h => ?_
  with_reducible refine WP.assoc _ ?_
  refine WP.loop _ (fun _ _ σ' => InvO I (i 0).val (nch (i 0).val) 0 σ') (by unfold nch; rw [← t4_trips i]; exact h)
    (fun k => absurd (lt_of_lt_of_eq k.2 (t5_trips i)) (Nat.not_lt_zero _)) fun _ σ2 h => ?_
  replace h := InvZ.ofO h
  with_reducible refine WP.assoc _ (WP.loadg _ fun v585 h585 => ?_)
  with_reducible refine WP.assoc _ (WP.loadg _ fun v589 h589 => ?_)
  with_reducible refine WP.pureBind _ ?_
  try dsimp only
  have hs := h.sum' (m := 0) (by omega) rfl h585
  have ha := h.ox (m := 0) (by omega) rfl h585 h589
  refine WP.bind _ (part42_spec A c i h hs) fun r σ h => ?_
  obtain ⟨h, hb⟩ := h
  refine WP.bind _ (part43_spec A c i h) fun r σ h => ?_
  obtain ⟨x, s, y, w⟩ := r
  obtain ⟨h, hx, hs, hy, v, hv, hw⟩ := h
  dsimp only at hw hx hs hy
  subst hw
  refine WP.bind _ (part44_spec A c i h ha hb hs hv) fun r σ h => ?_
  obtain ⟨h, rfl⟩ := h
  refine WP.bind _ (part45_spec A c i h ha hb) fun r σ h => ?_
  obtain ⟨h, rfl⟩ := h
  refine WP.bind _ (part46_spec A c i h ha hb) fun r σ h => ?_
  obtain ⟨h, rfl⟩ := h
  refine WP.bind _ (part47_spec A c i h ha hb) fun r σ h => ?_
  obtain ⟨h, rfl⟩ := h
  refine WP.bind _ (part48_spec A c i h ha hb hx hy) fun r σ h => ?_
  obtain ⟨h, rfl⟩ := h
  refine WP.bind _ (part49_spec A c i h hx hy) fun r σ h => ?_
  obtain ⟨h, rfl⟩ := h
  refine WP.bind _ (part50_spec A c i h hx hy) fun r σ h => ?_
  obtain ⟨h, rfl⟩ := h
  refine WP.bind _ (part51_spec A c i h hx hy) fun r σ h => ?_
  obtain ⟨h, rfl⟩ := h
  iterate 4
    with_reducible refine WP.loadd _ fun _ => ?_
    with_reducible refine WP.storeg _ fun z hz => ?_
    replace h := h.step rfl hz hx hy
  exact WP.pure _ ⟨h, _, _, hx, hy, rfl⟩

/-- The body computes its block of both results. -/
theorem body_spec (hf : FinF I (i 0).val) (σ : Sc Ideal) (h : (i 0).val = 0 ∨ Tab I σ) :
    WP (fam A c I) (A.app (cc0_tpa_attention (F := Ideal) i)) (fun _ σ' => InvZ I (i 0).val 4 64 σ') σ := by
  rw [cc0_tpa_attention_eq_skeleton]; unfold cc0_tpa_attention_skel
  refine WP.bind _ (part52_spec A c I i hf σ h) fun r σ h => ?_
  obtain ⟨h, a, b, hx, hy, rfl⟩ := h
  iterate 2
    with_reducible refine WP.loadd _ fun _ => ?_
    with_reducible refine WP.storeg _ fun z hz => ?_
    replace h := h.step rfl hz hx hy
  exact WP.pure _ h

end Cert.Proof.KernelIdeal

end

end
-- ==== Proof.ValueI.lean ====
/- The values of `KernelIdeal`: the body is gone through at every grid point with the tables that the first point fills, and
   the results' windows are described. -/
module

public import proofs.«01_k».proof.Proof.FrameI
public import proofs.«01_k».proof.Proof.StageF
public import Idealize.ShloMosaic.Lib.Pipeline.Value
public import Idealize.ShloMosaic.Lib.Pipeline.FrameSuffix

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The tables depend on the key and value inputs only. -/
theorem Tab.congr {I J : In Ideal} {σ : Sc Ideal} (h : Tab I σ) (h5 : I.x5 = J.x5) (h6 : I.x6 = J.x6) (h8 : I.x8 = J.x8)
    (h9 : I.x9 = J.x9) (h10 : I.x10 = J.x10) (h11 : I.x11 = J.x11) (h12 : I.x12 = J.x12) : Tab J σ := by
  have e1 : akG J = akG I := by funext r u col; simp only [akG, h5, h6, h8]
  have e2 : avG J = avG I := by funext r u col; simp only [avG, h9, h10, h12]
  have e3 : bvG J = bvG I := by funext c d j; simp only [bvG, h11]
  obtain ⟨a, b, d, e⟩ := h
  exact ⟨e1 ▸ a, e2 ▸ b, e3 ▸ d, e⟩

/-- Two families of tables that only the scratch buffers distinguish are the same. -/
theorem Tab.scratch {I : In Ideal} {σ σ' : Sc Ideal} (h : Tab I σ) (h1 : σ'.akt = σ.akt) (h2 : σ'.avt = σ.avt) (h3 : σ'.bvt = σ.bvt)
    (h4 : σ'.mask = σ.mask) : Tab I σ' := by
  obtain ⟨a, b, d, e⟩ := h
  exact ⟨h1 ▸ a, h2 ▸ b, h3 ▸ d, h4 ▸ e⟩

/-- The first result's block at point `t`. -/
def outB (c : Dev nD) (t : Fin cfg0.N) : S32x4096.Idx → EReal := fun j => outG (inAt m c t) t.val (j 0).val (j 1).val
/-- The second result's. -/
def lseB (c : Dev nD) (t : Fin cfg0.N) : S1x4x256.Idx → EReal := fun j => lseG (inAt m c t) t.val (j 1).val (j 2).val

/-- The scratch buffers between two points: from the second point on the tables are filled. -/
def ΦV (c : Dev nD) (k : ℕ) : sProp 𝕄 :=
  iprop(∃ σ : Sc Ideal, ⌜k = 0 ∨ Tab (inAt m c (0 : Fin 48)) σ⌝ ∗ (owns (c : Thread nD τ) (Memref.whole cc0_scratch0) fullShare σ.akt ∗ owns (c : Thread nD τ) (Memref.whole cc0_scratch1) fullShare σ.avt ∗ owns (c : Thread nD τ) (Memref.whole cc0_scratch2) fullShare σ.bvt ∗ owns (c : Thread nD τ) (Memref.whole cc0_scratch3) fullShare σ.mask ∗ owns (c : Thread nD τ) (Memref.whole cc0_scratch4) fullShare σ.fta ∗ owns (c : Thread nD τ) (Memref.whole cc0_scratch5) fullShare σ.ftb ∗ owns (c : Thread nD τ) (Memref.whole cc0_scratch6) fullShare σ.bd ∗ owns (c : Thread nD τ) (Memref.whole cc0_scratch7) fullShare σ.sb ∗ owns (c : Thread nD τ) (Memref.whole cc0_scratch8) fullShare σ.mb ∗ owns (c : Thread nD τ) (Memref.whole cc0_scratch9) fullShare σ.lb ∗ owns (c : Thread nD τ) (Memref.whole cc0_scratch10) fullShare σ.ob ∗ owns (c : Thread nD τ) (Memref.whole cc0_scratch11) fullShare σ.csb) ∗ ∃ r, prngReg c r)

/-- The proof data: an input window keeps its block, a result's window ends with the block of the result. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outB m c t
    | ⟨13, _⟩ => lseB m c t
  Φ k := ΦV m c k.val
  q _ := fullShare
  owed _ := 0

theorem A_eqV (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = iblk m c 6 t := by dsimp only [datsV]
theorem afterV_7 (c : Dev nD) (t : Fin cfg0.N) : (datsV m 0 c).after 7 t = iblk m c 7 t := by dsimp only [datsV]
theorem afterV_8 (c : Dev nD) (t : Fin cfg0.N) : (datsV m 0 c).after 8 t = iblk m c 8 t := by dsimp only [datsV]
theorem afterV_9 (c : Dev nD) (t : Fin cfg0.N) : (datsV m 0 c).after 9 t = iblk m c 9 t := by dsimp only [datsV]
theorem afterV_10 (c : Dev nD) (t : Fin cfg0.N) : (datsV m 0 c).after 10 t = iblk m c 10 t := by dsimp only [datsV]
theorem afterV_11 (c : Dev nD) (t : Fin cfg0.N) : (datsV m 0 c).after 11 t = iblk m c 11 t := by dsimp only [datsV]
theorem afterV_12 (c : Dev nD) (t : Fin cfg0.N) : (datsV m 0 c).after 12 t = outB m c t := by dsimp only [datsV]
theorem afterV_13 (c : Dev nD) (t : Fin cfg0.N) : (datsV m 0 c).after 13 t = lseB m c t := by dsimp only [datsV]
theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d
theorem beforeV_4 (c : Dev nD) (t : Fin cfg0.N) (d) : (datsV m 0 c).before 4 t d = iblk m c 4 t :=
  before0_4_of m (datsV m 0 c) (A_eqV m c 4) (afterV_4 m c) t d
theorem beforeV_5 (c : Dev nD) (t : Fin cfg0.N) (d) : (datsV m 0 c).before 5 t d = iblk m c 5 t :=
  before0_5_of m (datsV m 0 c) (A_eqV m c 5) (afterV_5 m c) t d
theorem beforeV_6 (c : Dev nD) (t : Fin cfg0.N) (d) : (datsV m 0 c).before 6 t d = iblk m c 6 t :=
  before0_6_of m (datsV m 0 c) (A_eqV m c 6) (afterV_6 m c) t d
theorem beforeV_7 (c : Dev nD) (t : Fin cfg0.N) (d) : (datsV m 0 c).before 7 t d = iblk m c 7 t :=
  before0_7_of m (datsV m 0 c) (A_eqV m c 7) (afterV_7 m c) t d
theorem beforeV_8 (c : Dev nD) (t : Fin cfg0.N) (d) : (datsV m 0 c).before 8 t d = iblk m c 8 t :=
  before0_8_of m (datsV m 0 c) (A_eqV m c 8) (afterV_8 m c) t d
theorem beforeV_9 (c : Dev nD) (t : Fin cfg0.N) (d) : (datsV m 0 c).before 9 t d = iblk m c 9 t :=
  before0_9_of m (datsV m 0 c) (A_eqV m c 9) (afterV_9 m c) t d
theorem beforeV_10 (c : Dev nD) (t : Fin cfg0.N) (d) : (datsV m 0 c).before 10 t d = iblk m c 10 t :=
  before0_10_of m (datsV m 0 c) (A_eqV m c 10) (afterV_10 m c) t d
theorem beforeV_11 (c : Dev nD) (t : Fin cfg0.N) (d) : (datsV m 0 c).before 11 t d = iblk m c 11 t :=
  before0_11_of m (datsV m 0 c) (A_eqV m c 11) (afterV_11 m c) t d

/-- A program that runs on the 26 memrefs and leaves the results at `O` and `L` and the tables as `T` says. -/
theorem run_val (A : Args) (c : Dev nD) (I : In Ideal) {p : Prog (TpuEff nD τ sig (Elt Ideal) Λ₀ .tc) PUnit} (σ : Sc Ideal) (T : Sc Ideal → Prop) (O L)
    (h : WP (fam A c I) p (fun _ σ' => T σ' ∧ σ'.out = O ∧ σ'.lse = L) σ) :
    (iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare σ.out ∗ owns (c : Thread nD τ) A.a14 fullShare σ.lse ∗ owns (c : Thread nD τ) A.a15 fullShare σ.akt ∗ owns (c : Thread nD τ) A.a16 fullShare σ.avt ∗ owns (c : Thread nD τ) A.a17 fullShare σ.bvt ∗ owns (c : Thread nD τ) A.a18 fullShare σ.mask ∗ owns (c : Thread nD τ) A.a19 fullShare σ.fta ∗ owns (c : Thread nD τ) A.a20 fullShare σ.ftb ∗ owns (c : Thread nD τ) A.a21 fullShare σ.bd ∗ owns (c : Thread nD τ) A.a22 fullShare σ.sb ∗ owns (c : Thread nD τ) A.a23 fullShare σ.mb ∗ owns (c : Thread nD τ) A.a24 fullShare σ.lb ∗ owns (c : Thread nD τ) A.a25 fullShare σ.ob ∗ owns (c : Thread nD τ) A.a26 fullShare σ.csb) : sProp 𝕄) ⊢ wp frame (wpE (defs₀ (F := Ideal)) Variants.none (c : Thread nD τ) none) Set.univ p
      (fun _ => iprop(owns (c : Thread nD τ) A.a1 fullShare I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare O ∗ owns (c : Thread nD τ) A.a14 fullShare L ∗ ∃ σ2 : Sc Ideal, ⌜T σ2⌝ ∗ owns (c : Thread nD τ) A.a15 fullShare σ2.akt ∗ owns (c : Thread nD τ) A.a16 fullShare σ2.avt ∗ owns (c : Thread nD τ) A.a17 fullShare σ2.bvt ∗ owns (c : Thread nD τ) A.a18 fullShare σ2.mask ∗ owns (c : Thread nD τ) A.a19 fullShare σ2.fta ∗ owns (c : Thread nD τ) A.a20 fullShare σ2.ftb ∗ owns (c : Thread nD τ) A.a21 fullShare σ2.bd ∗ owns (c : Thread nD τ) A.a22 fullShare σ2.sb ∗ owns (c : Thread nD τ) A.a23 fullShare σ2.mb ∗ owns (c : Thread nD τ) A.a24 fullShare σ2.lb ∗ owns (c : Thread nD τ) A.a25 fullShare σ2.ob ∗ owns (c : Thread nD τ) A.a26 fullShare σ2.csb)) := by
  have h' := h
  unfold WP at h'
  simp only [fam_own] at h'
  refine h'.trans (wp_mono frame (wpE (defs₀ (F := Ideal)) Variants.none (c : Thread nD τ) none) Set.univ fun _ => ?_)
  iintro ⟨%σ', %hT, H1, H2, H3, H4, H5, H6, H7, H8, H9, H10, H11, H12, H13, H14, H15, H16, H17, H18, H19, H20, H21, H22, H23, H24, H25, H26⟩
  obtain ⟨hT, hO, hL⟩ := hT
  subst hO hL
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists σ'
  isplitr [H15 H16 H17 H18 H19 H20 H21 H22 H23 H24 H25 H26]; · ipureintro; exact hT
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

def bodyPreV (c : Dev nD) (t : Fin cfg0.N) : sProp 𝕄 :=
  iprop((datsV m 0 c).Φ t.castSucc ∗ (datsV m 0 c).owesAt () t.castSucc ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)) ∗ (∃ d, owns (c : Thread nD τ) (st0_3 t) fullShare ((datsV m 0 c).before 3 t d)) ∗ (∃ d, owns (c : Thread nD τ) (st0_4 t) fullShare ((datsV m 0 c).before 4 t d)) ∗ (∃ d, owns (c : Thread nD τ) (st0_5 t) fullShare ((datsV m 0 c).before 5 t d)) ∗ (∃ d, owns (c : Thread nD τ) (st0_6 t) fullShare ((datsV m 0 c).before 6 t d)) ∗ (∃ d, owns (c : Thread nD τ) (st0_7 t) fullShare ((datsV m 0 c).before 7 t d)) ∗ (∃ d, owns (c : Thread nD τ) (st0_8 t) fullShare ((datsV m 0 c).before 8 t d)) ∗ (∃ d, owns (c : Thread nD τ) (st0_9 t) fullShare ((datsV m 0 c).before 9 t d)) ∗ (∃ d, owns (c : Thread nD τ) (st0_10 t) fullShare ((datsV m 0 c).before 10 t d)) ∗ (∃ d, owns (c : Thread nD τ) (st0_11 t) fullShare ((datsV m 0 c).before 11 t d)) ∗ (∃ d, owns (c : Thread nD τ) (st0_12 t) fullShare ((datsV m 0 c).before 12 t d)) ∗ (∃ d, owns (c : Thread nD τ) (st0_13 t) fullShare ((datsV m 0 c).before 13 t d)))

/-- What it leaves. -/
def bodyPostV (c : Dev nD) (t : Fin cfg0.N) : sProp 𝕄 :=
  iprop((datsV m 0 c).Φ t.succ ∗ (datsV m 0 c).owesAt () t.succ ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t) ∗ owns (c : Thread nD τ) (st0_3 t) fullShare ((datsV m 0 c).after 3 t) ∗ owns (c : Thread nD τ) (st0_4 t) fullShare ((datsV m 0 c).after 4 t) ∗ owns (c : Thread nD τ) (st0_5 t) fullShare ((datsV m 0 c).after 5 t) ∗ owns (c : Thread nD τ) (st0_6 t) fullShare ((datsV m 0 c).after 6 t) ∗ owns (c : Thread nD τ) (st0_7 t) fullShare ((datsV m 0 c).after 7 t) ∗ owns (c : Thread nD τ) (st0_8 t) fullShare ((datsV m 0 c).after 8 t) ∗ owns (c : Thread nD τ) (st0_9 t) fullShare ((datsV m 0 c).after 9 t) ∗ owns (c : Thread nD τ) (st0_10 t) fullShare ((datsV m 0 c).after 10 t) ∗ owns (c : Thread nD τ) (st0_11 t) fullShare ((datsV m 0 c).after 11 t) ∗ owns (c : Thread nD τ) (st0_12 t) fullShare ((datsV m 0 c).after 12 t) ∗ owns (c : Thread nD τ) (st0_13 t) fullShare ((datsV m 0 c).after 13 t))

theorem coords_val : ∀ t : Fin cfg0.N, (grid0.coords t 0).val = t.val := by decide +kernel

theorem out_eq (c : Dev nD) (t : Fin cfg0.N) {σ : Sc Ideal} (h : InvZ (inAt m c t) t.val 4 64 σ) : σ.out = outB m c t := by
  refine ext2 fun i j hi hj => ?_
  rw [h.out i j (by omega) hi hj, rd2_eq hi hj]; rfl

theorem lse_eq (c : Dev nD) (t : Fin cfg0.N) {σ : Sc Ideal} (h : InvZ (inAt m c t) t.val 4 64 σ) : σ.lse = lseB m c t := by
  refine ext3 fun i j k hi hj hk => ?_
  rw [h.lse i j k (by omega) hi hj hk, rd3_eq hi hj hk]; rfl

/-- The body at point `t`, on the tables the first point filled. -/
theorem sound_bodyV (c : Dev nD) (t : Fin cfg0.N) (hf : FinF (inAt m c t) t.val)
    (hI : ∀ σ, Tab (inAt m c (0 : Fin 48)) σ ↔ Tab (inAt m c t) σ) :
    bodyPreV m c t ⊢ wp frame (wpE (defs₀ (F := Ideal)) Variants.none c none) Set.univ (bodyAt0 t) (fun _ => bodyPostV m c t) := by
  unfold bodyPreV bodyPostV
  simp only [beforeV_0, beforeV_1, beforeV_2, beforeV_3, beforeV_4, beforeV_5, beforeV_6, beforeV_7, beforeV_8, beforeV_9, beforeV_10, beforeV_11]
  rw [show (datsV m 0 c).Φ t.succ = ΦV m c (t.val + 1) from rfl, show (datsV m 0 c).Φ t.castSucc = ΦV m c t.val from rfl,
    show (datsV m 0 c).owesAt () t.succ = (datsV m 0 c).owesAt () t.castSucc from rfl,
    afterV_0, afterV_1, afterV_2, afterV_3, afterV_4, afterV_5, afterV_6, afterV_7, afterV_8, afterV_9, afterV_10, afterV_11, afterV_12, afterV_13]
  unfold ΦV
  iintro ⟨⟨%σ, %hσ, ⟨S0, S1, S2, S3, S4, S5, S6, S7, S8, S9, S10, S11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hw := body_spec (argsAt t) c (inAt m c t) (grid0.coords t) (by rw [coords_val]; exact hf)
    ⟨(datsV m 0 c).before 12 t d12, (datsV m 0 c).before 13 t d13, σ.akt, σ.avt, σ.bvt, σ.mask, σ.fta, σ.ftb, σ.bd, σ.sb, σ.mb, σ.lb, σ.ob, σ.csb⟩
    (by rw [coords_val]; exact hσ.imp_right fun h => ((hI σ).1 h).scratch rfl rfl rfl rfl)
  rw [coords_val] at hw
  have h := run_val (argsAt t) c (inAt m c t) _ (Tab (inAt m c (0 : Fin 48))) (outB m c t) (lseB m c t)
    (WP.mono _ hw fun _ σ' h => ⟨(hI σ').2 h.tab, out_eq m c t h, lse_eq m c t h⟩)
  · dsimp only [argsAt, inAt] at h
    iapply (wp_wand_r frame (wpE (defs₀ (F := Ideal)) Variants.none (c : Thread nD τ) none) Set.univ)
    isplitl [H0 H1 H2 H3 H4 H5 H6 H7 H8 H9 H10 H11 H12 H13 S0 S1 S2 S3 S4 S5 S6 S7 S8 S9 S10 S11]
    · iapply h
      iframe H0 H1 H2 H3 H4 H5 H6 H7 H8 H9 H10 H11 H12 H13 S0 S1 S2 S3 S4 S5 S6 S7 S8 S9 S10 S11
    · iintro %a ⟨H0, H1, H2, H3, H4, H5, H6, H7, H8, H9, H10, H11, H12, H13, ⟨%σ2, %hT, S0, S1, S2, S3, S4, S5, S6, S7, S8, S9, S10, S11⟩⟩
      iframe Ho H0 H1 H2 H3 H4 H5 H6 H7 H8 H9 H10 H11 H12 H13
      iexists σ2
      isplitr [S0 S1 S2 S3 S4 S5 S6 S7 S8 S9 S10 S11 Hp]; · ipureintro; exact .inr hT
      iframe Hp S0 S1 S2 S3 S4 S5 S6 S7 S8 S9 S10 S11

/-- The library's body obligation. -/
theorem body_obligationV (c : Dev nD) (hf : ∀ t : Fin cfg0.N, FinF (inAt m c t) t.val)
    (hI : ∀ (t : Fin cfg0.N) σ, Tab (inAt m c (0 : Fin 48)) σ ↔ Tab (inAt m c t) σ) :
    BodyObligationLoose (datsV m 0 c) (defs₀ (F := Ideal)) Variants.none () Set.univ := fun t => by
  rw [bigSep_W0, bigSep_W0, defs₀_row]
  exact triple_restated (sound_bodyV m c t (hf t) (hI t)) rfl .rfl fun _ => .rfl

theorem hin (c : Dev nD) : Pipeline.ΦA spec0 c ⊢ (datsV m 0 c).Φ 0 := by
  rw [show (datsV m 0 c).Φ 0 = ΦV m c 0 from rfl]
  unfold Pipeline.ΦA ΦV
  rw [scratch_owns]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, Hp⟩
  iexists (⟨fun _ => (0 : EReal), fun _ => (0 : EReal), f0, f1, f2, f3, f4, f5, f6, f7, f8, f9, f10, f11⟩ : Sc Ideal)
  isplitr [S0 S1 S2 S3 S4 S5 S6 S7 S8 S9 S10 S11 Hp]; · ipureintro; exact .inl rfl
  isplitr [Hp]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  · iexact Hp

theorem hout (c : Dev nD) : (datsV m 0 c).Φ (Fin.last cfg0.N) ⊢ Pipeline.ΦA spec0 c := by
  rw [show (datsV m 0 c).Φ (Fin.last cfg0.N) = ΦV m c cfg0.N from rfl]
  unfold Pipeline.ΦA ΦV
  rw [scratch_owns]
  iintro ⟨%σ, -, ⟨S0, S1, S2, S3, S4, S5, S6, S7, S8, S9, S10, S11⟩, Hp⟩
  isplitr [Hp]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  · iexact Hp

set_option backward.isDefEq.respectTransparency.types false in
set_option maxHeartbeats 800000 in
/-- The launch, with the results described. -/
theorem run_mainV (hf : ∀ c, ∀ t : Fin cfg0.N, FinF (inAt m c t) t.val)
    (hI : ∀ c, ∀ (t : Fin cfg0.N) σ, Tab (inAt m c (0 : Fin 48)) σ ↔ Tab (inAt m c t) σ) :
    θ_run defs (onTc (τ := τ) (main (F := Ideal))) (s₀ m ρ)
      (fun r => Pipeline.FramePost cfgs (datsV m) 0 (Pipeline.afterTail₀ cfgs (datsV m) 0 (V0 m) [hostOps1]) r) :=
  Pipeline.θ_run_frame_around_track (Q' := _) cfgs (datsV m) (0 : Fin 1) launch0 defs₀ Variants.none m ρ main
    (hbody := fun c => body_obligationV m c (hf c) (hI c)) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hin := hin m) (hout := hout m) (hQ' := fun _ h => h.1)

end Cert.Proof.KernelIdeal

end

end
-- ==== Proof.HostI.lean ====
/-
  The kernel's host operations: what each window of its region holds, as reshapes and transposes of the arguments, and the
  entries of those.
-/
module

public import proofs.«01_k».proof.Proof.Eqn
public import proofs.«01_k».proof.Proof.ValueI

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- The region's operand `main_v4`. -/
theorem hostV4 : V m c main_v4 = shapeCast S9216x32 (m ((c.tc : Thread nD τ).loc main_arg0)) shapeCasts_S1x1536x6x32_S9216x32 := by
  show StableHlo.after (List.flatten [hostOps0]) _ (Proc.devRef .tc main_v4) = _
  simp only [hostOps0, List.flatten_cons, List.flatten_nil, List.append_nil, List.cons_append, List.nil_append]
  after_results_simp
  rfl

/-- The region's operand `main_v5`. -/
theorem hostV5 : V m c main_v5 = shapeCast S9216x128 (m ((c.tc : Thread nD τ).loc main_arg2)) shapeCasts_S1x1536x6x128_S9216x128 := by
  show StableHlo.after (List.flatten [hostOps0]) _ (Proc.devRef .tc main_v5) = _
  simp only [hostOps0, List.flatten_cons, List.flatten_nil, List.append_nil, List.cons_append, List.nil_append]
  after_results_simp
  rfl

/-- The region's operand `main_v6`. -/
theorem hostV6 : V m c main_v6 = shapeCast S48x1x192 (m ((c.tc : Thread nD τ).loc main_arg1)) shapeCasts_S1x1536x6_S48x1x192 := by
  show StableHlo.after (List.flatten [hostOps0]) _ (Proc.devRef .tc main_v6) = _
  simp only [hostOps0, List.flatten_cons, List.flatten_nil, List.append_nil, List.cons_append, List.nil_append]
  after_results_simp
  rfl

/-- The region's operand `main_v7`. -/
theorem hostV7 : V m c main_v7 = shapeCast S48x1x192 (m ((c.tc : Thread nD τ).loc main_arg3)) shapeCasts_S1x1536x6_S48x1x192 := by
  show StableHlo.after (List.flatten [hostOps0]) _ (Proc.devRef .tc main_v7) = _
  simp only [hostOps0, List.flatten_cons, List.flatten_nil, List.append_nil, List.cons_append, List.nil_append]
  after_results_simp
  rfl

/-- The region's operand `main_v9`. -/
theorem hostV9 : V m c main_v9 = transpose S2x1536x32 [1, 0, 2] (shapeCast S1536x2x32 (m ((c.tc : Thread nD τ).loc main_arg4)) shapeCasts_S1x1536x2x32_S1536x2x32) transposes_S1536x2x32_S2x1536x32_1_0_2 := by
  show StableHlo.after (List.flatten [hostOps0]) _ (Proc.devRef .tc main_v9) = _
  simp only [hostOps0, List.flatten_cons, List.flatten_nil, List.append_nil, List.cons_append, List.nil_append]
  after_results_simp
  rfl

/-- The region's operand `main_v11`. -/
theorem hostV11 : V m c main_v11 = transpose S2x1536x32 [1, 0, 2] (shapeCast S1536x2x32 (m ((c.tc : Thread nD τ).loc main_arg8)) shapeCasts_S1x1536x2x32_S1536x2x32) transposes_S1536x2x32_S2x1536x32_1_0_2 := by
  show StableHlo.after (List.flatten [hostOps0]) _ (Proc.devRef .tc main_v11) = _
  simp only [hostOps0, List.flatten_cons, List.flatten_nil, List.append_nil, List.cons_append, List.nil_append]
  after_results_simp
  rfl

/-- The region's operand `main_v13`. -/
theorem hostV13 : V m c main_v13 = transpose S2x1536x128 [1, 0, 2] (shapeCast S1536x2x128 (m ((c.tc : Thread nD τ).loc main_arg10)) shapeCasts_S1x1536x2x128_S1536x2x128) transposes_S1536x2x128_S2x1536x128_1_0_2 := by
  show StableHlo.after (List.flatten [hostOps0]) _ (Proc.devRef .tc main_v13) = _
  simp only [hostOps0, List.flatten_cons, List.flatten_nil, List.append_nil, List.cons_append, List.nil_append]
  after_results_simp
  rfl

/-- The region's operand `main_v16`. -/
theorem hostV16 : V m c main_v16 = shapeCast S12x256x128 (transpose S12x2x128x128 [0, 2, 1, 3] (shapeCast S12x128x2x128 (m ((c.tc : Thread nD τ).loc main_arg6)) shapeCasts_S1x1536x2x128_S12x128x2x128) transposes_S12x128x2x128_S12x2x128x128_0_2_1_3) shapeCasts_S12x2x128x128_S12x256x128 := by
  show StableHlo.after (List.flatten [hostOps0]) _ (Proc.devRef .tc main_v16) = _
  simp only [hostOps0, List.flatten_cons, List.flatten_nil, List.append_nil, List.cons_append, List.nil_append]
  after_results_simp
  rfl

/-- The region's operand `main_v19`. -/
theorem hostV19 : V m c main_v19 = shapeCast S2x12x1x128 (transpose S2x1536 [1, 0] (shapeCast S1536x2 (m ((c.tc : Thread nD τ).loc main_arg5)) shapeCasts_S1x1536x2_S1536x2) transposes_S1536x2_S2x1536_1_0) shapeCasts_S2x1536_S2x12x1x128 := by
  show StableHlo.after (List.flatten [hostOps0]) _ (Proc.devRef .tc main_v19) = _
  simp only [hostOps0, List.flatten_cons, List.flatten_nil, List.append_nil, List.cons_append, List.nil_append]
  after_results_simp
  rfl

/-- The region's operand `main_v22`. -/
theorem hostV22 : V m c main_v22 = shapeCast S2x12x1x128 (transpose S2x1536 [1, 0] (shapeCast S1536x2 (m ((c.tc : Thread nD τ).loc main_arg7)) shapeCasts_S1x1536x2_S1536x2) transposes_S1536x2_S2x1536_1_0) shapeCasts_S2x1536_S2x12x1x128 := by
  show StableHlo.after (List.flatten [hostOps0]) _ (Proc.devRef .tc main_v22) = _
  simp only [hostOps0, List.flatten_cons, List.flatten_nil, List.append_nil, List.cons_append, List.nil_append]
  after_results_simp
  rfl

/-- The region's operand `main_v25`. -/
theorem hostV25 : V m c main_v25 = shapeCast S2x12x1x128 (transpose S2x1536 [1, 0] (shapeCast S1536x2 (m ((c.tc : Thread nD τ).loc main_arg9)) shapeCasts_S1x1536x2_S1536x2) transposes_S1536x2_S2x1536_1_0) shapeCasts_S2x1536_S2x12x1x128 := by
  show StableHlo.after (List.flatten [hostOps0]) _ (Proc.devRef .tc main_v25) = _
  simp only [hostOps0, List.flatten_cons, List.flatten_nil, List.append_nil, List.cons_append, List.nil_append]
  after_results_simp
  rfl

/-- The region's operand `main_v28`. -/
theorem hostV28 : V m c main_v28 = shapeCast S2x12x1x128 (transpose S2x1536 [1, 0] (shapeCast S1536x2 (m ((c.tc : Thread nD τ).loc main_arg11)) shapeCasts_S1x1536x2_S1536x2) transposes_S1536x2_S2x1536_1_0) shapeCasts_S2x1536_S2x12x1x128 := by
  show StableHlo.after (List.flatten [hostOps0]) _ (Proc.devRef .tc main_v28) = _
  simp only [hostOps0, List.flatten_cons, List.flatten_nil, List.append_nil, List.cons_append, List.nil_append]
  after_results_simp
  rfl

end Cert.Proof.KernelIdeal
end
end
-- ==== Proof.LayI.lean ====
/-
  The entries of the reshapes and transposes by which the kernel's host operations lay out the arguments.
-/
module

public import proofs.«01_k».proof.Proof.Eqn

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.ShloMosaic.Pipeline (Dat Cfg Window)

/-- The query codes, 32 to a row. -/
theorem lay1_32 (x : S1x1536x6x32.Idx → EReal) {r d : ℕ} (hr : r < 9216) (hd : d < 32) :
    rd2 (shapeCast S9216x32 x shapeCasts_S1x1536x6x32_S9216x32) r d = rd4 x 0 (r / 6) (r % 6) d := by
  rw [rd2_eq hr hd]
  pointwise
  exact (fin4 ..).trans (by congr 1 <;> first | omega | (dsimp only; omega))

/-- The query codes, 128 to a row. -/
theorem lay1_128 (x : S1x1536x6x128.Idx → EReal) {r d : ℕ} (hr : r < 9216) (hd : d < 128) :
    rd2 (shapeCast S9216x128 x shapeCasts_S1x1536x6x128_S9216x128) r d = rd4 x 0 (r / 6) (r % 6) d := by
  rw [rd2_eq hr hd]
  pointwise
  exact (fin4 ..).trans (by congr 1 <;> first | omega | (dsimp only; omega))

/-- The query scales, by blocks of thirty-two tokens. -/
theorem lay2 (x : S1x1536x6.Idx → EReal) {t q : ℕ} (ht : t < 48) (hq : q < 192) :
    rd3 (shapeCast S48x1x192 x shapeCasts_S1x1536x6_S48x1x192) t 0 q = rd3 x 0 ((192 * t + q) / 6) ((192 * t + q) % 6) := by
  rw [rd3_eq ht Nat.one_pos hq]
  pointwise
  exact (fin3 ..).trans (by congr 1 <;> first | omega | (dsimp only; omega))

/-- Key or value codes of 32 features, by ranks. -/
theorem lay5_32 (x : S1x1536x2x32.Idx → EReal) {r u d : ℕ} (hr : r < 2) (hu : u < 1536) (hd : d < 32) :
    rd3 (transpose S2x1536x32 [1, 0, 2] (shapeCast S1536x2x32 x shapeCasts_S1x1536x2x32_S1536x2x32) transposes_S1536x2x32_S2x1536x32_1_0_2) r u d = rd4 x 0 u r d := by
  rw [rd3_eq hr hu hd]
  pointwise
  exact (fin4 ..).trans (by congr 1 <;> first | omega | (dsimp only; omega))

/-- Key or value codes of 128 features, by ranks. -/
theorem lay5_128 (x : S1x1536x2x128.Idx → EReal) {r u d : ℕ} (hr : r < 2) (hu : u < 1536) (hd : d < 128) :
    rd3 (transpose S2x1536x128 [1, 0, 2] (shapeCast S1536x2x128 x shapeCasts_S1x1536x2x128_S1536x2x128) transposes_S1536x2x128_S2x1536x128_1_0_2) r u d = rd4 x 0 u r d := by
  rw [rd3_eq hr hu hd]
  pointwise
  exact (fin4 ..).trans (by congr 1 <;> first | omega | (dsimp only; omega))

/-- Key or value scales, by ranks and blocks of 128 tokens. -/
theorem lay6 (x : S1x1536x2.Idx → EReal) {r c k : ℕ} (hr : r < 2) (hc : c < 12) (hk : k < 128) :
    rd4 (shapeCast S2x12x1x128 (transpose S2x1536 [1, 0] (shapeCast S1536x2 x shapeCasts_S1x1536x2_S1536x2) transposes_S1536x2_S2x1536_1_0) shapeCasts_S2x1536_S2x12x1x128) r c 0 k = rd3 x 0 (128 * c + k) r := by
  rw [rd4_eq hr hc Nat.one_pos hk]
  pointwise
  exact (fin3 ..).trans (by congr 1 <;> first | omega | (dsimp only; omega))

/-- The key feature codes, by blocks of 128 tokens and ranks within them. -/
theorem lay7 (x : S1x1536x2x128.Idx → EReal) {c y d : ℕ} (hc : c < 12) (hy : y < 256) (hd : d < 128) :
    rd3 (shapeCast S12x256x128 (transpose S12x2x128x128 [0, 2, 1, 3] (shapeCast S12x128x2x128 x shapeCasts_S1x1536x2x128_S12x128x2x128) transposes_S12x128x2x128_S12x2x128x128_0_2_1_3) shapeCasts_S12x2x128x128_S12x256x128) c y d = rd4 x 0 (128 * c + y % 128) (y / 128) d := by
  rw [rd3_eq hc hy hd]
  pointwise
  exact (fin4 ..).trans (by congr 1 <;> first | omega | (dsimp only; omega))

end Cert.Proof.KernelIdeal
end
end
-- ==== Proof.ReadI.lean ====
/-
  What each grid point's blocks hold of the arguments.
-/
module

public import Idealize.ShloMosaic.Lib.Pipeline.ValueKit
public import proofs.«01_k».proof.Proof.HostI
public import proofs.«01_k».proof.Proof.LayI

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem idxW0 : ∀ t : Fin cfg0.N, win0_0.index t = ![0, 0] := (by decide +kernel : ∀ t : Fin grid0.N, _)
theorem blkW0 (t : Fin cfg0.N) : iblk m c 0 t = V m c main_v4 := by
  funext y
  unfold iblk
  rw [View.read_apply]
  show V m c main_v4 _ = V m c main_v4 y
  congr 1
  blk_ext [idxW0]

theorem idxW2 : ∀ t : Fin cfg0.N, win0_2.index t = ![0, 0] := (by decide +kernel : ∀ t : Fin grid0.N, _)
theorem blkW2 (t : Fin cfg0.N) : iblk m c 2 t = V m c main_v5 := by
  funext y
  unfold iblk
  rw [View.read_apply]
  show V m c main_v5 _ = V m c main_v5 y
  congr 1
  blk_ext [idxW2]

theorem idxW4 : ∀ t : Fin cfg0.N, win0_4.index t = ![0, 0, 0] := (by decide +kernel : ∀ t : Fin grid0.N, _)
theorem blkW4 (t : Fin cfg0.N) : iblk m c 4 t = V m c main_v9 := by
  funext y
  unfold iblk
  rw [View.read_apply]
  show V m c main_v9 _ = V m c main_v9 y
  congr 1
  blk_ext [idxW4]

theorem idxW5 : ∀ t : Fin cfg0.N, win0_5.index t = ![0, 0, 0, 0] := (by decide +kernel : ∀ t : Fin grid0.N, _)
theorem blkW5 (t : Fin cfg0.N) : iblk m c 5 t = V m c main_v19 := by
  funext y
  unfold iblk
  rw [View.read_apply]
  show V m c main_v19 _ = V m c main_v19 y
  congr 1
  blk_ext [idxW5]

theorem idxW6 : ∀ t : Fin cfg0.N, win0_6.index t = ![0, 0, 0] := (by decide +kernel : ∀ t : Fin grid0.N, _)
theorem blkW6 (t : Fin cfg0.N) : iblk m c 6 t = V m c main_v16 := by
  funext y
  unfold iblk
  rw [View.read_apply]
  show V m c main_v16 _ = V m c main_v16 y
  congr 1
  blk_ext [idxW6]

theorem idxW7 : ∀ t : Fin cfg0.N, win0_7.index t = ![0, 0, 0, 0] := (by decide +kernel : ∀ t : Fin grid0.N, _)
theorem blkW7 (t : Fin cfg0.N) : iblk m c 7 t = V m c main_v22 := by
  funext y
  unfold iblk
  rw [View.read_apply]
  show V m c main_v22 _ = V m c main_v22 y
  congr 1
  blk_ext [idxW7]

theorem idxW8 : ∀ t : Fin cfg0.N, win0_8.index t = ![0, 0, 0] := (by decide +kernel : ∀ t : Fin grid0.N, _)
theorem blkW8 (t : Fin cfg0.N) : iblk m c 8 t = V m c main_v11 := by
  funext y
  unfold iblk
  rw [View.read_apply]
  show V m c main_v11 _ = V m c main_v11 y
  congr 1
  blk_ext [idxW8]

theorem idxW9 : ∀ t : Fin cfg0.N, win0_9.index t = ![0, 0, 0, 0] := (by decide +kernel : ∀ t : Fin grid0.N, _)
theorem blkW9 (t : Fin cfg0.N) : iblk m c 9 t = V m c main_v25 := by
  funext y
  unfold iblk
  rw [View.read_apply]
  show V m c main_v25 _ = V m c main_v25 y
  congr 1
  blk_ext [idxW9]

theorem idxW10 : ∀ t : Fin cfg0.N, win0_10.index t = ![0, 0, 0] := (by decide +kernel : ∀ t : Fin grid0.N, _)
theorem blkW10 (t : Fin cfg0.N) : iblk m c 10 t = V m c main_v13 := by
  funext y
  unfold iblk
  rw [View.read_apply]
  show V m c main_v13 _ = V m c main_v13 y
  congr 1
  blk_ext [idxW10]

theorem idxW11 : ∀ t : Fin cfg0.N, win0_11.index t = ![0, 0, 0, 0] := (by decide +kernel : ∀ t : Fin grid0.N, _)
theorem blkW11 (t : Fin cfg0.N) : iblk m c 11 t = V m c main_v28 := by
  funext y
  unfold iblk
  rw [View.read_apply]
  show V m c main_v28 _ = V m c main_v28 y
  congr 1
  blk_ext [idxW11]

theorem idxW1 : ∀ t : Fin cfg0.N, win0_1.index t = ![(grid0.coords t 0).val, 0, 0] := (by decide +kernel : ∀ t : Fin grid0.N, _)
theorem blkW1 (t : Fin cfg0.N) {q : ℕ} (hq : q < 192) : rd3 (A := 1) (B := 1) (C := 192) (iblk m c 1 t) 0 0 q = rd3 (A := 48) (B := 1) (C := 192) (V m c main_v6) t.val 0 q := by
  have ht : t.val < 48 := t.isLt
  rw [rd3_eq Nat.one_pos Nat.one_pos hq, rd3_eq ht Nat.one_pos hq]
  unfold iblk
  rw [View.read_apply]
  show V m c main_v6 _ = V m c main_v6 _
  congr 1
  blk_ext [idxW1, coords_val]

theorem idxW3 : ∀ t : Fin cfg0.N, win0_3.index t = ![(grid0.coords t 0).val, 0, 0] := (by decide +kernel : ∀ t : Fin grid0.N, _)
theorem blkW3 (t : Fin cfg0.N) {q : ℕ} (hq : q < 192) : rd3 (A := 1) (B := 1) (C := 192) (iblk m c 3 t) 0 0 q = rd3 (A := 48) (B := 1) (C := 192) (V m c main_v7) t.val 0 q := by
  have ht : t.val < 48 := t.isLt
  rw [rd3_eq Nat.one_pos Nat.one_pos hq, rd3_eq ht Nat.one_pos hq]
  unfold iblk
  rw [View.read_apply]
  show V m c main_v7 _ = V m c main_v7 _
  congr 1
  blk_ext [idxW3, coords_val]

/-- The arguments as functions of numbers. -/
def argD : Data := Data.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem reads_x1 (t : Fin cfg0.N) {r d : ℕ} (hr : r < 9216) (hd : d < 32) :
    rd2 (A := 9216) (B := 32) (iblk m c 0 t) r d = (argD m c).qa (r / 6) (r % 6) d := by
  rw [blkW0, hostV4]
  exact lay1_32 _ hr hd
theorem reads_x3 (t : Fin cfg0.N) {r d : ℕ} (hr : r < 9216) (hd : d < 128) :
    rd2 (A := 9216) (B := 128) (iblk m c 2 t) r d = (argD m c).qb (r / 6) (r % 6) d := by
  rw [blkW2, hostV5]
  exact lay1_128 _ hr hd
theorem reads_x5 (t : Fin cfg0.N) {r u d : ℕ} (hr : r < 2) (hu : u < 1536) (hd : d < 32) :
    rd3 (A := 2) (B := 1536) (C := 32) (iblk m c 4 t) r u d = (argD m c).ka u r d := by
  rw [blkW4, hostV9]
  exact lay5_32 _ hr hu hd
theorem reads_x6 (t : Fin cfg0.N) {r k x : ℕ} (hr : r < 2) (hc : k < 12) (hx : x < 128) :
    rd4 (A := 2) (B := 12) (C := 1) (D := 128) (iblk m c 5 t) r k 0 x = (argD m c).kas (128 * k + x) r := by
  rw [blkW5, hostV19]
  exact lay6 _ hr hc hx
theorem reads_x7 (t : Fin cfg0.N) {k y d : ℕ} (hc : k < 12) (hy : y < 256) (hd : d < 128) :
    rd3 (A := 12) (B := 256) (C := 128) (iblk m c 6 t) k y d = (argD m c).kb (128 * k + y % 128) (y / 128) d := by
  rw [blkW6, hostV16]
  exact lay7 _ hc hy hd
theorem reads_x8 (t : Fin cfg0.N) {r k x : ℕ} (hr : r < 2) (hc : k < 12) (hx : x < 128) :
    rd4 (A := 2) (B := 12) (C := 1) (D := 128) (iblk m c 7 t) r k 0 x = (argD m c).kbs (128 * k + x) r := by
  rw [blkW7, hostV22]
  exact lay6 _ hr hc hx
theorem reads_x9 (t : Fin cfg0.N) {r u d : ℕ} (hr : r < 2) (hu : u < 1536) (hd : d < 32) :
    rd3 (A := 2) (B := 1536) (C := 32) (iblk m c 8 t) r u d = (argD m c).va u r d := by
  rw [blkW8, hostV11]
  exact lay5_32 _ hr hu hd
theorem reads_x10 (t : Fin cfg0.N) {r k x : ℕ} (hr : r < 2) (hc : k < 12) (hx : x < 128) :
    rd4 (A := 2) (B := 12) (C := 1) (D := 128) (iblk m c 9 t) r k 0 x = (argD m c).vas (128 * k + x) r := by
  rw [blkW9, hostV25]
  exact lay6 _ hr hc hx
theorem reads_x11 (t : Fin cfg0.N) {r u d : ℕ} (hr : r < 2) (hu : u < 1536) (hd : d < 128) :
    rd3 (A := 2) (B := 1536) (C := 128) (iblk m c 10 t) r u d = (argD m c).vb u r d := by
  rw [blkW10, hostV13]
  exact lay5_128 _ hr hu hd
theorem reads_x12 (t : Fin cfg0.N) {r k x : ℕ} (hr : r < 2) (hc : k < 12) (hx : x < 128) :
    rd4 (A := 2) (B := 12) (C := 1) (D := 128) (iblk m c 11 t) r k 0 x = (argD m c).vbs (128 * k + x) r := by
  rw [blkW11, hostV28]
  exact lay6 _ hr hc hx
theorem reads_x2 (t : Fin cfg0.N) {q : ℕ} (hq : q < 192) :
    rd3 (A := 1) (B := 1) (C := 192) (iblk m c 1 t) 0 0 q = (argD m c).qas ((192 * t.val + q) / 6) ((192 * t.val + q) % 6) := by
  refine (blkW1 m c t hq).trans ?_
  rw [hostV6]
  exact lay2 _ t.isLt hq
theorem reads_x4 (t : Fin cfg0.N) {q : ℕ} (hq : q < 192) :
    rd3 (A := 1) (B := 1) (C := 192) (iblk m c 3 t) 0 0 q = (argD m c).qbs ((192 * t.val + q) / 6) ((192 * t.val + q) % 6) := by
  refine (blkW3 m c t hq).trans ?_
  rw [hostV7]
  exact lay2 _ t.isLt hq

set_option maxHeartbeats 2000000 in
/-- The blocks of grid point `t` are the arguments' entries. -/
theorem reads (t : Fin cfg0.N) : Reads (inAt m c t) t.val (argD m c) where
  x1 _ _ hr hd := reads_x1 m c t hr hd
  x3 _ _ hr hd := reads_x3 m c t hr hd
  x5 _ _ _ hr hu hd := reads_x5 m c t hr hu hd
  x6 _ _ _ hr hc hx := reads_x6 m c t hr hc hx
  x7 _ _ _ hc hy hd := reads_x7 m c t hc hy hd
  x8 _ _ _ hr hc hx := reads_x8 m c t hr hc hx
  x9 _ _ _ hr hu hd := reads_x9 m c t hr hu hd
  x10 _ _ _ hr hc hx := reads_x10 m c t hr hc hx
  x11 _ _ _ hr hu hd := reads_x11 m c t hr hu hd
  x12 _ _ _ hr hc hx := reads_x12 m c t hr hc hx
  x2 _ hq := reads_x2 m c t hq
  x4 _ hq := reads_x4 m c t hq

set_option maxHeartbeats 2000000 in
/-- The blocks that the tables are built from are the same at every grid point. -/
theorem tab_same (t : Fin cfg0.N) (σ : Sc Ideal) : Tab (inAt m c (0 : Fin 48)) σ ↔ Tab (inAt m c t) σ := by
  have h (s u : Fin cfg0.N) : Tab (inAt m c s) σ → Tab (inAt m c u) σ := fun h =>
    h.congr ((blkW4 m c s).trans (blkW4 m c u).symm) ((blkW5 m c s).trans (blkW5 m c u).symm) ((blkW7 m c s).trans (blkW7 m c u).symm)
      ((blkW8 m c s).trans (blkW8 m c u).symm) ((blkW9 m c s).trans (blkW9 m c u).symm) ((blkW10 m c s).trans (blkW10 m c u).symm)
      ((blkW11 m c s).trans (blkW11 m c u).symm)
  exact ⟨h _ _, h _ _⟩

end Cert.Proof.KernelIdeal
end
end
-- ==== Proof.Soft.lean ====
/-
  The softmax and the two results: what the kernel computes from the scores is what the reference computes.
-/
module

public import proofs.«01_k».proof.Proof.Eqn

@[expose] public section

noncomputable section

namespace Cert.Proof.KernelIdeal.Soft

open Cert.KernelIdeal Cert.KernelIdeal.Gen Cert.Proof.Step Cert.Proof.Rd
open Idealize.ShloMosaic

/-- The largest score of a token's row as a real number. -/
def mR (D : Data) (T h : ℕ) : ℝ := (Finset.range (T + 1)).sup' ⟨0, by simp⟩ (scR D T h)
/-- The weights as real numbers. -/
def wR (D : Data) (T h u : ℕ) : ℝ := if u ≤ T then Real.exp (scR D T h u - mR D T h) else 0
/-- Their sum. -/
def lR (D : Data) (T h : ℕ) : ℝ := ∑ u ∈ Finset.range 1536, wR D T h u

theorem lR_pos (D : Data) {T h : ℕ} (hT : T < 1536) : 0 < lR D T h := by
  unfold lR
  refine Finset.sum_pos' (fun u _ => ?_) ⟨0, Finset.mem_range.2 (by omega), ?_⟩
  · unfold wR; split_ifs; exacts [(Real.exp_pos _).le, le_rfl]
  · rw [wR, if_pos (by omega)]; exact Real.exp_pos _

/-- Keys that the mask leaves out may be dropped from a sum. -/
theorem sum_cut {M : Type} [AddCommMonoid M] {N T : ℕ} (hN : N ≤ 1536) (hT : T < N) {f : ℕ → M} (hf : ∀ u, T < u → f u = 0) :
    ∑ u ∈ Finset.range N, f u = ∑ u ∈ Finset.range 1536, f u := by
  refine Finset.sum_subset (fun u hu => Finset.mem_range.2 ((Finset.mem_range.1 hu).trans_le hN)) fun u _ hu => hf u ?_
  have : ¬ u < N := fun h => hu (Finset.mem_range.2 h)
  omega

section
variable {D : Data} (hD : D.Real) {T h : ℕ} (hT : T < 1536)

include hD in
theorem scm_eq (u : ℕ) : D.scm T h u = if u ≤ T then (scR D T h u : EReal) else ⊥ := by rw [Data.scm, sc_eq hD]

include hD hT in
theorem mx_eq : D.mx T h = (mR D T h : EReal) := sup_masked hT fun u _ => scm_eq hD u

include hD hT in
theorem w_eq (u : ℕ) : D.w T h u = (wR D T h u : EReal) := by
  unfold Data.w wR
  rw [mx_eq hD hT, scm_eq hD]
  split_ifs
  · rw [← EReal.coe_sub, Ideal.exp_coe]
  · rw [EReal.bot_sub, Ideal.exp_bot, EReal.coe_zero]

include hD hT in
theorem l_eq : D.l T h = (lR D T h : EReal) := by
  unfold Data.l lR
  rw [coe_sum, Finset.sum_range]
  exact Finset.sum_congr rfl fun u _ => w_eq hD hT u

include hD hT in
theorem lse_eqR : D.lse T h = ((mR D T h + Real.log (lR D T h) : ℝ) : EReal) := by
  rw [Data.lse, mx_eq hD hT, l_eq hD hT, Ideal.log_coe, if_neg (lR_pos D hT).not_ge, EReal.coe_add]

/-- The weighted values of one key rank. -/
def yR (D : Data) (k T h d u : ℕ) : EReal := D.vb u k d * ((wR D T h u : EReal) * (D.va u k h * (D.vas u k * D.vbs u k * HALF)))

theorem yR_cut (k d : ℕ) (u : ℕ) (hu : T < u) : yR D k T h d u = 0 := by
  rw [yR, wR, if_neg (by omega), EReal.coe_zero, zero_mul, mul_zero]

include hD hT in
theorem out_eqR (d : ℕ) : D.out T h d = ((∑ u ∈ Finset.range 1536, yR D 0 T h d u) + ∑ u ∈ Finset.range 1536, yR D 1 T h d u) * ((1 / lR D T h : ℝ) : EReal) := by
  have hl := lR_pos D hT (h := h)
  have hi : (0 : ℝ) ≤ 1 / lR D T h := by positivity
  rw [EReal.right_distrib_of_nonneg_of_ne_top (by exact_mod_cast hi) (EReal.coe_ne_top _), sum_mul_coe _ _ hi, sum_mul_coe _ _ hi, Data.out,
    Finset.sum_range, Finset.sum_range]
  congr 1 <;> refine Finset.sum_congr rfl fun u _ => ?_
  all_goals
    rw [w_eq hD hT, l_eq hD hT, Ideal.div_coe hl.ne', yR, Data.av]
    show _ * (_ * (_ * HALF)) * _ = _
    ac_rfl

variable {I : In Ideal} {t : ℕ} (hR : Reads I t D) (ht : t < 48)

include hD hR ht in
theorem smG_eq {n u col : ℕ} (hn : n < 4) (hu : u < 1536) (hcol : col < 256) :
    smG I t n u col = if u ≤ 32 * t + 8 * n + col % 8 then ((scR D (32 * t + 8 * n + col % 8) (col / 8) u * (Real.log 2)⁻¹ : ℝ) : EReal) else ⊥ := by
  unfold smG
  rw [sG_eq hR hD ht hn hu hcol]
  split_ifs with h1 h2 h2
  · omega
  · rw [EReal.add_bot]
  · rw [add_zero]
  · omega

include hD hR ht in
theorem mG_eq {n col : ℕ} (hn : n < 4) (hcol : col < 256) :
    mG I t n col = ((mR D (32 * t + 8 * n + col % 8) (col / 8) * (Real.log 2)⁻¹ : ℝ) : EReal) := by
  have hk : (0 : ℝ) ≤ (Real.log 2)⁻¹ := inv_nonneg.2 (Real.log_nonneg (by norm_num))
  unfold mG mR
  rw [← sup_scaled _ hk]
  refine sup_masked (by unfold nch; omega) fun u hu => ?_
  exact smG_eq hD hR ht hn (by unfold nch at hu; omega) hcol

include hD hR ht in
theorem pG_eq {n u col : ℕ} (hn : n < 4) (hu : u < 1536) (hcol : col < 256) :
    pG I t n u col = (wR D (32 * t + 8 * n + col % 8) (col / 8) u : EReal) := by
  unfold pG wR
  rw [mG_eq hD hR ht hn hcol, smG_eq hD hR ht hn hu hcol]
  split_ifs
  · rw [← EReal.coe_sub, Ideal.exp2_coe, ← sub_mul]
    congr 1
    show (2 : ℝ) ^ (_ : ℝ) = _
    rw [Real.rpow_def_of_pos (by norm_num)]
    congr 1
    have : Real.log 2 ≠ 0 := (Real.log_pos (by norm_num)).ne'
    field_simp
  · rw [EReal.bot_sub, Ideal.exp2_bot, EReal.coe_zero]

include hD hR ht in
theorem lG_eq {n col : ℕ} (hn : n < 4) (hcol : col < 256) :
    lG I t n col = (lR D (32 * t + 8 * n + col % 8) (col / 8) : EReal) := by
  unfold lG lP lR
  rw [← sum_cut (N := 128 * nch t) (T := 32 * t + 8 * n + col % 8) (by unfold nch; omega) (by unfold nch; omega)
    (fun u hu => by rw [wR, if_neg (by omega)]), coe_sum, sum_blocks, Finset.sum_comm]
  refine Finset.sum_congr rfl fun c hc => ?_
  have hc : c < 12 := by have := Finset.mem_range.1 hc; unfold nch at this; omega
  rw [show (128 : ℕ) = 8 * 16 from rfl, sum_blocks, Finset.sum_comm, Finset.sum_range]
  refine Finset.sum_congr rfl fun a _ => ?_
  rw [Finset.sum_range]
  refine Finset.sum_congr rfl fun sub _ => ?_
  have ha := a.2
  have hs := sub.2
  rw [Nat.mul_comm a.val 8]
  exact pG_eq hD hR ht hn (by omega) hcol

include hD hR ht in
theorem avG_eq {r u col : ℕ} (hr : r < 2) (hu : u < 1536) (hcol : col < 256) :
    avG I r u col = D.va u r (col / 8) * (D.vas u r * D.vbs u r * HALF) := by
  unfold avG
  rw [hR.x9 _ _ _ hr hu (by omega), hR.x10 _ _ _ hr (by omega) (by omega), hR.x12 _ _ _ hr (by omega) (by omega), show 128 * (u / 128) + u % 128 = u by omega]

include hD hR ht in
theorem oP_eq {n d col : ℕ} (hn : n < 4) (hd : d < 128) (hcol : col < 256) :
    oP I t (nch t) n d col = (∑ u ∈ Finset.range 1536, yR D 0 (32 * t + 8 * n + col % 8) (col / 8) d u)
      + ∑ u ∈ Finset.range 1536, yR D 1 (32 * t + 8 * n + col % 8) (col / 8) d u := by
  have hN : 128 * nch t ≤ 1536 := by unfold nch; omega
  have hT : 32 * t + 8 * n + col % 8 < 128 * nch t := by unfold nch; omega
  unfold oP
  rw [← sum_cut hN hT (yR_cut (D := D) 0 d), ← sum_cut hN hT (yR_cut (D := D) 1 d), sum_blocks, sum_blocks, ← Finset.sum_add_distrib]
  refine Finset.sum_congr rfl fun c hc => ?_
  have hc : c < 12 := by have := Finset.mem_range.1 hc; unfold nch at this; omega
  rw [Finset.sum_range, Finset.sum_range]
  congr 1 <;> refine Finset.sum_congr rfl fun x _ => ?_
  all_goals
    have hx := x.2
    rw [hR.x11 _ _ _ (by omega) (by omega) hd, pG_eq hD hR ht hn (by omega) hcol, avG_eq hD hR ht (by omega) (by omega) hcol]
    rfl

include hD hR ht in
/-- The second result. -/
theorem lseG_eq {n col : ℕ} (hn : n < 4) (hcol : col < 256) : lseG I t n col = D.lse (32 * t + 8 * n + col % 8) (col / 8) := by
  have hT : 32 * t + 8 * n + col % 8 < 1536 := by omega
  rw [lse_eqR hD hT, lseG, mG_eq hD hR ht hn hcol, lG_eq hD hR ht hn hcol, Ideal.log_coe, if_neg (lR_pos D hT).not_ge, LOG2E_eq, LN2_eq,
    ← EReal.coe_mul, ← EReal.coe_add, ← EReal.coe_mul]
  congr 1
  have : Real.log 2 ≠ 0 := (Real.log_pos (by norm_num)).ne'
  field_simp

include hD hR ht in
/-- The first result. -/
theorem outG_eq {row col : ℕ} (hrow : row < 32) (hcol : col < 4096) : outG I t row col = D.out (32 * t + row) (col / 128) (col % 128) := by
  have hT : 32 * t + row < 1536 := by omega
  have e : 32 * t + 8 * (row / 8) + (8 * (col / 128) + row % 8) % 8 = 32 * t + row := by omega
  have e' : (8 * (col / 128) + row % 8) / 8 = col / 128 := by omega
  rw [out_eqR hD hT, outG, oP_eq hD hR ht (by omega) (by omega) (by omega), lG_eq hD hR ht (by omega) (by omega), e, e', Ideal.div_coe (lR_pos D hT).ne', one_mul]
end

end Cert.Proof.KernelIdeal.Soft

end

end
-- ==== Proof.ResI.lean ====
/-
  The kernel's result arrays: the blocks written back over the grid are the outputs and the log-sum-exps of the attention.
-/
module

public import Idealize.ShloMosaic.Lib.Pipeline.ValueKit
public import proofs.«01_k».proof.Proof.ReadI
public import proofs.«01_k».proof.Proof.Soft

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem idxW12 : ∀ t : Fin cfg0.N, win0_12.index t = ![(grid0.coords t 0).val, 0] := (by decide +kernel : ∀ t : Fin grid0.N, _)
theorem idxW13 : ∀ t : Fin cfg0.N, win0_13.index t = ![(grid0.coords t 0).val, 0, 0] := (by decide +kernel : ∀ t : Fin grid0.N, _)

/-- The outputs, a row per token. -/
def outA (D : Data) : S1536x4096.Idx → EReal := fun j => D.out (j 0).val ((j 1).val / 128) ((j 1).val % 128)
/-- The log-sum-exps as the region writes them: thirty-two tokens to a block, eight to a row of it, and the heads of a row in turn. -/
def lseA (D : Data) : S48x4x256.Idx → EReal := fun j => D.lse (32 * (j 0).val + 8 * (j 1).val + (j 2).val % 8) ((j 2).val / 8)

/-- A block of outputs is rows of the whole. -/
theorem outB_eq (hD : (argD m c).Real) (t : Fin cfg0.N) (y : S32x4096.Idx) :
    outB m c t y = (argD m c).out (32 * t.val + (y 0).val) ((y 1).val / 128) ((y 1).val % 128) :=
  Soft.outG_eq hD (reads m c t) t.isLt (y 0).isLt (y 1).isLt
theorem lseB_eq (hD : (argD m c).Real) (t : Fin cfg0.N) (y : S1x4x256.Idx) :
    lseB m c t y = (argD m c).lse (32 * t.val + 8 * (y 1).val + (y 2).val % 8) ((y 2).val / 8) :=
  Soft.lseG_eq hD (reads m c t) t.isLt (y 1).isLt (y 2).isLt

theorem arr12 (hD : (argD m c).Real) : (datsV m 0 c).arrAt 12 cfg0.N = outA (argD m c) := by
  refine (datsV m 0 c).arrAt_eq_of_covers 12 _ (by decide +kernel) fun t hf y => ?_
  blk_simp
  rw [afterV_12]
  refine (outB_eq m c hD t y).trans ?_
  unfold outA
  blk_simp [idxW12, coords_val]
  rw [Nat.mul_comm]

theorem arr13 (hD : (argD m c).Real) : (datsV m 0 c).arrAt 13 cfg0.N = lseA (argD m c) := by
  refine (datsV m 0 c).arrAt_eq_of_covers 13 _ (by decide +kernel) fun t hf y => ?_
  blk_simp
  rw [afterV_13]
  refine (lseB_eq m c hD t y).trans ?_
  unfold lseA
  blk_simp [idxW13, coords_val]

end Cert.Proof.KernelIdeal
end
end
-- ==== Proof.KRun.lean ====
/-
  The run of the kernel: its two results are the outputs and the log-sum-exps of the attention over the arguments, and the
  arguments keep their contents.
-/
module

public import Idealize.ShloMosaic.Lib.Pipeline.ValueKit
public import proofs.«01_k».proof.Proof.ResI

@[expose] public section

set_option maxRecDepth 16384

noncomputable section

namespace Cert.Proof.KernelIdeal

open Cert.KernelIdeal Cert.KernelIdeal.Gen Cert.Proof.Step Cert.Proof.Rd
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- The first result: token, then head and feature. -/
def outT (D : Data) : S1x1536x4096.Idx → EReal := fun j => D.out (j 1).val ((j 2).val / 128) ((j 2).val % 128)
/-- The second result: head, then token. -/
def lseT (D : Data) : S1x32x1536.Idx → EReal := fun j => D.lse (j 2).val (j 1).val

/-- The outputs under a leading axis of one. -/
theorem out_host (D : Data) : broadcastInDim S1x1536x4096 ![1, 2] bcast_S1536x4096_S1x1536x4096_1_2 (outA D) = outT D := by
  funext j
  obtain ⟨i, t, k, rfl⟩ : ∃ i t k, j = ix3 i t k := ⟨_, _, _, eq_ix3 j⟩
  rw [Subsingleton.elim i 0]
  pointwise
  rfl

/-- The log-sum-exps brought from the region's order to heads and tokens. -/
theorem lse_host (D : Data) : shapeCast S1x32x1536 (transpose S32x192x8 [1, 0, 2] (shapeCast S192x32x8 (lseA D) shapeCasts_S48x4x256_S192x32x8) transposes_S192x32x8_S32x192x8_1_0_2) shapeCasts_S32x192x8_S1x32x1536 = lseT D := by
  funext j
  obtain ⟨i, ⟨h, hh⟩, ⟨t, ht⟩, rfl⟩ : ∃ i h t, j = ix3 i h t := ⟨_, _, _, eq_ix3 j⟩
  rw [Subsingleton.elim i 0]
  pointwise
  show D.lse (32 * (t / 8 / 4) + 8 * (t / 8 % 4) + (h * 8 + t % 8) % 8) ((h * 8 + t % 8) / 8) = D.lse t h
  congr 1 <;> omega

theorem tail_out (hD : (argD m c).Real) : Pipeline.afterTail₀ cfgs (datsV m) 0 (V0 m) [hostOps1] c main_v32 = outT (argD m c) := by
  rw [← out_host, ← arr12 m c hD]
  unfold Pipeline.afterTail₀
  simp only [hostOps1, List.flatten_cons, List.flatten_nil, List.append_nil, List.cons_append, List.nil_append]
  after_results
  exact congrArg _ (Pipeline.withArrays_arr spec0 Gen.launch0.win.arr_inj c (Gen.V0 m c) _ 12)

theorem tail_lse (hD : (argD m c).Real) : Pipeline.afterTail₀ cfgs (datsV m) 0 (V0 m) [hostOps1] c main_v33 = lseT (argD m c) := by
  rw [← lse_host, ← arr13 m c hD]
  unfold Pipeline.afterTail₀
  simp only [hostOps1, List.flatten_cons, List.flatten_nil, List.append_nil, List.cons_append, List.nil_append]
  after_results
  rw [Pipeline.withArrays_arr spec0 Gen.launch0.win.arr_inj c (Gen.V0 m c) _ 13]
  rfl

/-- The kernel runs to those results, its arguments unchanged. -/
theorem run_kernel (hD : ∀ c, (argD m c).Real) : θ_run defs (onTc (τ := τ) (main (F := Ideal))) ⟨m, fun _ => 0, ρ⟩ fun r => ∀ c : Dev nD,
    r.2.mem ((c.tc : Thread nD τ).loc main_v32) = outT (argD m c)
    ∧ r.2.mem ((c.tc : Thread nD τ).loc main_v33) = lseT (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine (θ_run defs _ _).mono (fun r h c => ?_)
    (run_mainV m ρ (fun c t => finF_of (reads m c t) (hD c) t.isLt) (fun c t σ => tab_same m c t σ))
  exact ⟨(h.rest_eq c main_v32 (Pipeline.mem_restRefs_of main_v32 (by decide) (by decide))).trans (tail_out m c (hD c)),
    (h.rest_eq c main_v33 (Pipeline.mem_restRefs_of main_v33 (by decide) (by decide))).trans (tail_lse m c (hD c)),
    (h.rest_eq c main_arg0 (Pipeline.mem_restRefs_of main_arg0 (by decide) (by decide))).trans (W_main_arg0 m (datsV m) c),
    (h.rest_eq c main_arg1 (Pipeline.mem_restRefs_of main_arg1 (by decide) (by decide))).trans (W_main_arg1 m (datsV m) c),
    (h.rest_eq c main_arg2 (Pipeline.mem_restRefs_of main_arg2 (by decide) (by decide))).trans (W_main_arg2 m (datsV m) c),
    (h.rest_eq c main_arg3 (Pipeline.mem_restRefs_of main_arg3 (by decide) (by decide))).trans (W_main_arg3 m (datsV m) c),
    (h.rest_eq c main_arg4 (Pipeline.mem_restRefs_of main_arg4 (by decide) (by decide))).trans (W_main_arg4 m (datsV m) c),
    (h.rest_eq c main_arg5 (Pipeline.mem_restRefs_of main_arg5 (by decide) (by decide))).trans (W_main_arg5 m (datsV m) c),
    (h.rest_eq c main_arg6 (Pipeline.mem_restRefs_of main_arg6 (by decide) (by decide))).trans (W_main_arg6 m (datsV m) c),
    (h.rest_eq c main_arg7 (Pipeline.mem_restRefs_of main_arg7 (by decide) (by decide))).trans (W_main_arg7 m (datsV m) c),
    (h.rest_eq c main_arg8 (Pipeline.mem_restRefs_of main_arg8 (by decide) (by decide))).trans (W_main_arg8 m (datsV m) c),
    (h.rest_eq c main_arg9 (Pipeline.mem_restRefs_of main_arg9 (by decide) (by decide))).trans (W_main_arg9 m (datsV m) c),
    (h.rest_eq c main_arg10 (Pipeline.mem_restRefs_of main_arg10 (by decide) (by decide))).trans (W_main_arg10 m (datsV m) c),
    (h.rest_eq c main_arg11 (Pipeline.mem_restRefs_of main_arg11 (by decide) (by decide))).trans (W_main_arg11 m (datsV m) c)⟩

end Cert.Proof.KernelIdeal
end
end
-- ==== Proof.RefI.lean ====
/-
  The reference's results, read at an index.
-/
module

public import proofs.«01_k».proof.Proof.Data
public import proofs.«01_k».proof.Proof.Gen.ReferenceIdeal.Read

@[expose] public section

set_option maxRecDepth 16384

noncomputable section

namespace Cert.Proof.Ref

open Cert.ReferenceIdeal Cert.ReferenceIdeal.Read Cert.Proof.Rd
open Idealize.ShloMosaic Idealize.ShloMosaic.Tactic

variable (x1 x3 : S1x1536x6.Idx → EReal) (x5 x7 x9 x11 : S1x1536x2.Idx → EReal)
  (r0 : S1x1536x6x32.Idx → EReal) (r1 : S1x1536x6x128.Idx → EReal) (r2 : S1x1536x2x32.Idx → EReal) (r3 : S1x1536x2x128.Idx → EReal)
  (r4 : S1x1536x2x32.Idx → EReal) (r5 : S1x1536x2x128.Idx → EReal)

variable {h t u : ℕ} (hh : h < 32) (ht : t < 1536) (hu : u < 1536)

theorem ext4 {A B C D : ℕ} {x y : (⟨4, ![A, B, C, D]⟩ : Shape).Idx → EReal}
    (h : ∀ i j k l, i < A → j < B → k < C → l < D → rd4 x i j k l = rd4 y i j k l) : x = y := by
  funext j; rw [eq_ix4 j]
  exact (fin4 x (j 0) (j 1) (j 2) (j 3)).trans ((h _ _ _ _ (j 0).2 (j 1).2 (j 2).2 (j 3).2).trans (fin4 y (j 0) (j 1) (j 2) (j 3)).symm)

theorem ranks0 : val_main_v97 (F := Ideal) x1 x3 x7 r0 r1 r3 (ix4 0 ⟨h, hh⟩ ⟨t, ht⟩ ⟨u, hu⟩) = Data.rkS (Data.of r0 x1 r1 x3 r2 x5 r3 x7 r4 x9 r5 x11) 0 t h u := by
  pointwise [val_main_cst_0, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97]
  simp only [fin2, fin3, fin4]
  rfl

theorem ranks1 : val_main_v165 (F := Ideal) x1 x3 x7 r0 r1 r3 (ix4 0 ⟨h, hh⟩ ⟨t, ht⟩ ⟨u, hu⟩) = Data.rkS (Data.of r0 x1 r1 x3 r2 x5 r3 x7 r4 x9 r5 x11) 1 t h u := by
  pointwise [val_main_cst_2, val_main_v22, val_main_v23, val_main_v24, val_main_v25, val_main_v26, val_main_v27, val_main_v28, val_main_v29, val_main_v30, val_main_v31, val_main_v32, val_main_v33, val_main_v34, val_main_v35, val_main_v36, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165]
  simp only [fin2, fin3, fin4]
  rfl

theorem keys0 : val_main_v101 (F := Ideal) x5 r2 (ix4 0 ⟨h, hh⟩ ⟨t, ht⟩ ⟨u, hu⟩) = Data.ka (Data.of r0 x1 r1 x3 r2 x5 r3 x7 r4 x9 r5 x11) u 0 h * Data.kas (Data.of r0 x1 r1 x3 r2 x5 r3 x7 r4 x9 r5 x11) u 0 := by
  pointwise [val_main_v5, val_main_v6, val_main_v7, val_main_v8, val_main_v98, val_main_v99, val_main_v100, val_main_v101]
  simp only [fin3, fin4]
  rfl
theorem keys1 : val_main_v169 (F := Ideal) x5 r2 (ix4 0 ⟨h, hh⟩ ⟨t, ht⟩ ⟨u, hu⟩) = Data.ka (Data.of r0 x1 r1 x3 r2 x5 r3 x7 r4 x9 r5 x11) u 1 h * Data.kas (Data.of r0 x1 r1 x3 r2 x5 r3 x7 r4 x9 r5 x11) u 1 := by
  pointwise [val_main_v5, val_main_v6, val_main_v7, val_main_v8, val_main_v166, val_main_v167, val_main_v168, val_main_v169]
  simp only [fin3, fin4]
  rfl
theorem zeros : val_main_v103 (F := Ideal) (ix4 0 ⟨h, hh⟩ ⟨t, ht⟩ ⟨u, hu⟩) = (0 : EReal) := by
  pointwise [val_main_v103, val_main_cst_1]
theorem factor : val_main_v174 (F := Ideal) (ix4 0 ⟨h, hh⟩ ⟨t, ht⟩ ⟨u, hu⟩)
    = Ideal.sqrt (Ideal.ofBits .f32 0x43000000#32) * Ideal.ofBits .f32 0x41400000#32 := by
  pointwise [val_main_v174, val_main_v173, val_main_v172, val_main_cst_3, val_main_cst_4]

theorem scores : val_main_v175 (F := Ideal) x1 x3 x5 x7 r0 r1 r2 r3 (ix4 0 ⟨h, hh⟩ ⟨t, ht⟩ ⟨u, hu⟩) = Data.sc (Data.of r0 x1 r1 x3 r2 x5 r3 x7 r4 x9 r5 x11) t h u := by
  rw [val_main_v175_apply, val_main_v171_apply, val_main_v104_apply, val_main_v102_apply, val_main_v170_apply,
    ranks0 x1 x3 x5 x7 x9 x11 r0 r1 r2 r3 r4 r5, ranks1 x1 x3 x5 x7 x9 x11 r0 r1 r2 r3 r4 r5,
    keys0 x1 x3 x5 x7 x9 x11 r0 r1 r2 r3 r4 r5, keys1 x1 x3 x5 x7 x9 x11 r0 r1 r2 r3 r4 r5, zeros, factor]
  simp only [FloatOps.addf, FloatOps.mulf, FloatOps.divf]
  unfold Data.sc
  rw [zero_add]
  rfl

theorem masked : val_main_v182 (F := Ideal) x1 x3 x5 x7 r0 r1 r2 r3 (ix4 0 ⟨h, hh⟩ ⟨t, ht⟩ ⟨u, hu⟩) = Data.scm (Data.of r0 x1 r1 x3 r2 x5 r3 x7 r4 x9 r5 x11) t h u := by
  have e0 := scores x1 x3 x5 x7 x9 x11 r0 r1 r2 r3 r4 r5 hh ht hu
  unfold val_main_v182
  generalize val_main_v175 (F := Ideal) x1 x3 x5 x7 r0 r1 r2 r3 = y0 at *
  pointwise [val_main_cst_5, val_main_call0_v0, val_main_call0_v1, val_main_call0_v2, val_main_v176, val_main_v177, val_main_v178, val_main_v179, val_main_v180, val_main_v181]
  rw [e0, WordCmp.cmpi_sle_ofNat (by omega) (by omega)]
  unfold Data.scm Scalar.select
  by_cases hc : u ≤ t
  · rw [if_pos hc]; simp [hc]
  · rw [if_neg hc]; simp [hc, Ideal.ofBits, Ideal.ieee, constant]

theorem maxed : val_main_v183 (F := Ideal) x1 x3 x5 x7 r0 r1 r2 r3 (ix3 0 ⟨h, hh⟩ ⟨t, ht⟩) = Data.mx (Data.of r0 x1 r1 x3 r2 x5 r3 x7 r4 x9 r5 x11) t h := by
  have e0 := fun u hu => masked x1 x3 x5 x7 x9 x11 r0 r1 r2 r3 r4 r5 hh ht (u := u) hu
  unfold val_main_v183
  generalize val_main_v182 (F := Ideal) x1 x3 x5 x7 r0 r1 r2 r3 = y0 at *
  pointwise [val_main_cst_6]
  rw [show (Ideal.ofBits FTy.f32 4286578688#32) = ⊥ from by simp [Ideal.ofBits, Ideal.ieee]]
  apply le_antisymm
  · refine (Finset.fold_max_le _).2 ⟨bot_le, fun k _ => ?_⟩
    rw [e0 k.val k.2]
    exact Finset.le_sup (f := fun u => Data.scm (Data.of r0 x1 r1 x3 r2 x5 r3 x7 r4 x9 r5 x11) t h u) (Finset.mem_range.2 k.2)
  · refine Finset.sup_le fun u hu => ?_
    have hu := Finset.mem_range.1 hu
    refine (e0 u hu).symm.le.trans ((Finset.le_fold_max _).2 (.inr ⟨⟨u, hu⟩, Finset.mem_univ _, le_rfl⟩))

theorem weights : val_main_v187 (F := Ideal) x1 x3 x5 x7 r0 r1 r2 r3 (ix4 0 ⟨h, hh⟩ ⟨t, ht⟩ ⟨u, hu⟩) = Data.w (Data.of r0 x1 r1 x3 r2 x5 r3 x7 r4 x9 r5 x11) t h u := by
  have e0 := masked x1 x3 x5 x7 x9 x11 r0 r1 r2 r3 r4 r5 hh ht hu
  have e1 := maxed x1 x3 x5 x7 x9 x11 r0 r1 r2 r3 r4 r5 hh ht
  unfold val_main_v187 val_main_v186 val_main_v185 val_main_v184
  generalize val_main_v182 (F := Ideal) x1 x3 x5 x7 r0 r1 r2 r3 = y0 at *
  generalize val_main_v183 (F := Ideal) x1 x3 x5 x7 r0 r1 r2 r3 = y1 at *
  pointwise
  rw [e0, e1]
  rfl

theorem summed : val_main_v188 (F := Ideal) x1 x3 x5 x7 r0 r1 r2 r3 (ix3 0 ⟨h, hh⟩ ⟨t, ht⟩) = Data.l (Data.of r0 x1 r1 x3 r2 x5 r3 x7 r4 x9 r5 x11) t h := by
  have e0 := fun u hu => weights x1 x3 x5 x7 x9 x11 r0 r1 r2 r3 r4 r5 hh ht (u := u) hu
  unfold val_main_v188
  generalize val_main_v187 (F := Ideal) x1 x3 x5 x7 r0 r1 r2 r3 = y0 at *
  pointwise [val_main_cst_7]
  exact Finset.sum_congr rfl fun k _ => e0 k.val k.2

theorem lse_read : val_main_v194 (F := Ideal) x1 x3 x5 x7 r0 r1 r2 r3 (ix3 0 ⟨h, hh⟩ ⟨t, ht⟩) = Data.lse (Data.of r0 x1 r1 x3 r2 x5 r3 x7 r4 x9 r5 x11) t h := by
  have e0 := summed x1 x3 x5 x7 x9 x11 r0 r1 r2 r3 r4 r5 hh ht
  have e1 := maxed x1 x3 x5 x7 x9 x11 r0 r1 r2 r3 r4 r5 hh ht
  have i0 : idx_main_v194 (ix3 0 ⟨h, hh⟩ ⟨t, ht⟩) = ix4 0 ⟨h, hh⟩ ⟨t, ht⟩ 0 := by
    funext a
    apply Fin.ext
    match a with
    | ⟨0, _⟩ => rfl
    | ⟨1, _⟩ => show (((0 : ℕ) * 32 + h) * 1536 + t) / 1536 % 32 = h; omega
    | ⟨2, _⟩ => show (((0 : ℕ) * 32 + h) * 1536 + t) / 1 % 1536 = t; omega
    | ⟨3, _⟩ => rfl
  have i1 : idx_main_v184 (ix4 0 ⟨h, hh⟩ ⟨t, ht⟩ 0) = ix3 0 ⟨h, hh⟩ ⟨t, ht⟩ := by
    funext a
    match a with
    | ⟨0, _⟩ => rfl
    | ⟨1, _⟩ => rfl
    | ⟨2, _⟩ => rfl
  have i2 : idx_main_v189 (ix4 0 ⟨h, hh⟩ ⟨t, ht⟩ 0) = ix3 0 ⟨h, hh⟩ ⟨t, ht⟩ := i1
  rw [val_main_v194_apply, i0, val_main_v193_apply, val_main_v192_apply, val_main_v189_apply, val_main_v184_apply, i1, i2, e0, e1]
  unfold Data.lse
  rfl

theorem probs : val_main_v191 (F := Ideal) x1 x3 x5 x7 r0 r1 r2 r3 (ix4 0 ⟨h, hh⟩ ⟨t, ht⟩ ⟨u, hu⟩) = Ideal.div (Data.w (Data.of r0 x1 r1 x3 r2 x5 r3 x7 r4 x9 r5 x11) t h u) (Data.l (Data.of r0 x1 r1 x3 r2 x5 r3 x7 r4 x9 r5 x11) t h) := by
  have e0 := weights x1 x3 x5 x7 x9 x11 r0 r1 r2 r3 r4 r5 hh ht hu
  have e1 := summed x1 x3 x5 x7 x9 x11 r0 r1 r2 r3 r4 r5 hh ht
  unfold val_main_v191 val_main_v190 val_main_v189
  generalize val_main_v187 (F := Ideal) x1 x3 x5 x7 r0 r1 r2 r3 = y0 at *
  generalize val_main_v188 (F := Ideal) x1 x3 x5 x7 r0 r1 r2 r3 = y1 at *
  pointwise
  rw [e0, e1]

/-- The values' first factor. -/
theorem values : val_main_v17 (F := Ideal) x9 x11 r4 = fun i => Data.av (Data.of r0 x1 r1 x3 r2 x5 r3 x7 r4 x9 r5 x11) (i 1).val (i 3).val (i 2).val := by
  refine ext4 fun a b c d ha hb hc hd => ?_
  rw [rd4_eq ha hb hc hd, rd4_eq ha hb hc hd]
  have ha : a = 0 := by omega
  subst ha
  pointwise [val_main_cst, val_main_v9, val_main_v10, val_main_v11, val_main_v12, val_main_v13, val_main_v14, val_main_v15, val_main_v16, val_main_v17]
  simp only [fin3, fin4]
  rfl

theorem second0 {d : ℕ} (hd : d < 128) : val_main_v19 (F := Ideal) r5 (ix3 0 ⟨u, hu⟩ ⟨d, hd⟩) = Data.vb (Data.of r0 x1 r1 x3 r2 x5 r3 x7 r4 x9 r5 x11) u 0 d := by
  pointwise [val_main_v18, val_main_v19]
  exact fin4 r5 _ _ _ _
theorem second1 {d : ℕ} (hd : d < 128) : val_main_v21 (F := Ideal) r5 (ix3 0 ⟨u, hu⟩ ⟨d, hd⟩) = Data.vb (Data.of r0 x1 r1 x3 r2 x5 r3 x7 r4 x9 r5 x11) u 1 d := by
  pointwise [val_main_v20, val_main_v21]
  exact fin4 r5 _ _ _ _

theorem out_read {d : ℕ} (hd : d < 128) :
    val_main_v211 (F := Ideal) x1 x3 x5 x7 x9 x11 r0 r1 r2 r3 r4 r5 (ix4 0 ⟨h, hh⟩ ⟨t, ht⟩ ⟨d, hd⟩) = Data.out (Data.of r0 x1 r1 x3 r2 x5 r3 x7 r4 x9 r5 x11) t h d := by
  have e0 := fun u hu => probs x1 x3 x5 x7 x9 x11 r0 r1 r2 r3 r4 r5 hh ht (u := u) hu
  have e1 := values x1 x3 x5 x7 x9 x11 r0 r1 r2 r3 r4 r5
  unfold val_main_v211 val_main_v210 val_main_v209 val_main_v208 val_main_v203 val_main_v201 val_main_v200 val_main_v199
  unfold val_main_v198 val_main_v197 val_main_v196 val_main_v195 val_main_v207 val_main_v206 val_main_v205 val_main_v204
  generalize val_main_v191 (F := Ideal) x1 x3 x5 x7 r0 r1 r2 r3 = y0 at *
  have e2 := fun u hu => second0 x1 x3 x5 x7 x9 x11 r0 r1 r2 r3 r4 r5 (u := u) hu hd
  have e3 := fun u hu => second1 x1 x3 x5 x7 x9 x11 r0 r1 r2 r3 r4 r5 (u := u) hu hd
  generalize val_main_v19 (F := Ideal) r5 = y1 at *
  generalize val_main_v21 (F := Ideal) r5 = y2 at *
  rw [e1]
  pointwise [val_main_cst_8, val_main_v202]
  unfold Data.out
  congr 1
  · exact Finset.sum_congr rfl fun k _ => congrArg₂ (· * ·) (congrArg₂ (· * ·) (e0 k.val k.2) rfl) (e2 k.val k.2)
  · exact Finset.sum_congr rfl fun k _ => congrArg₂ (· * ·) (congrArg₂ (· * ·) (e0 k.val k.2) rfl) (e3 k.val k.2)

theorem final_read {j : ℕ} (hj : j < 4096) :
    val_main_v214 (F := Ideal) x1 x3 x5 x7 x9 x11 r0 r1 r2 r3 r4 r5 (ix3 0 ⟨t, ht⟩ ⟨j, hj⟩) = Data.out (Data.of r0 x1 r1 x3 r2 x5 r3 x7 r4 x9 r5 x11) t (j / 128) (j % 128) := by
  have e0 := out_read x1 x3 x5 x7 x9 x11 r0 r1 r2 r3 r4 r5 (h := j / 128) (by omega) ht (d := j % 128) (by omega)
  unfold val_main_v214 val_main_v213 val_main_v212
  generalize val_main_v211 (F := Ideal) x1 x3 x5 x7 x9 x11 r0 r1 r2 r3 r4 r5 = y0 at *
  pointwise
  rw [← e0]
  done

end Cert.Proof.Ref

end

end
-- ==== Proof.RegI.lean ====
/-
  What the reference's cast of the codes leaves: the codes.
-/
module

public import proofs.«01_k».proof.Proof.Gen.ReferenceIdeal.Run
public import Idealize.ShloMosaic.Lib.Pipeline.ValueKit

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- What the region finds in `main_v0`: argument 0, whose casts change no value over the extended reals. -/
theorem host0 : V m c main_v0 = m ((c.tc : Thread nD τ).loc main_arg0) := by
  show StableHlo.after (List.flatten [hostOps0]) _ (Proc.devRef .tc main_v0) = _
  simp only [hostOps0, List.flatten_cons, List.flatten_nil, List.append_nil, List.cons_append, List.nil_append]
  after_results
  rfl

/-- What the region finds in `main_v1`: argument 2, whose casts change no value over the extended reals. -/
theorem host1 : V m c main_v1 = m ((c.tc : Thread nD τ).loc main_arg2) := by
  show StableHlo.after (List.flatten [hostOps0]) _ (Proc.devRef .tc main_v1) = _
  simp only [hostOps0, List.flatten_cons, List.flatten_nil, List.append_nil, List.cons_append, List.nil_append]
  after_results
  rfl

/-- What the region finds in `main_v2`: argument 4, whose casts change no value over the extended reals. -/
theorem host2 : V m c main_v2 = m ((c.tc : Thread nD τ).loc main_arg4) := by
  show StableHlo.after (List.flatten [hostOps0]) _ (Proc.devRef .tc main_v2) = _
  simp only [hostOps0, List.flatten_cons, List.flatten_nil, List.append_nil, List.cons_append, List.nil_append]
  after_results
  rfl

/-- What the region finds in `main_v3`: argument 6, whose casts change no value over the extended reals. -/
theorem host3 : V m c main_v3 = m ((c.tc : Thread nD τ).loc main_arg6) := by
  show StableHlo.after (List.flatten [hostOps0]) _ (Proc.devRef .tc main_v3) = _
  simp only [hostOps0, List.flatten_cons, List.flatten_nil, List.append_nil, List.cons_append, List.nil_append]
  after_results
  rfl

/-- Output 0 of the reference's region is argument 0. -/
theorem reg0 : reg_main_v4_0 m c = m ((c.tc : Thread nD τ).loc main_arg0) := by
  unfold reg_main_v4_0
  refine (dats m 0 c).arrAt_eq_of_covers 6 _ (by decide +kernel) fun t hf y => ?_
  blk_simp
  rw [after0_6]
  unfold out0_6
  frame_out
  unfold k0_pay2
  rw [shapeCast_self]
  show iblk m c 0 t y = _
  unfold iblk
  rw [View.read_apply]
  show V m c main_v0 _ = _
  rw [host0]
  rfl

/-- Output 1 of the reference's region is argument 2. -/
theorem reg1 : reg_main_v4_1 m c = m ((c.tc : Thread nD τ).loc main_arg2) := by
  unfold reg_main_v4_1
  refine (dats m 0 c).arrAt_eq_of_covers 7 _ (by decide +kernel) fun t hf y => ?_
  blk_simp
  rw [after0_7]
  unfold out0_7
  frame_out
  unfold k0_pay3
  rw [shapeCast_self]
  show iblk m c 1 t y = _
  unfold iblk
  rw [View.read_apply]
  show V m c main_v1 _ = _
  rw [host1]
  rfl

/-- Output 2 of the reference's region is argument 4. -/
theorem reg2 : reg_main_v4_2 m c = m ((c.tc : Thread nD τ).loc main_arg4) := by
  unfold reg_main_v4_2
  refine (dats m 0 c).arrAt_eq_of_covers 8 _ (by decide +kernel) fun t hf y => ?_
  blk_simp
  rw [after0_8]
  unfold out0_8
  frame_out
  unfold k0_pay4
  rw [shapeCast_self]
  show iblk m c 2 t y = _
  unfold iblk
  rw [View.read_apply]
  show V m c main_v2 _ = _
  rw [host2]
  rfl

/-- Output 3 of the reference's region is argument 6. -/
theorem reg3 : reg_main_v4_3 m c = m ((c.tc : Thread nD τ).loc main_arg6) := by
  unfold reg_main_v4_3
  refine (dats m 0 c).arrAt_eq_of_covers 9 _ (by decide +kernel) fun t hf y => ?_
  blk_simp
  rw [after0_9]
  unfold out0_9
  frame_out
  unfold k0_pay5
  rw [shapeCast_self]
  show iblk m c 3 t y = _
  unfold iblk
  rw [View.read_apply]
  show V m c main_v3 _ = _
  rw [host3]
  rfl

/-- Output 4 of the reference's region is argument 8. -/
theorem reg4 : reg_main_v4_4 m c = m ((c.tc : Thread nD τ).loc main_arg8) := by
  unfold reg_main_v4_4
  refine (dats m 0 c).arrAt_eq_of_covers 10 _ (by decide +kernel) fun t hf y => ?_
  blk_simp
  rw [after0_10]
  unfold out0_10
  frame_out
  unfold k0_pay6

  show iblk m c 4 t y = _
  unfold iblk
  rw [View.read_apply]
  show V m c main_arg8 _ = _
  rw [V_main_arg8]
  rfl

/-- Output 5 of the reference's region is argument 10. -/
theorem reg5 : reg_main_v4_5 m c = m ((c.tc : Thread nD τ).loc main_arg10) := by
  unfold reg_main_v4_5
  refine (dats m 0 c).arrAt_eq_of_covers 11 _ (by decide +kernel) fun t hf y => ?_
  blk_simp
  rw [after0_11]
  unfold out0_11
  frame_out
  unfold k0_pay1

  show iblk m c 5 t y = _
  unfold iblk
  rw [View.read_apply]
  show V m c main_arg10 _ = _
  rw [V_main_arg10]
  rfl

end Cert.Proof.Ref

end

end
-- ==== Proof.RefRun.lean ====
/-
  The run of the reference: its two results are the outputs and the log-sum-exps of the attention over the arguments, and the
  arguments keep their contents.
-/
module

public import proofs.«01_k».proof.Proof.RefI
public import proofs.«01_k».proof.Proof.RegI
public import proofs.«01_k».proof.Proof.Gen.ReferenceIdeal.Run

@[expose] public section

set_option maxRecDepth 16384

noncomputable section

namespace Cert.Proof.Ref

open Cert.ReferenceIdeal Cert.ReferenceIdeal.Gen Cert.Proof.Rd
open Idealize.ShloMosaic Idealize.ShloMosaic.TcCoe Idealize.ShloMosaic.Tactic

variable (m : (ℓ : Loc nD τ sig) → Buf (Elt Ideal) ℓ) (ρ : Dev nD → PrngReg)

/-- The arguments as functions of numbers. -/
def argD (c : Dev nD) : Data := Data.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The first result: token, then head and feature. -/
def outT (D : Data) : S1x1536x4096.Idx → EReal := fun j => D.out (j 1).val ((j 2).val / 128) ((j 2).val % 128)
/-- The second result: head, then token. -/
def lseT (D : Data) : S1x32x1536.Idx → EReal := fun j => D.lse (j 2).val (j 1).val

theorem val_out (c : Dev nD) : Read.val_main_v214 (F := Ideal) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg10)) = outT (argD m c) := by
  funext j
  obtain ⟨i, t, k, rfl⟩ : ∃ i t k, j = ix3 i t k := ⟨_, _, _, eq_ix3 j⟩
  rw [Subsingleton.elim i 0]
  exact final_read _ _ _ _ _ _ _ _ _ _ _ _ t.2 k.2

theorem val_lse (c : Dev nD) : Read.val_main_v194 (F := Ideal) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg0)) (m ((c.tc : Thread nD τ).loc main_arg2)) (m ((c.tc : Thread nD τ).loc main_arg4)) (m ((c.tc : Thread nD τ).loc main_arg6)) = lseT (argD m c) := by
  funext j
  obtain ⟨i, h, t, rfl⟩ : ∃ i h t, j = ix3 i h t := ⟨_, _, _, eq_ix3 j⟩
  rw [Subsingleton.elim i 0]
  exact lse_read _ _ _ _ (m ((c.tc : Thread nD τ).loc main_arg9)) (m ((c.tc : Thread nD τ).loc main_arg11)) _ _ _ _ (m ((c.tc : Thread nD τ).loc main_arg8)) (m ((c.tc : Thread nD τ).loc main_arg10)) h.2 t.2

theorem exit_out (c : Dev nD) : Read.val_main_v214 (F := Ideal) (Value.exitV m c (Proc.devRef .tc main_arg1)) (Value.exitV m c (Proc.devRef .tc main_arg3)) (Value.exitV m c (Proc.devRef .tc main_arg5)) (Value.exitV m c (Proc.devRef .tc main_arg7)) (Value.exitV m c (Proc.devRef .tc main_arg9)) (Value.exitV m c (Proc.devRef .tc main_arg11)) (Value.exitV m c (Proc.devRef .tc main_v4_0)) (Value.exitV m c (Proc.devRef .tc main_v4_1)) (Value.exitV m c (Proc.devRef .tc main_v4_2)) (Value.exitV m c (Proc.devRef .tc main_v4_3)) (Value.exitV m c (Proc.devRef .tc main_v4_4)) (Value.exitV m c (Proc.devRef .tc main_v4_5)) = outT (argD m c) := by
  rw [Value.exit_main_arg1, Value.exit_main_arg3, Value.exit_main_arg5, Value.exit_main_arg7, Value.exit_main_arg9, Value.exit_main_arg11,
    Value.exit_main_v4_0, Value.exit_main_v4_1, Value.exit_main_v4_2, Value.exit_main_v4_3, Value.exit_main_v4_4, Value.exit_main_v4_5,
    reg0, reg1, reg2, reg3, reg4, reg5]
  exact val_out m c

theorem exit_lse (c : Dev nD) : Read.val_main_v194 (F := Ideal) (Value.exitV m c (Proc.devRef .tc main_arg1)) (Value.exitV m c (Proc.devRef .tc main_arg3)) (Value.exitV m c (Proc.devRef .tc main_arg5)) (Value.exitV m c (Proc.devRef .tc main_arg7)) (Value.exitV m c (Proc.devRef .tc main_v4_0)) (Value.exitV m c (Proc.devRef .tc main_v4_1)) (Value.exitV m c (Proc.devRef .tc main_v4_2)) (Value.exitV m c (Proc.devRef .tc main_v4_3)) = lseT (argD m c) := by
  rw [Value.exit_main_arg1, Value.exit_main_arg3, Value.exit_main_arg5, Value.exit_main_arg7,
    Value.exit_main_v4_0, Value.exit_main_v4_1, Value.exit_main_v4_2, Value.exit_main_v4_3,
    reg0, reg1, reg2, reg3]
  exact val_lse m c

/-- The reference runs to those results, its arguments unchanged. -/
theorem run_ref : θ_run defs (onTc (τ := τ) (main (F := Ideal))) ⟨m, fun _ => 0, ρ⟩ fun r => ∀ c : Dev nD,
    r.2.mem ((c.tc : Thread nD τ).loc main_v214) = outT (argD m c)
    ∧ r.2.mem ((c.tc : Thread nD τ).loc main_v194) = lseT (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine (θ_run defs _ _).mono (fun r h c => ?_) (Value.run m ρ)
  obtain ⟨h0, h1, h2⟩ := h c
  exact ⟨h0.trans ((Read.val_main_v214_eq _).trans (exit_out m c)), h1.trans ((Read.val_main_v194_eq _).trans (exit_lse m c)), h2⟩

end Cert.Proof.Ref
end
end
-- ==== Proof.Finite.lean ====
/-
  The precondition read: where it holds, every entry of the query and key arguments is a real number.
-/
module

public import Idealize.ShloMosaic.Lib.ReduceAll
public import proofs.«01_k».proof.Pre_finite
public import proofs.«01_k».proof.Proof.Data

@[expose] public section

noncomputable section

namespace Cert.Proof.Fin

open Idealize.ShloMosaic Cert.Pre_finite Cert.Proof.Rd

theorem and_one {a b : BitVec 1} : a &&& b = 1#1 ↔ a = 1#1 ∧ b = 1#1 := by
  revert a b; decide

/-- Where all the comparisons of an argument hold, its entries are real. -/
theorem real_of_all {s : Shape} {axes : List (Fin s.rank)} (x : s.Idx → EReal) (hb : S_.BroadcastsInDim s ![]) (hr : s.ReducesTo axes S_) (hu : 0 < S_.numel)
    {j : S_.Idx} (e : Host.reduce IntOp.andi (cmpf (F := Ideal) (φ := .f32) .olt (Host.absf (F := Ideal) (φ := .f32) x)
      (broadcastInDim s ![] hb (constant (F := Ideal) S_ .f32 0x7F800000#32))) (constantI S_ 1 1#1) hr hu j = 1#1)
    (i : s.Idx) : ∃ r : ℝ, x i = r := by
  haveI : Subsingleton S_.Idx := ⟨fun a b => funext fun k => k.elim0⟩
  have h := Host.reduce_andi_all _ _ _ _ j e i
  simp only [cmpf, Host.absf, broadcastInDim, constant] at h
  change Ideal.cmp .olt (max (x i) (-x i)) (Ideal.ofBits .f32 0x7F800000#32) = 1#1 at h
  rw [show Ideal.ofBits .f32 0x7F800000#32 = ⊤ from by simp [Ideal.ofBits, Ideal.ieee]] at h
  have hlt : max (x i) (-x i) < ⊤ := by
    by_contra hn
    simp [Ideal.cmp, hn] at h
  generalize x i = y at hlt
  induction y using EReal.rec with
  | bot => simp at hlt
  | top => simp at hlt
  | coe r => exact ⟨r, rfl⟩

theorem real3 {A B C : ℕ} {x : (⟨3, ![A, B, C]⟩ : Shape).Idx → EReal} (h : ∀ i, ∃ r : ℝ, x i = r) (i j k : ℕ) : ∃ r : ℝ, rd3 x i j k = r := by
  unfold rd3; split
  · exact h _
  · exact ⟨0, rfl⟩
theorem real4 {A B C D : ℕ} {x : (⟨4, ![A, B, C, D]⟩ : Shape).Idx → EReal} (h : ∀ i, ∃ r : ℝ, x i = r) (i j k l : ℕ) :
    ∃ r : ℝ, rd4 x i j k l = r := by
  unfold rd4; split
  · exact h _
  · exact ⟨0, rfl⟩

/-- Under the precondition the codes and scales of queries and keys are real numbers. -/
theorem real_of_pre [Facts] (a0 : S1x1536x6x32.Idx → EReal)
    (a1 : S1x1536x6.Idx → EReal)
    (a2 : S1x1536x6x128.Idx → EReal)
    (a3 : S1x1536x6.Idx → EReal)
    (a4 : S1x1536x2x32.Idx → EReal)
    (a5 : S1x1536x2.Idx → EReal)
    (a6 : S1x1536x2x128.Idx → EReal)
    (a7 : S1x1536x2.Idx → EReal)
    (a8 : S1x1536x2x32.Idx → EReal)
    (a9 : S1x1536x2.Idx → EReal)
    (a10 : S1x1536x2x128.Idx → EReal)
    (a11 : S1x1536x2.Idx → EReal)
    (h : fn (F := Ideal) a0 a1 a2 a3 a4 a5 a6 a7 a8 a9 a10 a11 = fun _ => 1#1) : (Data.of a0 a1 a2 a3 a4 a5 a6 a7 a8 a9 a10 a11).Real := by
  have h0 := congrFun h (fun k => k.elim0)
  unfold fn fn_part1 fn_part2 at h0
  simp only [andi, IntOp.andi] at h0
  simp only [and_one] at h0
  obtain ⟨⟨⟨⟨⟨⟨⟨h0, h1⟩, h2⟩, h3⟩, h4⟩, h5⟩, h6⟩, h7⟩ := h0
  exact {
    qa := fun u r d => real4 (real_of_all a0 _ _ _ h0) 0 u r d
    qas := fun u r => real3 (real_of_all a1 _ _ _ h1) 0 u r
    qb := fun u r d => real4 (real_of_all a2 _ _ _ h2) 0 u r d
    qbs := fun u r => real3 (real_of_all a3 _ _ _ h3) 0 u r
    ka := fun u r d => real4 (real_of_all a4 _ _ _ h4) 0 u r d
    kas := fun u r => real3 (real_of_all a5 _ _ _ h5) 0 u r
    kb := fun u r d => real4 (real_of_all a6 _ _ _ h6) 0 u r d
    kbs := fun u r => real3 (real_of_all a7 _ _ _ h7) 0 u r }

end Cert.Proof.Fin
end
end
-- ==== Proof.lean ====
module

public import proofs.«01_k».proof.Defs
public import proofs.«01_k».proof.Proof.FrameB
public import proofs.«01_k».proof.Proof.Gen.ReferenceIdeal.Run
public import proofs.«01_k».proof.Proof.Gen.ReferenceIdeal.Read
public import proofs.«01_k».proof.Proof.FrameI
public import proofs.«01_k».proof.Proof.Gen.ReferenceIdeal.Frame
public import proofs.«01_k».proof.Proof.KRun
public import proofs.«01_k».proof.Proof.RefRun
public import proofs.«01_k».proof.Proof.Finite
public import proofs.«01_k».proof.Proof.Gen.Pre_finite

@[expose] public section

noncomputable section

namespace Cert.Proof

open Idealize.ShloMosaic Idealize.ShloMosaic.TcCoe

/-- The constants that the ideal kernel names have the values claimed, and a bf16 word with sixteen zero bits under it is
    the bf16 number as f32. -/
theorem preserves : Cert.preserves_Kernel_KernelIdeal :=
  ⟨IdealRules.named_const.statement _ _ .f32 _ _ rfl, IdealRules.bf16_pack.statement _,
    IdealRules.named_const.statement _ _ .f32 _ _ rfl, IdealRules.named_const.statement _ _ .f32 _ _ rfl⟩

/-- Memories that agree on the arguments give the same functions of numbers. -/
theorem argD_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)) : Ref.argD m' c = KernelIdeal.argD m c := by
  unfold Ref.argD KernelIdeal.argD
  rw [h0, h1, h2, h3, h4, h5, h6, h7, h8, h9, h10, h11]

/-- Where the query and key arguments are finite, the ideal kernel and the reference end with the same two results: the
    outputs and the log-sum-exps of the attention over the arguments. -/
theorem algebraic [Cert.Pre_finite.Facts] : Cert.algebraic_KernelIdeal_ReferenceIdeal_pre_finite (hKernelIdeal := Cert.KernelIdeal.Gen.facts)
    (hReferenceIdeal := Cert.ReferenceIdeal.Gen.facts) := fun m g m' g' hpre hag => by
  have hD : ∀ c, (KernelIdeal.argD m c).Real := fun c => Fin.real_of_pre _ _ _ _ _ _ _ _ _ _ _ _ (hpre c)
  have e : ∀ c, Ref.argD m' c = KernelIdeal.argD m c := fun c => by
    obtain ⟨h0, h1, h2, h3, h4, h5, h6, h7, h8, h9, h10, h11⟩ := hag c
    exact argD_eq m m' c h0 h1 h2 h3 h4 h5 h6 h7 h8 h9 h10 h11
  refine ⟨fun c => KernelIdeal.outT (KernelIdeal.argD m c), fun c => KernelIdeal.lseT (KernelIdeal.argD m c),
    KernelIdeal.run_kernel m g hD, ?_⟩
  refine (θ_run _ _ _).mono (fun r h c => ?_) (Ref.run_ref m' g')
  obtain ⟨k0, k1, k2⟩ := h c
  exact ⟨k0.trans (by rw [e c]; rfl), k1.trans (by rw [e c]; rfl), k2⟩

/-- The kernel, the ideal kernel and the reference run and leave their arguments as they were; the ideal kernel is the kernel
    over the extended reals; and it computes the reference's two results. -/
theorem claim : Cert.Claim :=
  ⟨Cert.Kernel.Gen.facts, Cert.KernelIdeal.Gen.facts, Cert.ReferenceIdeal.Gen.facts, Cert.Pre_finite.Gen.facts,
    fun m ρ _ => Cert.Proof.Kernel.frame_thm m ρ, fun m ρ _ => Cert.Proof.KernelIdeal.frame_thm m ρ,
    fun m ρ _ => Cert.Proof.KernelIdeal.frame_thm m ρ, fun m ρ _ => Cert.ReferenceIdeal.Gen.frame m ρ,
    fun m ρ _ => Cert.ReferenceIdeal.Gen.frame m ρ, preserves, algebraic⟩

end Cert.Proof

end
